-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_bounded [hPre_bounded : Cert.Pre_bounded.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_bounded.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17)) (m ((c.tc : Thread Cert.Kernel5Ideal.nD Cert.Kernel5Ideal.τ).loc Cert.Kernel5Ideal.main_arg18)) (m ((c.tc : Thread Cert.Kernel5Ideal.nD Cert.Kernel5Ideal.τ).loc Cert.Kernel5Ideal.main_arg19)) (m ((c.tc : Thread Cert.Kernel5Ideal.nD Cert.Kernel5Ideal.τ).loc Cert.Kernel5Ideal.main_arg20))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_bounded [hPre_bounded : Cert.Pre_bounded.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_bounded.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17)) (m ((c.tc : Thread Cert.Reference5Ideal.nD Cert.Reference5Ideal.τ).loc Cert.Reference5Ideal.main_arg18)) (m ((c.tc : Thread Cert.Reference5Ideal.nD Cert.Reference5Ideal.τ).loc Cert.Reference5Ideal.main_arg19)) (m ((c.tc : Thread Cert.Reference5Ideal.nD Cert.Reference5Ideal.τ).loc Cert.Reference5Ideal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16)
      ∧ r.2.mem ((c.tc : Thread Cert.Kernel5.nD Cert.Kernel5.τ).loc Cert.Kernel5.main_arg17) = m ((c.tc : Thread Cert.Kernel5.nD Cert.Kernel5.τ).loc Cert.Kernel5.main_arg17)
      ∧ r.2.mem ((c.tc : Thread Cert.Kernel5.nD Cert.Kernel5.τ).loc Cert.Kernel5.main_arg18) = m ((c.tc : Thread Cert.Kernel5.nD Cert.Kernel5.τ).loc Cert.Kernel5.main_arg18)
      ∧ r.2.mem ((c.tc : Thread Cert.Kernel5.nD Cert.Kernel5.τ).loc Cert.Kernel5.main_arg19) = m ((c.tc : Thread Cert.Kernel5.nD Cert.Kernel5.τ).loc Cert.Kernel5.main_arg19)
      ∧ r.2.mem ((c.tc : Thread Cert.Kernel5.nD Cert.Kernel5.τ).loc Cert.Kernel5.main_arg20) = m ((c.tc : Thread Cert.Kernel5.nD Cert.Kernel5.τ).loc Cert.Kernel5.main_arg20))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
      ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
      ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
      ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20))
      ∧ r.2.sem = fun _ => 0)

def quiescent_Kernel5Ideal_pre_bounded [hKernel5Ideal : Cert.Kernel5Ideal.Facts] [hPre_bounded : Cert.Pre_bounded.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_bounded m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
      ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
      ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
      ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17)
      ∧ r.2.mem ((c.tc : Thread Cert.Reference5Ideal.nD Cert.Reference5Ideal.τ).loc Cert.Reference5Ideal.main_arg18) = m ((c.tc : Thread Cert.Reference5Ideal.nD Cert.Reference5Ideal.τ).loc Cert.Reference5Ideal.main_arg18)
      ∧ r.2.mem ((c.tc : Thread Cert.Reference5Ideal.nD Cert.Reference5Ideal.τ).loc Cert.Reference5Ideal.main_arg19) = m ((c.tc : Thread Cert.Reference5Ideal.nD Cert.Reference5Ideal.τ).loc Cert.Reference5Ideal.main_arg19)
      ∧ r.2.mem ((c.tc : Thread Cert.Reference5Ideal.nD Cert.Reference5Ideal.τ).loc Cert.Reference5Ideal.main_arg20) = m ((c.tc : Thread Cert.Reference5Ideal.nD Cert.Reference5Ideal.τ).loc Cert.Reference5Ideal.main_arg20))
      ∧ r.2.sem = fun _ => 0)

def quiescent_Reference5Ideal_pre_bounded [hReference5Ideal : Cert.Reference5Ideal.Facts] [hPre_bounded : Cert.Pre_bounded.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_bounded m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17)
      ∧ r.2.mem ((c.tc : Thread Cert.Reference5Ideal.nD Cert.Reference5Ideal.τ).loc Cert.Reference5Ideal.main_arg18) = m ((c.tc : Thread Cert.Reference5Ideal.nD Cert.Reference5Ideal.τ).loc Cert.Reference5Ideal.main_arg18)
      ∧ r.2.mem ((c.tc : Thread Cert.Reference5Ideal.nD Cert.Reference5Ideal.τ).loc Cert.Reference5Ideal.main_arg19) = m ((c.tc : Thread Cert.Reference5Ideal.nD Cert.Reference5Ideal.τ).loc Cert.Reference5Ideal.main_arg19)
      ∧ r.2.mem ((c.tc : Thread Cert.Reference5Ideal.nD Cert.Reference5Ideal.τ).loc Cert.Reference5Ideal.main_arg20) = m ((c.tc : Thread Cert.Reference5Ideal.nD Cert.Reference5Ideal.τ).loc Cert.Reference5Ideal.main_arg20))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v43) = v1 c
          ∧ r.2.mem ((c.tc : Thread Cert.Reference3Ideal.nD Cert.Reference3Ideal.τ).loc Cert.Reference3Ideal.main_v54) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_bounded [hKernel5Ideal : Cert.Kernel5Ideal.Facts] [hReference5Ideal : Cert.Reference5Ideal.Facts] [hPre_bounded : Cert.Pre_bounded.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_bounded m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)
      ∧ m' ((c.tc : Thread Cert.Reference5Ideal.nD Cert.Reference5Ideal.τ).loc Cert.Reference5Ideal.main_arg17) = m ((c.tc : Thread Cert.Kernel5Ideal.nD Cert.Kernel5Ideal.τ).loc Cert.Kernel5Ideal.main_arg17)
      ∧ m' ((c.tc : Thread Cert.Reference5Ideal.nD Cert.Reference5Ideal.τ).loc Cert.Reference5Ideal.main_arg18) = m ((c.tc : Thread Cert.Kernel5Ideal.nD Cert.Kernel5Ideal.τ).loc Cert.Kernel5Ideal.main_arg18)
      ∧ m' ((c.tc : Thread Cert.Reference5Ideal.nD Cert.Reference5Ideal.τ).loc Cert.Reference5Ideal.main_arg19) = m ((c.tc : Thread Cert.Kernel5Ideal.nD Cert.Kernel5Ideal.τ).loc Cert.Kernel5Ideal.main_arg19)
      ∧ m' ((c.tc : Thread Cert.Reference5Ideal.nD Cert.Reference5Ideal.τ).loc Cert.Reference5Ideal.main_arg20) = m ((c.tc : Thread Cert.Kernel5Ideal.nD Cert.Kernel5Ideal.τ).loc Cert.Kernel5Ideal.main_arg20)) →
    ∃ (v0 : (c : Dev Cert.Kernel5Ideal.nD) → Buf (Elt Ideal) ((c.tc : Thread Cert.Kernel5Ideal.nD Cert.Kernel5Ideal.τ).loc Cert.Kernel5Ideal.main_v33)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v33) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
          ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
          ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
          ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
          ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v89) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16)
          ∧ r.2.mem ((c.tc : Thread Cert.Reference5Ideal.nD Cert.Reference5Ideal.τ).loc Cert.Reference5Ideal.main_arg17) = m' ((c.tc : Thread Cert.Reference5Ideal.nD Cert.Reference5Ideal.τ).loc Cert.Reference5Ideal.main_arg17)
          ∧ r.2.mem ((c.tc : Thread Cert.Reference5Ideal.nD Cert.Reference5Ideal.τ).loc Cert.Reference5Ideal.main_arg18) = m' ((c.tc : Thread Cert.Reference5Ideal.nD Cert.Reference5Ideal.τ).loc Cert.Reference5Ideal.main_arg18)
          ∧ r.2.mem ((c.tc : Thread Cert.Reference5Ideal.nD Cert.Reference5Ideal.τ).loc Cert.Reference5Ideal.main_arg19) = m' ((c.tc : Thread Cert.Reference5Ideal.nD Cert.Reference5Ideal.τ).loc Cert.Reference5Ideal.main_arg19)
          ∧ r.2.mem ((c.tc : Thread Cert.Reference5Ideal.nD Cert.Reference5Ideal.τ).loc Cert.Reference5Ideal.main_arg20) = m' ((c.tc : Thread Cert.Reference5Ideal.nD Cert.Reference5Ideal.τ).loc Cert.Reference5Ideal.main_arg20))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_bounded : Cert.Pre_bounded.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_bounded (hKernel5Ideal := hKernel5Ideal) (hPre_bounded := hPre_bounded)
    ∧ quiescent_Reference5Ideal (hReference5Ideal := hReference5Ideal)
    ∧ quiescent_Reference5Ideal_pre_bounded (hReference5Ideal := hReference5Ideal) (hPre_bounded := hPre_bounded)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_bounded (hKernel5Ideal := hKernel5Ideal) (hReference5Ideal := hReference5Ideal) (hPre_bounded := hPre_bounded)
-- ==== Pre_bounded.lean ====
abbrev S16x256x1024 : Shape := ⟨3, ![16, 256, 1024]⟩
abbrev S16x4096x1024 : Shape := ⟨3, ![16, 4096, 1024]⟩
abbrev S16x4352x512 : Shape := ⟨3, ![16, 4352, 512]⟩
abbrev S16x4352x4352 : Shape := ⟨3, ![16, 4352, 4352]⟩
abbrev S16x4352x3072 : Shape := ⟨3, ![16, 4352, 3072]⟩
abbrev S1x6144 : Shape := ⟨2, ![1, 6144]⟩
abbrev S16x6144 : Shape := ⟨2, ![16, 6144]⟩
abbrev S512 : Shape := ⟨1, ![512]⟩
abbrev S128 : Shape := ⟨1, ![128]⟩
abbrev S512x1024 : Shape := ⟨2, ![512, 1024]⟩
abbrev S1024x1024 : Shape := ⟨2, ![1024, 1024]⟩
abbrev S_ : Shape := ⟨0, ![]⟩

class Facts : Prop where
  bcast_S_S16x4352x512 : S_.BroadcastsInDim S16x4352x512 (![] : Fin 0 → Fin S16x4352x512.rank)
  reducesTo_S16x4352x512_S_d0_1_2 : S16x4352x512.ReducesTo [0, 1, 2] S_
  h_S_ : 0 < S_.numel

variable [Facts]

def fn {F : FTy → Type} [FloatOps F] (main_arg0 : FVec F S16x256x1024 .f32) (main_arg1 : FVec F S16x4096x1024 .f32) (main_arg2 : FVec F S16x4352x512 .f32) (main_arg3 : FVec F S16x4352x512 .f32) (main_arg4 : FVec F S16x4352x512 .f32) (main_arg5 : FVec F S16x4352x512 .f32) (main_arg6 : FVec F S16x4352x512 .f32) (main_arg7 : FVec F S16x4352x512 .f32) (main_arg8 : FVec F S16x4352x512 .f32) (main_arg9 : FVec F S16x4352x4352 .f32) (main_arg10 : FVec F S16x4352x512 .bf16) (main_arg11 : FVec F S16x4352x3072 .bf16) (main_arg12 : FVec F S1x6144 .f32) (main_arg13 : FVec F S16x6144 .f32) (main_arg14 : FVec F S512 .f32) (main_arg15 : FVec F S512 .f32) (main_arg16 : FVec F S128 .f32) (main_arg17 : FVec F S512x1024 .f32) (main_arg18 : FVec F S512x1024 .f32) (main_arg19 : FVec F S512x1024 .f32) (main_arg20 : FVec F S1024x1024 .f32) : IVec S_ 1 :=
  let main_v0 : FVec F S16x4352x512 .f32 := addf main_arg2 main_arg3
  let main_v1 : FVec F S16x4352x512 .f32 := addf main_v0 main_arg4
  let main_v2 : FVec F S16x4352x512 .f32 := Host.absf main_v1
  let main_cst : FVec F S_ .f32 := constant S_ .f32 0x7F800000#32
  let main_v3 : FVec F S16x4352x512 .f32 := broadcastInDim S16x4352x512 ![] bcast_S_S16x4352x512 main_cst
  let main_v4 : IVec S16x4352x512 1 := cmpf .olt main_v2 main_v3
  let main_c : IVec S_ 1 := constantI S_ 1 1#1
  let main_v5 : IVec S_ 1 := (fun x v => Host.reduce IntOp.andi x v reducesTo_S16x4352x512_S_d0_1_2 h_S_) main_v4 main_c
  let main_v6 : FVec F S16x4352x512 .f32 := addf main_arg7 main_arg8
  let main_v7 : FVec F S16x4352x512 .f32 := Host.absf main_v6
  let main_cst_0 : FVec F S_ .f32 := constant S_ .f32 0x7F800000#32
  let main_v8 : FVec F S16x4352x512 .f32 := broadcastInDim S16x4352x512 ![] bcast_S_S16x4352x512 main_cst_0
  let main_v9 : IVec S16x4352x512 1 := cmpf .olt main_v7 main_v8
  let main_c_1 : IVec S_ 1 := constantI S_ 1 1#1
  let main_v10 : IVec S_ 1 := (fun x v => Host.reduce IntOp.andi x v reducesTo_S16x4352x512_S_d0_1_2 h_S_) main_v9 main_c_1
  let main_v11 : IVec S_ 1 := andi main_v5 main_v10
  main_v11
-- ==== Pre_finite.lean ====
abbrev S16x8x4352x64 : Shape := ⟨4, ![16, 8, 4352, 64]⟩
abbrev S16x2x4352x64 : Shape := ⟨4, ![16, 2, 4352, 64]⟩
abbrev S_ : Shape := ⟨0, ![]⟩

class Facts : Prop where
  bcast_S_S16x8x4352x64 : S_.BroadcastsInDim S16x8x4352x64 (![] : Fin 0 → Fin S16x8x4352x64.rank)
  reducesTo_S16x8x4352x64_S_d0_1_2_3 : S16x8x4352x64.ReducesTo [0, 1, 2, 3] S_
  h_S_ : 0 < S_.numel
  bcast_S_S16x2x4352x64 : S_.BroadcastsInDim S16x2x4352x64 (![] : Fin 0 → Fin S16x2x4352x64.rank)
  reducesTo_S16x2x4352x64_S_d0_1_2_3 : S16x2x4352x64.ReducesTo [0, 1, 2, 3] S_

variable [Facts]

def fn {F : FTy → Type} [FloatOps F] (main_arg0 : FVec F S16x8x4352x64 .f32) (main_arg1 : FVec F S16x2x4352x64 .f32) (main_arg2 : FVec F S16x2x4352x64 .f32) : IVec S_ 1 :=
  let main_v0 : FVec F S16x8x4352x64 .f32 := Host.absf main_arg0
  let main_cst : FVec F S_ .f32 := constant S_ .f32 0x7F800000#32
  let main_v1 : FVec F S16x8x4352x64 .f32 := broadcastInDim S16x8x4352x64 ![] bcast_S_S16x8x4352x64 main_cst
  let main_v2 : IVec S16x8x4352x64 1 := cmpf .olt main_v0 main_v1
  let main_c : IVec S_ 1 := constantI S_ 1 1#1
  let main_v3 : IVec S_ 1 := (fun x v => Host.reduce IntOp.andi x v reducesTo_S16x8x4352x64_S_d0_1_2_3 h_S_) main_v2 main_c
  let main_v4 : FVec F S16x2x4352x64 .f32 := Host.absf main_arg1
  let main_cst_0 : FVec F S_ .f32 := constant S_ .f32 0x7F800000#32
  let main_v5 : FVec F S16x2x4352x64 .f32 := broadcastInDim S16x2x4352x64 ![] bcast_S_S16x2x4352x64 main_cst_0
  let main_v6 : IVec S16x2x4352x64 1 := cmpf .olt main_v4 main_v5
  let main_c_1 : IVec S_ 1 := constantI S_ 1 1#1
  let main_v7 : IVec S_ 1 := (fun x v => Host.reduce IntOp.andi x v reducesTo_S16x2x4352x64_S_d0_1_2_3 h_S_) main_v6 main_c_1
  let main_v8 : IVec S_ 1 := andi main_v3 main_v7
  main_v8
-- ==== Kernel.lean ====
abbrev S16x8x4352x64 : Shape := ⟨4, ![16, 8, 4352, 64]⟩
abbrev S16x2x4352x64 : Shape := ⟨4, ![16, 2, 4352, 64]⟩
abbrev S_ : Shape := ⟨0, ![]⟩
abbrev S16x2x64x4352 : Shape := ⟨4, ![16, 2, 64, 4352]⟩
abbrev S16x2x4352x128 : Shape := ⟨4, ![16, 2, 4352, 128]⟩
abbrev S16x4352x512 : Shape := ⟨3, ![16, 4352, 512]⟩
abbrev S1x4x128x64 : Shape := ⟨4, ![1, 4, 128, 64]⟩
abbrev S1x1x64x4352 : Shape := ⟨4, ![1, 1, 64, 4352]⟩
abbrev S1x1x4352x128 : Shape := ⟨4, ![1, 1, 4352, 128]⟩
abbrev S1x128x256 : Shape := ⟨3, ![1, 128, 256]⟩
abbrev S128x4352 : Shape := ⟨2, ![128, 4352]⟩
abbrev S512x4352 : Shape := ⟨2, ![512, 4352]⟩
abbrev S1x1x128x64 : Shape := ⟨4, ![1, 1, 128, 64]⟩
abbrev S128x64 : Shape := ⟨2, ![128, 64]⟩
abbrev S1x1x64x256 : Shape := ⟨4, ![1, 1, 64, 256]⟩
abbrev S64x256 : Shape := ⟨2, ![64, 256]⟩
abbrev S128x256 : Shape := ⟨2, ![128, 256]⟩
abbrev S128x128 : Shape := ⟨2, ![128, 128]⟩
abbrev S128 : Shape := ⟨1, ![128]⟩
abbrev S128x1 : Shape := ⟨2, ![128, 1]⟩
abbrev S512x256 : Shape := ⟨2, ![512, 256]⟩
abbrev S1x1x256x128 : Shape := ⟨4, ![1, 1, 256, 128]⟩
abbrev S256x128 : Shape := ⟨2, ![256, 128]⟩
abbrev S512x128 : Shape := ⟨2, ![512, 128]⟩
abbrev S512x64 : Shape := ⟨2, ![512, 64]⟩
abbrev S1x128x64 : Shape := ⟨3, ![1, 128, 64]⟩
abbrev S4352x128 : Shape := ⟨2, ![4352, 128]⟩

abbrev nBuf : Space → Nat
  | .hbm => 14
  | .vmem => 10
  | .smem => 0
  | _ => 0

abbrev bufTy : (tb : Table) → Fin (tcTables nBuf tb) → BufTy
  | .hbm, ⟨0, _⟩ => ⟨S16x8x4352x64, .f32⟩
  | .hbm, ⟨1, _⟩ => ⟨S16x2x4352x64, .f32⟩
  | .hbm, ⟨2, _⟩ => ⟨S16x2x4352x64, .f32⟩
  | .hbm, ⟨3, _⟩ => ⟨S_, .f32⟩
  | .hbm, ⟨4, _⟩ => ⟨S16x8x4352x64, .f32⟩
  | .hbm, ⟨5, _⟩ => ⟨S16x8x4352x64, .f32⟩
  | .hbm, ⟨6, _⟩ => ⟨S16x8x4352x64, .bf16⟩
  | .hbm, ⟨7, _⟩ => ⟨S16x2x64x4352, .f32⟩
  | .hbm, ⟨8, _⟩ => ⟨S16x2x64x4352, .bf16⟩
  | .hbm, ⟨9, _⟩ => ⟨S_, .f32⟩
  | .hbm, ⟨10, _⟩ => ⟨S16x2x4352x64, .f32⟩
  | .hbm, ⟨11, _⟩ => ⟨S16x2x4352x128, .f32⟩
  | .hbm, ⟨12, _⟩ => ⟨S16x2x4352x128, .bf16⟩
  | .hbm, ⟨13, _⟩ => ⟨S16x4352x512, .bf16⟩
  | .local _ .vmem, ⟨0, _⟩ => ⟨S1x4x128x64, .bf16⟩
  | .local _ .vmem, ⟨1, _⟩ => ⟨S1x4x128x64, .bf16⟩
  | .local _ .vmem, ⟨2, _⟩ => ⟨S1x1x64x4352, .bf16⟩
  | .local _ .vmem, ⟨3, _⟩ => ⟨S1x1x64x4352, .bf16⟩
  | .local _ .vmem, ⟨4, _⟩ => ⟨S1x1x4352x128, .bf16⟩
  | .local _ .vmem, ⟨5, _⟩ => ⟨S1x1x4352x128, .bf16⟩
  | .local _ .vmem, ⟨6, _⟩ => ⟨S1x128x256, .bf16⟩
  | .local _ .vmem, ⟨7, _⟩ => ⟨S1x128x256, .bf16⟩
  | .local _ .vmem, ⟨8, _⟩ => ⟨S128x4352, .f32⟩
  | .local _ .vmem, ⟨9, _⟩ => ⟨S512x4352, .bf16⟩
  | _, _ => ⟨S16x8x4352x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 34], ![false, false, false]⟩

def k0_cond1 (i : grid0.Coords) : BitVec 1 :=
  let arg2 : BitVec 32 := BitVec.ofNat 32 (i 2).val
  let c2_i32 : BitVec 32 := 2#32
  let v0 : BitVec 1 := Scalar.cmpi .slt arg2 c2_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c2_i32 : BitVec 32 := 2#32
  let v0 : BitVec 1 := Scalar.cmpi .slt arg2 c2_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x4352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S16x8x4352x64 : Shape := ⟨4, ![16, 8, 4352, 64]⟩
abbrev S16x2x4352x64 : Shape := ⟨4, ![16, 2, 4352, 64]⟩
abbrev S16x2x4x4352x64 : Shape := ⟨5, ![16, 2, 4, 4352, 64]⟩
abbrev S16x2x4x256x64 : Shape := ⟨5, ![16, 2, 4, 256, 64]⟩
abbrev S16x2x256x64 : Shape := ⟨4, ![16, 2, 256, 64]⟩
abbrev S16x2x4x256x256 : Shape := ⟨5, ![16, 2, 4, 256, 256]⟩
abbrev S_ : Shape := ⟨0, ![]⟩
abbrev S16x2x4x256 : Shape := ⟨4, ![16, 2, 4, 256]⟩
abbrev S16x2x4x256x1 : Shape := ⟨5, ![16, 2, 4, 256, 1]⟩
abbrev S16x2x4x4096x64 : Shape := ⟨5, ![16, 2, 4, 4096, 64]⟩
abbrev S16x2x4x4096x4352 : Shape := ⟨5, ![16, 2, 4, 4096, 4352]⟩
abbrev S16x2x4x4096 : Shape := ⟨4, ![16, 2, 4, 4096]⟩
abbrev S16x2x4x4096x1 : Shape := ⟨5, ![16, 2, 4, 4096, 1]⟩
abbrev S16x4352x2x4x64 : Shape := ⟨5, ![16, 4352, 2, 4, 64]⟩
abbrev S16x4352x512 : Shape := ⟨3, ![16, 4352, 512]⟩

abbrev nBuf : Space → Nat
  | .hbm => 50
  | .vmem => 0
  | .smem => 0
  | _ => 0

abbrev bufTy : (tb : Table) → Fin (tcTables nBuf tb) → BufTy
  | .hbm, ⟨0, _⟩ => ⟨S16x8x4352x64, .f32⟩
  | .hbm, ⟨1, _⟩ => ⟨S16x2x4352x64, .f32⟩
  | .hbm, ⟨2, _⟩ => ⟨S16x2x4352x64, .f32⟩
  | .hbm, ⟨3, _⟩ => ⟨S16x2x4x4352x64, .f32⟩
  | .hbm, ⟨4, _⟩ => ⟨S16x2x4x256x64, .f32⟩
  | .hbm, ⟨5, _⟩ => ⟨S16x2x256x64, .f32⟩
  | .hbm, ⟨6, _⟩ => ⟨S16x2x256x64, .f32⟩
  | .hbm, ⟨7, _⟩ => ⟨S16x2x4x256x256, .f32⟩
  | .hbm, ⟨8, _⟩ => ⟨S_, .f32⟩
  | .hbm, ⟨9, _⟩ => ⟨S16x2x4x256x256, .f32⟩
  | .hbm, ⟨10, _⟩ => ⟨S16x2x4x256x256, .f32⟩
  | .hbm, ⟨11, _⟩ => ⟨S_, .f32⟩
  | .hbm, ⟨12, _⟩ => ⟨S16x2x4x256, .f32⟩
  | .hbm, ⟨13, _⟩ => ⟨S_, .f32⟩
  | .hbm, ⟨14, _⟩ => ⟨S16x2x4x256, .f32⟩
  | .hbm, ⟨15, _⟩ => ⟨S16x2x4x256, .f32⟩
  | .hbm, ⟨16, _⟩ => ⟨S16x2x4x256x1, .f32⟩
  | .hbm, ⟨17, _⟩ => ⟨S16x2x4x256x256, .f32⟩
  | .hbm, ⟨18, _⟩ => ⟨S16x2x4x256x256, .f32⟩
  | .hbm, ⟨19, _⟩ => ⟨S16x2x4x256x256, .f32⟩
  | .hbm, ⟨20, _⟩ => ⟨S_, .f32⟩
  | .hbm, ⟨21, _⟩ => ⟨S16x2x4x256, .f32⟩
  | .hbm, ⟨22, _⟩ => ⟨S16x2x4x256x1, .f32⟩
  | .hbm, ⟨23, _⟩ => ⟨S16x2x4x256x256, .f32⟩
  | .hbm, ⟨24, _⟩ => ⟨S16x2x4x256x256, .f32⟩
  | .hbm, ⟨25, _⟩ => ⟨S16x2x4x256x64, .f32⟩
  | .hbm, ⟨26, _⟩ => ⟨S16x2x4x4096x64, .f32⟩
  | .hbm, ⟨27, _⟩ => ⟨S16x2x4x4096x4352, .f32⟩
  | .hbm, ⟨28, _⟩ => ⟨S_, .f32⟩
  | .hbm, ⟨29, _⟩ => ⟨S16x2x4x4096x4352, .f32⟩
  | .hbm, ⟨30, _⟩ => ⟨S16x2x4x4096x4352, .f32⟩
  | .hbm, ⟨31, _⟩ => ⟨S_, .f32⟩
  | .hbm, ⟨32, _⟩ => ⟨S16x2x4x4096, .f32⟩
  | .hbm, ⟨33, _⟩ => ⟨S_, .f32⟩
  | .hbm, ⟨34, _⟩ => ⟨S16x2x4x4096, .f32⟩
  | .hbm, ⟨35, _⟩ => ⟨S16x2x4x4096, .f32⟩
  | .hbm, ⟨36, _⟩ => ⟨S16x2x4x4096x1, .f32⟩
  | .hbm, ⟨37, _⟩ => ⟨S16x2x4x4096x4352, .f32⟩
  | .hbm, ⟨38, _⟩ => ⟨S16x2x4x4096x4352, .f32⟩
  | .hbm, ⟨39, _⟩ => ⟨S16x2x4x4096x4352, .f32⟩
  | .hbm, ⟨40, _⟩ => ⟨S_, .f32⟩
  | .hbm, ⟨41, _⟩ => ⟨S16x2x4x4096, .f32⟩
  | .hbm, ⟨42, _⟩ => ⟨S16x2x4x4096x1, .f32⟩
  | .hbm, ⟨43, _⟩ => ⟨S16x2x4x4096x4352, .f32⟩
  | .hbm, ⟨44, _⟩ => ⟨S16x2x4x4096x4352, .f32⟩
  | .hbm, ⟨45, _⟩ => ⟨S16x2x4x4096x64, .f32⟩
  | .hbm, ⟨46, _⟩ => ⟨S16x2x4x4352x64, .f32⟩
  | .hbm, ⟨47, _⟩ => ⟨S16x4352x2x4x64, .f32⟩
  | .hbm, ⟨48, _⟩ => ⟨S16x4352x512, .f32⟩
  | .hbm, ⟨49, _⟩ => ⟨S16x4352x512, .bf16⟩
  | _, _ => ⟨S16x8x4352x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel2.lean ====
abbrev S16x256x1024 : Shape := ⟨3, ![16, 256, 1024]⟩
abbrev S16x4096x1024 : Shape := ⟨3, ![16, 4096, 1024]⟩
abbrev S1024 : Shape := ⟨1, ![1024]⟩
abbrev S1x6144 : Shape := ⟨2, ![1, 6144]⟩
abbrev S16x6144 : Shape := ⟨2, ![16, 6144]⟩
abbrev S1024x2816 : Shape := ⟨2, ![1024, 2816]⟩
abbrev S2816x1024 : Shape := ⟨2, ![2816, 1024]⟩
abbrev S16x4352x1024 : Shape := ⟨3, ![16, 4352, 1024]⟩
abbrev S16x6x1024 : Shape := ⟨3, ![16, 6, 1024]⟩
abbrev S1x6x1024 : Shape := ⟨3, ![1, 6, 1024]⟩
abbrev S16x1x6x1024 : Shape := ⟨4, ![16, 1, 6, 1024]⟩
abbrev S16x2x6x1024 : Shape := ⟨4, ![16, 2, 6, 1024]⟩
abbrev S1x1024 : Shape := ⟨2, ![1, 1024]⟩
abbrev S1x544x1024 : Shape := ⟨3, ![1, 544, 1024]⟩
abbrev S1x2x6x1024 : Shape := ⟨4, ![1, 2, 6, 1024]⟩
abbrev S544x1 : Shape := ⟨2, ![544, 1]⟩
abbrev S544x1024 : Shape := ⟨2, ![544, 1024]⟩
abbrev S544 : Shape := ⟨1, ![544]⟩
abbrev S1x1x1x1024 : Shape := ⟨4, ![1, 1, 1, 1024]⟩
abbrev S1024x256 : Shape := ⟨2, ![1024, 256]⟩
abbrev S544x256 : Shape := ⟨2, ![544, 256]⟩
abbrev S256x1024 : Shape := ⟨2, ![256, 1024]⟩

abbrev nBuf : Space → Nat
  | .hbm => 20
  | .vmem => 10
  | .smem => 0
  | _ => 0

abbrev bufTy : (tb : Table) → Fin (tcTables nBuf tb) → BufTy
  | .hbm, ⟨0, _⟩ => ⟨S16x256x1024, .f32⟩
  | .hbm, ⟨1, _⟩ => ⟨S16x4096x1024, .f32⟩
  | .hbm, ⟨2, _⟩ => ⟨S1024, .f32⟩
  | .hbm, ⟨3, _⟩ => ⟨S1x6144, .f32⟩
  | .hbm, ⟨4, _⟩ => ⟨S16x6144, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S16x4352x1024, .f32⟩
  | .hbm, ⟨9, _⟩ => ⟨S16x6x1024, .f32⟩
  | .hbm, ⟨10, _⟩ => ⟨S1x6x1024, .f32⟩
  | .hbm, ⟨11, _⟩ => ⟨S16x6x1024, .f32⟩
  | .hbm, ⟨12, _⟩ => ⟨S16x1x6x1024, .f32⟩
  | .hbm, ⟨13, _⟩ => ⟨S16x1x6x1024, .f32⟩
  | .hbm, ⟨14, _⟩ => ⟨S16x2x6x1024, .f32⟩
  | .hbm, ⟨15, _⟩ => ⟨S1024x2816, .bf16⟩
  | .hbm, ⟨16, _⟩ => ⟨S1024x2816, .bf16⟩
  | .hbm, ⟨17, _⟩ => ⟨S2816x1024, .bf16⟩
  | .hbm, ⟨18, _⟩ => ⟨S1x1024, .f32⟩
  | .hbm, ⟨19, _⟩ => ⟨S16x4352x1024, .f32⟩
  | .local _ .vmem, ⟨0, _⟩ => ⟨S1x544x1024, .f32⟩
  | .local _ .vmem, ⟨1, _⟩ => ⟨S1x544x1024, .f32⟩
  | .local _ .vmem, ⟨2, _⟩ => ⟨S1x1024, .f32⟩
  | .local _ .vmem, ⟨3, _⟩ => ⟨S1x2x6x1024, .f32⟩
  | .local _ .vmem, ⟨4, _⟩ => ⟨S1x2x6x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x544x1024, .f32⟩
  | .local _ .vmem, ⟨9, _⟩ => ⟨S1x544x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S16x256x1024 : Shape := ⟨3, ![16, 256, 1024]⟩
abbrev S16x4096x1024 : Shape := ⟨3, ![16, 4096, 1024]⟩
abbrev S1024 : Shape := ⟨1, ![1024]⟩
abbrev S1x6144 : Shape := ⟨2, ![1, 6144]⟩
abbrev S16x6144 : Shape := ⟨2, ![16, 6144]⟩
abbrev S1024x2816 : Shape := ⟨2, ![1024, 2816]⟩
abbrev S2816x1024 : Shape := ⟨2, ![2816, 1024]⟩
abbrev S16x1x6144 : Shape := ⟨3, ![16, 1, 6144]⟩
abbrev S16x1x1024 : Shape := ⟨3, ![16, 1, 1024]⟩
abbrev S1x1x6144 : Shape := ⟨3, ![1, 1, 6144]⟩
abbrev S1x1x1024 : Shape := ⟨3, ![1, 1, 1024]⟩
abbrev S16x4352x1024 : Shape := ⟨3, ![16, 4352, 1024]⟩
abbrev S_ : Shape := ⟨0, ![]⟩
abbrev S16x4352 : Shape := ⟨2, ![16, 4352]⟩
abbrev S16x4352x1 : Shape := ⟨3, ![16, 4352, 1]⟩
abbrev S16x4352x2816 : Shape := ⟨3, ![16, 4352, 2816]⟩

abbrev nBuf : Space → Nat
  | .hbm => 78
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S16x4096x1024, .f32⟩
  | .hbm, ⟨2, _⟩ => ⟨S1024, .f32⟩
  | .hbm, ⟨3, _⟩ => ⟨S1x6144, .f32⟩
  | .hbm, ⟨4, _⟩ => ⟨S16x6144, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S16x1x6144, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S1x1x6144, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S1x1x1024, .f32⟩
  | .hbm, ⟨20, _⟩ => ⟨S1x1x1024, .f32⟩
  | .hbm, ⟨21, _⟩ => ⟨S1x1x1024, .f32⟩
  | .hbm, ⟨22, _⟩ => ⟨S16x4352x1024, .f32⟩
  | .hbm, ⟨23, _⟩ => ⟨S16x4352x1024, .f32⟩
  | .hbm, ⟨24, _⟩ => ⟨S_, .f32⟩
  | .hbm, ⟨25, _⟩ => ⟨S16x4352, .f32⟩
  | .hbm, ⟨26, _⟩ => ⟨S16x4352x1, .f32⟩
  | .hbm, ⟨27, _⟩ => ⟨S_, .f32⟩
  | .hbm, ⟨28, _⟩ => ⟨S16x4352x1, .f32⟩
  | .hbm, ⟨29, _⟩ => ⟨S16x4352x1, .f32⟩
  | .hbm, ⟨30, _⟩ => ⟨S_, .f32⟩
  | .hbm, ⟨31, _⟩ => ⟨S16x4352x1, .f32⟩
  | .hbm, ⟨32, _⟩ => ⟨S16x4352x1, .f32⟩
  | .hbm, ⟨33, _⟩ => ⟨S16x4352x1, .f32⟩
  | .hbm, ⟨34, _⟩ => ⟨S16x4352x1024, .f32⟩
  | .hbm, ⟨35, _⟩ => ⟨S16x4352x1024, .f32⟩
  | .hbm, ⟨36, _⟩ => ⟨S1x1x1024, .f32⟩
  | .hbm, ⟨37, _⟩ => ⟨S16x4352x1024, .f32⟩
  | .hbm, ⟨38, _⟩ => ⟨S16x4352x1024, .f32⟩
  | .hbm, ⟨39, _⟩ => ⟨S16x256x1024, .f32⟩
  | .hbm, ⟨40, _⟩ => ⟨S_, .f32⟩
  | .hbm, ⟨41, _⟩ => ⟨S1x1x1024, .f32⟩
  | .hbm, ⟨42, _⟩ => ⟨S1x1x1024, .f32⟩
  | .hbm, ⟨43, _⟩ => ⟨S16x256x1024, .f32⟩
  | .hbm, ⟨44, _⟩ => ⟨S16x256x1024, .f32⟩
  | .hbm, ⟨45, _⟩ => ⟨S16x256x1024, .f32⟩
  | .hbm, ⟨46, _⟩ => ⟨S16x256x1024, .f32⟩
  | .hbm, ⟨47, _⟩ => ⟨S16x4096x1024, .f32⟩
  | .hbm, ⟨48, _⟩ => ⟨S_, .f32⟩
  | .hbm, ⟨49, _⟩ => ⟨S16x1x1024, .f32⟩
  | .hbm, ⟨50, _⟩ => ⟨S16x1x1024, .f32⟩
  | .hbm, ⟨51, _⟩ => ⟨S16x4096x1024, .f32⟩
  | .hbm, ⟨52, _⟩ => ⟨S16x4096x1024, .f32⟩
  | .hbm, ⟨53, _⟩ => ⟨S16x4096x1024, .f32⟩
  | .hbm, ⟨54, _⟩ => ⟨S16x4096x1024, .f32⟩
  | .hbm, ⟨55, _⟩ => ⟨S16x4352x1024, .f32⟩
  | .hbm, ⟨56, _⟩ => ⟨S16x4352x2816, .f32⟩
  | .hbm, ⟨57, _⟩ => ⟨S16x4352x2816, .f32⟩
  | .hbm, ⟨58, _⟩ => ⟨S16x4352x2816, .f32⟩
  | .hbm, ⟨59, _⟩ => ⟨S_, .f32⟩
  | .hbm, ⟨60, _⟩ => ⟨S16x4352x2816, .f32⟩
  | .hbm, ⟨61, _⟩ => ⟨S16x4352x2816, .f32⟩
  | .hbm, ⟨62, _⟩ => ⟨S_, .f32⟩
  | .hbm, ⟨63, _⟩ => ⟨S16x4352x2816, .f32⟩
  | .hbm, ⟨64, _⟩ => ⟨S16x4352x2816, .f32⟩
  | .hbm, ⟨65, _⟩ => ⟨S16x4352x2816, .f32⟩
  | .hbm, ⟨66, _⟩ => ⟨S16x4352x2816, .f32⟩
  | .hbm, ⟨67, _⟩ => ⟨S16x4352x2816, .f32⟩
  | .hbm, ⟨68, _⟩ => ⟨S16x4352x1024, .f32⟩
  | .hbm, ⟨69, _⟩ => ⟨S16x256x1024, .f32⟩
  | .hbm, ⟨70, _⟩ => ⟨S16x256x1024, .f32⟩
  | .hbm, ⟨71, _⟩ => ⟨S16x256x1024, .f32⟩
  | .hbm, ⟨72, _⟩ => ⟨S16x256x1024, .f32⟩
  | .hbm, ⟨73, _⟩ => ⟨S16x4096x1024, .f32⟩
  | .hbm, ⟨74, _⟩ => ⟨S16x4096x1024, .f32⟩
  | .hbm, ⟨75, _⟩ => ⟨S16x4096x1024, .f32⟩
  | .hbm, ⟨76, _⟩ => ⟨S16x4096x1024, .f32⟩
  | .hbm, ⟨77, _⟩ => ⟨S16x4352x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Kernel3.lean ====
abbrev S16x256x1024 : Shape := ⟨3, ![16, 256, 1024]⟩
abbrev S16x4096x1024 : Shape := ⟨3, ![16, 4096, 1024]⟩
abbrev S1024 : Shape := ⟨1, ![1024]⟩
abbrev S1x6144 : Shape := ⟨2, ![1, 6144]⟩
abbrev S16x6144 : Shape := ⟨2, ![16, 6144]⟩
abbrev S1024x4352 : Shape := ⟨2, ![1024, 4352]⟩
abbrev S1024x3072 : Shape := ⟨2, ![1024, 3072]⟩
abbrev S3072 : Shape := ⟨1, ![3072]⟩
abbrev S16x4352x1024 : Shape := ⟨3, ![16, 4352, 1024]⟩
abbrev S16x6x1024 : Shape := ⟨3, ![16, 6, 1024]⟩
abbrev S1x6x1024 : Shape := ⟨3, ![1, 6, 1024]⟩
abbrev S16x1x6x1024 : Shape := ⟨4, ![16, 1, 6, 1024]⟩
abbrev S16x2x6x1024 : Shape := ⟨4, ![16, 2, 6, 1024]⟩
abbrev S1x1024 : Shape := ⟨2, ![1, 1024]⟩
abbrev S1x3072 : Shape := ⟨2, ![1, 3072]⟩
abbrev S16x4352x4352 : Shape := ⟨3, ![16, 4352, 4352]⟩
abbrev S16x4352x3072 : Shape := ⟨3, ![16, 4352, 3072]⟩
abbrev S1x544x1024 : Shape := ⟨3, ![1, 544, 1024]⟩
abbrev S1x2x6x1024 : Shape := ⟨4, ![1, 2, 6, 1024]⟩
abbrev S1x544x4352 : Shape := ⟨3, ![1, 544, 4352]⟩
abbrev S1x544x3072 : Shape := ⟨3, ![1, 544, 3072]⟩
abbrev S544x1 : Shape := ⟨2, ![544, 1]⟩
abbrev S544x1024 : Shape := ⟨2, ![544, 1024]⟩
abbrev S544 : Shape := ⟨1, ![544]⟩
abbrev S1x1x1x1024 : Shape := ⟨4, ![1, 1, 1, 1024]⟩
abbrev S1024x256 : Shape := ⟨2, ![1024, 256]⟩
abbrev S544x256 : Shape := ⟨2, ![544, 256]⟩
abbrev S1x544x256 : Shape := ⟨3, ![1, 544, 256]⟩
abbrev S1x256 : Shape := ⟨2, ![1, 256]⟩

abbrev nBuf : Space → Nat
  | .hbm => 22
  | .vmem => 14
  | .smem => 0
  | _ => 0

abbrev bufTy : (tb : Table) → Fin (tcTables nBuf tb) → BufTy
  | .hbm, ⟨0, _⟩ => ⟨S16x256x1024, .f32⟩
  | .hbm, ⟨1, _⟩ => ⟨S16x4096x1024, .f32⟩
  | .hbm, ⟨2, _⟩ => ⟨S1024, .f32⟩
  | .hbm, ⟨3, _⟩ => ⟨S1x6144, .f32⟩
  | .hbm, ⟨4, _⟩ => ⟨S16x6144, .f32⟩
  | .hbm, ⟨5, _⟩ => ⟨S1024x4352, .f32⟩
  | .hbm, ⟨6, _⟩ => ⟨S1024x3072, .f32⟩
  | .hbm, ⟨7, _⟩ => ⟨S3072, .f32⟩
  | .hbm, ⟨8, _⟩ => ⟨S16x4352x1024, .f32⟩
  | .hbm, ⟨9, _⟩ => ⟨S16x6x1024, .f32⟩
  | .hbm, ⟨10, _⟩ => ⟨S1x6x1024, .f32⟩
  | .hbm, ⟨11, _⟩ => ⟨S16x6x1024, .f32⟩
  | .hbm, ⟨12, _⟩ => ⟨S16x1x6x1024, .f32⟩
  | .hbm, ⟨13, _⟩ => ⟨S16x1x6x1024, .f32⟩
  | .hbm, ⟨14, _⟩ => ⟨S16x2x6x1024, .f32⟩
  | .hbm, ⟨15, _⟩ => ⟨S1024x4352, .bf16⟩
  | .hbm, ⟨16, _⟩ => ⟨S1024x3072, .bf16⟩
  | .hbm, ⟨17, _⟩ => ⟨S1x1024, .f32⟩
  | .hbm, ⟨18, _⟩ => ⟨S1x3072, .f32⟩
  | .hbm, ⟨19, _⟩ => ⟨S16x4352x1024, .f32⟩
  | .hbm, ⟨20, _⟩ => ⟨S16x4352x4352, .f32⟩
  | .hbm, ⟨21, _⟩ => ⟨S16x4352x3072, .bf16⟩
  | .local _ .vmem, ⟨0, _⟩ => ⟨S1x544x1024, .f32⟩
  | .local _ .vmem, ⟨1, _⟩ => ⟨S1x544x1024, .f32⟩
  | .local _ .vmem, ⟨2, _⟩ => ⟨S1x1024, .f32⟩
  | .local _ .vmem, ⟨3, _⟩ => ⟨S1x2x6x1024, .f32⟩
  | .local _ .vmem, ⟨4, _⟩ => ⟨S1x2x6x1024, .f32⟩
  | .local _ .vmem, ⟨5, _⟩ => ⟨S1024x4352, .bf16⟩
  | .local _ .vmem, ⟨6, _⟩ => ⟨S1024x3072, .bf16⟩
  | .local _ .vmem, ⟨7, _⟩ => ⟨S1x3072, .f32⟩
  | .local _ .vmem, ⟨8, _⟩ => ⟨S1x544x1024, .f32⟩
  | .local _ .vmem, ⟨9, _⟩ => ⟨S1x544x1024, .f32⟩
  | .local _ .vmem, ⟨10, _⟩ => ⟨S1x544x4352, .f32⟩
  | .local _ .vmem, ⟨11, _⟩ => ⟨S1x544x4352, .f32⟩
  | .local _ .vmem, ⟨12, _⟩ => ⟨S1x544x3072, .bf16⟩
  | .local _ .vmem, ⟨13, _⟩ => ⟨S1x544x3072, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x4352 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x544x4352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x544x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S16x256x1024 : Shape := ⟨3, ![16, 256, 1024]⟩
abbrev S16x4096x1024 : Shape := ⟨3, ![16, 4096, 1024]⟩
abbrev S1024 : Shape := ⟨1, ![1024]⟩
abbrev S1x6144 : Shape := ⟨2, ![1, 6144]⟩
abbrev S16x6144 : Shape := ⟨2, ![16, 6144]⟩
abbrev S1024x4352 : Shape := ⟨2, ![1024, 4352]⟩
abbrev S1024x3072 : Shape := ⟨2, ![1024, 3072]⟩
abbrev S3072 : Shape := ⟨1, ![3072]⟩
abbrev S16x1x6144 : Shape := ⟨3, ![16, 1, 6144]⟩
abbrev S16x1x1024 : Shape := ⟨3, ![16, 1, 1024]⟩
abbrev S1x1x6144 : Shape := ⟨3, ![1, 1, 6144]⟩
abbrev S1x1x1024 : Shape := ⟨3, ![1, 1, 1024]⟩
abbrev S16x4352x1024 : Shape := ⟨3, ![16, 4352, 1024]⟩
abbrev S_ : Shape := ⟨0, ![]⟩
abbrev S16x4352 : Shape := ⟨2, ![16, 4352]⟩
abbrev S16x4352x1 : Shape := ⟨3, ![16, 4352, 1]⟩
abbrev S16x4352x4352 : Shape := ⟨3, ![16, 4352, 4352]⟩
abbrev S16x4352x3072 : Shape := ⟨3, ![16, 4352, 3072]⟩
abbrev S1x1x3072 : Shape := ⟨3, ![1, 1, 3072]⟩

abbrev nBuf : Space → Nat
  | .hbm => 70
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S16x4096x1024, .f32⟩
  | .hbm, ⟨2, _⟩ => ⟨S1024, .f32⟩
  | .hbm, ⟨3, _⟩ => ⟨S1x6144, .f32⟩
  | .hbm, ⟨4, _⟩ => ⟨S16x6144, .f32⟩
  | .hbm, ⟨5, _⟩ => ⟨S1024x4352, .f32⟩
  | .hbm, ⟨6, _⟩ => ⟨S1024x3072, .f32⟩
  | .hbm, ⟨7, _⟩ => ⟨S3072, .f32⟩
  | .hbm, ⟨8, _⟩ => ⟨S16x1x6144, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S1x1x6144, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S1x1x1024, .f32⟩
  | .hbm, ⟨20, _⟩ => ⟨S1x1x1024, .f32⟩
  | .hbm, ⟨21, _⟩ => ⟨S1x1x1024, .f32⟩
  | .hbm, ⟨22, _⟩ => ⟨S16x4352x1024, .f32⟩
  | .hbm, ⟨23, _⟩ => ⟨S16x4352x1024, .f32⟩
  | .hbm, ⟨24, _⟩ => ⟨S_, .f32⟩
  | .hbm, ⟨25, _⟩ => ⟨S16x4352, .f32⟩
  | .hbm, ⟨26, _⟩ => ⟨S16x4352x1, .f32⟩
  | .hbm, ⟨27, _⟩ => ⟨S_, .f32⟩
  | .hbm, ⟨28, _⟩ => ⟨S16x4352x1, .f32⟩
  | .hbm, ⟨29, _⟩ => ⟨S16x4352x1, .f32⟩
  | .hbm, ⟨30, _⟩ => ⟨S_, .f32⟩
  | .hbm, ⟨31, _⟩ => ⟨S16x4352x1, .f32⟩
  | .hbm, ⟨32, _⟩ => ⟨S16x4352x1, .f32⟩
  | .hbm, ⟨33, _⟩ => ⟨S16x4352x1, .f32⟩
  | .hbm, ⟨34, _⟩ => ⟨S16x4352x1024, .f32⟩
  | .hbm, ⟨35, _⟩ => ⟨S16x4352x1024, .f32⟩
  | .hbm, ⟨36, _⟩ => ⟨S1x1x1024, .f32⟩
  | .hbm, ⟨37, _⟩ => ⟨S16x4352x1024, .f32⟩
  | .hbm, ⟨38, _⟩ => ⟨S16x4352x1024, .f32⟩
  | .hbm, ⟨39, _⟩ => ⟨S16x256x1024, .f32⟩
  | .hbm, ⟨40, _⟩ => ⟨S_, .f32⟩
  | .hbm, ⟨41, _⟩ => ⟨S1x1x1024, .f32⟩
  | .hbm, ⟨42, _⟩ => ⟨S1x1x1024, .f32⟩
  | .hbm, ⟨43, _⟩ => ⟨S16x256x1024, .f32⟩
  | .hbm, ⟨44, _⟩ => ⟨S16x256x1024, .f32⟩
  | .hbm, ⟨45, _⟩ => ⟨S16x256x1024, .f32⟩
  | .hbm, ⟨46, _⟩ => ⟨S16x256x1024, .f32⟩
  | .hbm, ⟨47, _⟩ => ⟨S16x4096x1024, .f32⟩
  | .hbm, ⟨48, _⟩ => ⟨S_, .f32⟩
  | .hbm, ⟨49, _⟩ => ⟨S16x1x1024, .f32⟩
  | .hbm, ⟨50, _⟩ => ⟨S16x1x1024, .f32⟩
  | .hbm, ⟨51, _⟩ => ⟨S16x4096x1024, .f32⟩
  | .hbm, ⟨52, _⟩ => ⟨S16x4096x1024, .f32⟩
  | .hbm, ⟨53, _⟩ => ⟨S16x4096x1024, .f32⟩
  | .hbm, ⟨54, _⟩ => ⟨S16x4096x1024, .f32⟩
  | .hbm, ⟨55, _⟩ => ⟨S16x4352x1024, .f32⟩
  | .hbm, ⟨56, _⟩ => ⟨S16x4352x4352, .f32⟩
  | .hbm, ⟨57, _⟩ => ⟨S16x4352x3072, .f32⟩
  | .hbm, ⟨58, _⟩ => ⟨S1x1x3072, .f32⟩
  | .hbm, ⟨59, _⟩ => ⟨S16x4352x3072, .f32⟩
  | .hbm, ⟨60, _⟩ => ⟨S16x4352x3072, .f32⟩
  | .hbm, ⟨61, _⟩ => ⟨S16x4352x3072, .f32⟩
  | .hbm, ⟨62, _⟩ => ⟨S16x4352x3072, .f32⟩
  | .hbm, ⟨63, _⟩ => ⟨S_, .f32⟩
  | .hbm, ⟨64, _⟩ => ⟨S16x4352x3072, .f32⟩
  | .hbm, ⟨65, _⟩ => ⟨S16x4352x3072, .f32⟩
  | .hbm, ⟨66, _⟩ => ⟨S_, .f32⟩
  | .hbm, ⟨67, _⟩ => ⟨S16x4352x3072, .f32⟩
  | .hbm, ⟨68, _⟩ => ⟨S16x4352x3072, .f32⟩
  | .hbm, ⟨69, _⟩ => ⟨S16x4352x3072, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_4 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== Kernel4.lean ====
abbrev S16x256x1024 : Shape := ⟨3, ![16, 256, 1024]⟩
abbrev S16x4096x1024 : Shape := ⟨3, ![16, 4096, 1024]⟩
abbrev S1024 : Shape := ⟨1, ![1024]⟩
abbrev S16x4352x1024 : Shape := ⟨3, ![16, 4352, 1024]⟩
abbrev S1x1024 : Shape := ⟨2, ![1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S16x256x1024, .f32⟩
  | .hbm, ⟨1, _⟩ => ⟨S16x4096x1024, .f32⟩
  | .hbm, ⟨2, _⟩ => ⟨S1024, .f32⟩
  | .hbm, ⟨3, _⟩ => ⟨S16x4352x1024, .f32⟩
  | .hbm, ⟨4, _⟩ => ⟨S1x1024, .f32⟩
  | .hbm, ⟨5, _⟩ => ⟨S16x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x256x1024, .f32⟩
  | .local _ .vmem, ⟨4, _⟩ => ⟨S1x256x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16x256x1024 : Shape := ⟨3, ![16, 256, 1024]⟩
abbrev S16x4096x1024 : Shape := ⟨3, ![16, 4096, 1024]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S16x4096x1024, .f32⟩
  | .hbm, ⟨2, _⟩ => ⟨S1024, .f32⟩
  | .hbm, ⟨3, _⟩ => ⟨S16x4096x1024, .f32⟩
  | .hbm, ⟨4, _⟩ => ⟨S_, .f32⟩
  | .hbm, ⟨5, _⟩ => ⟨S16x4096, .f32⟩
  | .hbm, ⟨6, _⟩ => ⟨S16x4096x1, .f32⟩
  | .hbm, ⟨7, _⟩ => ⟨S_, .f32⟩
  | .hbm, ⟨8, _⟩ => ⟨S16x4096x1, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S16x4096x1, .f32⟩
  | .hbm, ⟨14, _⟩ => ⟨S16x4096x1024, .f32⟩
  | .hbm, ⟨15, _⟩ => ⟨S16x4096x1024, .f32⟩
  | .hbm, ⟨16, _⟩ => ⟨S1x1x1024, .f32⟩
  | .hbm, ⟨17, _⟩ => ⟨S16x4096x1024, .f32⟩
  | .hbm, ⟨18, _⟩ => ⟨S16x4096x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel5.lean ====
abbrev S16x256x1024 : Shape := ⟨3, ![16, 256, 1024]⟩
abbrev S16x4096x1024 : Shape := ⟨3, ![16, 4096, 1024]⟩
abbrev S16x4352x512 : Shape := ⟨3, ![16, 4352, 512]⟩
abbrev S16x4352x4352 : Shape := ⟨3, ![16, 4352, 4352]⟩
abbrev S16x4352x3072 : Shape := ⟨3, ![16, 4352, 3072]⟩
abbrev S1x6144 : Shape := ⟨2, ![1, 6144]⟩
abbrev S16x6144 : Shape := ⟨2, ![16, 6144]⟩
abbrev S512 : Shape := ⟨1, ![512]⟩
abbrev S128 : Shape := ⟨1, ![128]⟩
abbrev S512x1024 : Shape := ⟨2, ![512, 1024]⟩
abbrev S1024x1024 : Shape := ⟨2, ![1024, 1024]⟩
abbrev S16x4352x1024 : Shape := ⟨3, ![16, 4352, 1024]⟩
abbrev S1x512 : Shape := ⟨2, ![1, 512]⟩
abbrev S_ : Shape := ⟨0, ![]⟩
abbrev S512x1 : Shape := ⟨2, ![512, 1]⟩
abbrev S512x512 : Shape := ⟨2, ![512, 512]⟩
abbrev S1x128 : Shape := ⟨2, ![1, 128]⟩
abbrev S4x128 : Shape := ⟨2, ![4, 128]⟩
abbrev S16x6x1024 : Shape := ⟨3, ![16, 6, 1024]⟩
abbrev S1x6x1024 : Shape := ⟨3, ![1, 6, 1024]⟩
abbrev S16x1x6x1024 : Shape := ⟨4, ![16, 1, 6, 1024]⟩
abbrev S16x2x6x1024 : Shape := ⟨4, ![16, 2, 6, 1024]⟩
abbrev S1x544x1024 : Shape := ⟨3, ![1, 544, 1024]⟩
abbrev S1x544x512 : Shape := ⟨3, ![1, 544, 512]⟩
abbrev S1x544x3072 : Shape := ⟨3, ![1, 544, 3072]⟩
abbrev S1x2x6x1024 : Shape := ⟨4, ![1, 2, 6, 1024]⟩
abbrev S544x512 : Shape := ⟨2, ![544, 512]⟩
abbrev S544x1024 : Shape := ⟨2, ![544, 1024]⟩
abbrev S544x1 : Shape := ⟨2, ![544, 1]⟩
abbrev S1x1x1x1024 : Shape := ⟨4, ![1, 1, 1, 1024]⟩
abbrev S1x1024 : Shape := ⟨2, ![1, 1024]⟩

abbrev nBuf : Space → Nat
  | .hbm => 89
  | .vmem => 35
  | .smem => 0
  | _ => 0

abbrev bufTy : (tb : Table) → Fin (tcTables nBuf tb) → BufTy
  | .hbm, ⟨0, _⟩ => ⟨S16x256x1024, .f32⟩
  | .hbm, ⟨1, _⟩ => ⟨S16x4096x1024, .f32⟩
  | .hbm, ⟨2, _⟩ => ⟨S16x4352x512, .f32⟩
  | .hbm, ⟨3, _⟩ => ⟨S16x4352x512, .f32⟩
  | .hbm, ⟨4, _⟩ => ⟨S16x4352x512, .f32⟩
  | .hbm, ⟨5, _⟩ => ⟨S16x4352x512, .f32⟩
  | .hbm, ⟨6, _⟩ => ⟨S16x4352x512, .f32⟩
  | .hbm, ⟨7, _⟩ => ⟨S16x4352x512, .f32⟩
  | .hbm, ⟨8, _⟩ => ⟨S16x4352x512, .f32⟩
  | .hbm, ⟨9, _⟩ => ⟨S16x4352x4352, .f32⟩
  | .hbm, ⟨10, _⟩ => ⟨S16x4352x512, .bf16⟩
  | .hbm, ⟨11, _⟩ => ⟨S16x4352x3072, .bf16⟩
  | .hbm, ⟨12, _⟩ => ⟨S1x6144, .f32⟩
  | .hbm, ⟨13, _⟩ => ⟨S16x6144, .f32⟩
  | .hbm, ⟨14, _⟩ => ⟨S512, .f32⟩
  | .hbm, ⟨15, _⟩ => ⟨S512, .f32⟩
  | .hbm, ⟨16, _⟩ => ⟨S128, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S1024x1024, .f32⟩
  | .hbm, ⟨21, _⟩ => ⟨S16x4352x1024, .f32⟩
  | .hbm, ⟨22, _⟩ => ⟨S1x512, .f32⟩
  | .hbm, ⟨23, _⟩ => ⟨S1x512, .f32⟩
  | .hbm, ⟨24, _⟩ => ⟨S512, .i32⟩
  | .hbm, ⟨25, _⟩ => ⟨S_, .i32⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S512, .i32⟩
  | .hbm, ⟨30, _⟩ => ⟨S_, .i32⟩
  | .hbm, ⟨31, _⟩ => ⟨S512, .i32⟩
  | .hbm, ⟨32, _⟩ => ⟨S512, .i1⟩
  | .hbm, ⟨33, _⟩ => ⟨S512, .i32⟩
  | .hbm, ⟨34, _⟩ => ⟨S512, .i32⟩
  | .hbm, ⟨35, _⟩ => ⟨S_, .i32⟩
  | .hbm, ⟨36, _⟩ => ⟨S512, .i32⟩
  | .hbm, ⟨37, _⟩ => ⟨S512, .i1⟩
  | .hbm, ⟨38, _⟩ => ⟨S512, .i1⟩
  | .hbm, ⟨39, _⟩ => ⟨S_, .i32⟩
  | .hbm, ⟨40, _⟩ => ⟨S512, .i32⟩
  | .hbm, ⟨41, _⟩ => ⟨S512, .i32⟩
  | .hbm, ⟨42, _⟩ => ⟨S512, .i32⟩
  | .hbm, ⟨43, _⟩ => ⟨S512x1, .i32⟩
  | .hbm, ⟨44, _⟩ => ⟨S1x512, .i32⟩
  | .hbm, ⟨45, _⟩ => ⟨S512x512, .i32⟩
  | .hbm, ⟨46, _⟩ => ⟨S512x512, .i32⟩
  | .hbm, ⟨47, _⟩ => ⟨S512x512, .i1⟩
  | .hbm, ⟨48, _⟩ => ⟨S512x512, .bf16⟩
  | .hbm, ⟨49, _⟩ => ⟨S1x128, .f32⟩
  | .hbm, ⟨50, _⟩ => ⟨S4x128, .f32⟩
  | .hbm, ⟨51, _⟩ => ⟨S512, .f32⟩
  | .hbm, ⟨52, _⟩ => ⟨S1x512, .f32⟩
  | .hbm, ⟨53, _⟩ => ⟨S512, .i32⟩
  | .hbm, ⟨54, _⟩ => ⟨S_, .i32⟩
  | .hbm, ⟨55, _⟩ => ⟨S_, .i32⟩
  | .hbm, ⟨56, _⟩ => ⟨S512, .i32⟩
  | .hbm, ⟨57, _⟩ => ⟨S512, .i32⟩
  | .hbm, ⟨58, _⟩ => ⟨S512, .i32⟩
  | .hbm, ⟨59, _⟩ => ⟨S_, .i32⟩
  | .hbm, ⟨60, _⟩ => ⟨S512, .i32⟩
  | .hbm, ⟨61, _⟩ => ⟨S512, .i1⟩
  | .hbm, ⟨62, _⟩ => ⟨S512, .i32⟩
  | .hbm, ⟨63, _⟩ => ⟨S512, .i32⟩
  | .hbm, ⟨64, _⟩ => ⟨S_, .i32⟩
  | .hbm, ⟨65, _⟩ => ⟨S512, .i32⟩
  | .hbm, ⟨66, _⟩ => ⟨S512, .i1⟩
  | .hbm, ⟨67, _⟩ => ⟨S512, .i1⟩
  | .hbm, ⟨68, _⟩ => ⟨S_, .i32⟩
  | .hbm, ⟨69, _⟩ => ⟨S512, .i32⟩
  | .hbm, ⟨70, _⟩ => ⟨S512, .i32⟩
  | .hbm, ⟨71, _⟩ => ⟨S512, .i32⟩
  | .hbm, ⟨72, _⟩ => ⟨S512x1, .i32⟩
  | .hbm, ⟨73, _⟩ => ⟨S1x512, .i32⟩
  | .hbm, ⟨74, _⟩ => ⟨S512x512, .i32⟩
  | .hbm, ⟨75, _⟩ => ⟨S512x512, .i32⟩
  | .hbm, ⟨76, _⟩ => ⟨S512x512, .i1⟩
  | .hbm, ⟨77, _⟩ => ⟨S512x512, .bf16⟩
  | .hbm, ⟨78, _⟩ => ⟨S512x1024, .bf16⟩
  | .hbm, ⟨79, _⟩ => ⟨S512x1024, .bf16⟩
  | .hbm, ⟨80, _⟩ => ⟨S512x1024, .bf16⟩
  | .hbm, ⟨81, _⟩ => ⟨S1024x1024, .bf16⟩
  | .hbm, ⟨82, _⟩ => ⟨S16x6x1024, .f32⟩
  | .hbm, ⟨83, _⟩ => ⟨S1x6x1024, .f32⟩
  | .hbm, ⟨84, _⟩ => ⟨S16x6x1024, .f32⟩
  | .hbm, ⟨85, _⟩ => ⟨S16x1x6x1024, .f32⟩
  | .hbm, ⟨86, _⟩ => ⟨S16x1x6x1024, .f32⟩
  | .hbm, ⟨87, _⟩ => ⟨S16x2x6x1024, .f32⟩
  | .hbm, ⟨88, _⟩ => ⟨S16x4352x1024, .f32⟩
  | .local _ .vmem, ⟨0, _⟩ => ⟨S1x544x1024, .f32⟩
  | .local _ .vmem, ⟨1, _⟩ => ⟨S1x544x1024, .f32⟩
  | .local _ .vmem, ⟨2, _⟩ => ⟨S1x544x512, .f32⟩
  | .local _ .vmem, ⟨3, _⟩ => ⟨S1x544x512, .f32⟩
  | .local _ .vmem, ⟨4, _⟩ => ⟨S1x544x512, .f32⟩
  | .local _ .vmem, ⟨5, _⟩ => ⟨S1x544x512, .f32⟩
  | .local _ .vmem, ⟨6, _⟩ => ⟨S1x544x512, .f32⟩
  | .local _ .vmem, ⟨7, _⟩ => ⟨S1x544x512, .f32⟩
  | .local _ .vmem, ⟨8, _⟩ => ⟨S1x544x512, .f32⟩
  | .local _ .vmem, ⟨9, _⟩ => ⟨S1x544x512, .f32⟩
  | .local _ .vmem, ⟨10, _⟩ => ⟨S1x544x512, .f32⟩
  | .local _ .vmem, ⟨11, _⟩ => ⟨S1x544x512, .f32⟩
  | .local _ .vmem, ⟨12, _⟩ => ⟨S1x544x512, .f32⟩
  | .local _ .vmem, ⟨13, _⟩ => ⟨S1x544x512, .f32⟩
  | .local _ .vmem, ⟨14, _⟩ => ⟨S1x544x512, .f32⟩
  | .local _ .vmem, ⟨15, _⟩ => ⟨S1x544x512, .f32⟩
  | .local _ .vmem, ⟨16, _⟩ => ⟨S1x544x512, .f32⟩
  | .local _ .vmem, ⟨17, _⟩ => ⟨S1x544x512, .f32⟩
  | .local _ .vmem, ⟨18, _⟩ => ⟨S1x544x512, .bf16⟩
  | .local _ .vmem, ⟨19, _⟩ => ⟨S1x544x512, .bf16⟩
  | .local _ .vmem, ⟨20, _⟩ => ⟨S1x544x3072, .bf16⟩
  | .local _ .vmem, ⟨21, _⟩ => ⟨S1x544x3072, .bf16⟩
  | .local _ .vmem, ⟨22, _⟩ => ⟨S1x2x6x1024, .f32⟩
  | .local _ .vmem, ⟨23, _⟩ => ⟨S1x2x6x1024, .f32⟩
  | .local _ .vmem, ⟨24, _⟩ => ⟨S1x512, .f32⟩
  | .local _ .vmem, ⟨25, _⟩ => ⟨S1x512, .f32⟩
  | .local _ .vmem, ⟨26, _⟩ => ⟨S512x512, .bf16⟩
  | .local _ .vmem, ⟨27, _⟩ => ⟨S1x512, .f32⟩
  | .local _ .vmem, ⟨28, _⟩ => ⟨S512x512, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S1024x1024, .bf16⟩
  | .local _ .vmem, ⟨33, _⟩ => ⟨S1x544x1024, .f32⟩
  | .local _ .vmem, ⟨34, _⟩ => ⟨S1x544x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_c_0 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_c : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_0 : Ref sig .tc := ⟨.hbm, 68, rfl⟩
abbrev main_call1_v12 : Ref sig .tc := ⟨.hbm, 69, rfl⟩
abbrev main_call1_v13 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_stg21_0 : Ref sig .tc := ⟨.vmem, 33, rfl⟩
abbrev cc0_stg21_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem20_0 : DmaSem sig := 32
abbrev cc0_sem21_0 : DmaSem sig := 33
abbrev cc0_sem21_1 : DmaSem sig := 34

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x544x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x544x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x544x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x544x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x544x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x544x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x544x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x544x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x544x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x6x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S512x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S512x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1024x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x544x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Reference5Ideal.lean ====
abbrev S16x256x1024 : Shape := ⟨3, ![16, 256, 1024]⟩
abbrev S16x4096x1024 : Shape := ⟨3, ![16, 4096, 1024]⟩
abbrev S16x4352x512 : Shape := ⟨3, ![16, 4352, 512]⟩
abbrev S16x4352x4352 : Shape := ⟨3, ![16, 4352, 4352]⟩
abbrev S16x4352x3072 : Shape := ⟨3, ![16, 4352, 3072]⟩
abbrev S1x6144 : Shape := ⟨2, ![1, 6144]⟩
abbrev S16x6144 : Shape := ⟨2, ![16, 6144]⟩
abbrev S512 : Shape := ⟨1, ![512]⟩
abbrev S128 : Shape := ⟨1, ![128]⟩
abbrev S512x1024 : Shape := ⟨2, ![512, 1024]⟩
abbrev S1024x1024 : Shape := ⟨2, ![1024, 1024]⟩
abbrev S16x4352x8x64 : Shape := ⟨4, ![16, 4352, 8, 64]⟩
abbrev S_ : Shape := ⟨0, ![]⟩
abbrev S16x4352x8 : Shape := ⟨3, ![16, 4352, 8]⟩
abbrev S16x4352x8x1 : Shape := ⟨4, ![16, 4352, 8, 1]⟩
abbrev S8x64 : Shape := ⟨2, ![8, 64]⟩
abbrev S1x1x8x64 : Shape := ⟨4, ![1, 1, 8, 64]⟩
abbrev S16x4352x4x128 : Shape := ⟨4, ![16, 4352, 4, 128]⟩
abbrev S16x4352x4 : Shape := ⟨3, ![16, 4352, 4]⟩
abbrev S16x4352x4x1 : Shape := ⟨4, ![16, 4352, 4, 1]⟩
abbrev S1x1x1x128 : Shape := ⟨4, ![1, 1, 1, 128]⟩
abbrev S16x4352x1024 : Shape := ⟨3, ![16, 4352, 1024]⟩
abbrev S16x1x6144 : Shape := ⟨3, ![16, 1, 6144]⟩
abbrev S16x1x1024 : Shape := ⟨3, ![16, 1, 1024]⟩
abbrev S1x1x6144 : Shape := ⟨3, ![1, 1, 6144]⟩
abbrev S1x1x1024 : Shape := ⟨3, ![1, 1, 1024]⟩

abbrev nBuf : Space → Nat
  | .hbm => 127
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S16x4096x1024, .f32⟩
  | .hbm, ⟨2, _⟩ => ⟨S16x4352x512, .f32⟩
  | .hbm, ⟨3, _⟩ => ⟨S16x4352x512, .f32⟩
  | .hbm, ⟨4, _⟩ => ⟨S16x4352x512, .f32⟩
  | .hbm, ⟨5, _⟩ => ⟨S16x4352x512, .f32⟩
  | .hbm, ⟨6, _⟩ => ⟨S16x4352x512, .f32⟩
  | .hbm, ⟨7, _⟩ => ⟨S16x4352x512, .f32⟩
  | .hbm, ⟨8, _⟩ => ⟨S16x4352x512, .f32⟩
  | .hbm, ⟨9, _⟩ => ⟨S16x4352x4352, .f32⟩
  | .hbm, ⟨10, _⟩ => ⟨S16x4352x512, .bf16⟩
  | .hbm, ⟨11, _⟩ => ⟨S16x4352x3072, .bf16⟩
  | .hbm, ⟨12, _⟩ => ⟨S1x6144, .f32⟩
  | .hbm, ⟨13, _⟩ => ⟨S16x6144, .f32⟩
  | .hbm, ⟨14, _⟩ => ⟨S512, .f32⟩
  | .hbm, ⟨15, _⟩ => ⟨S512, .f32⟩
  | .hbm, ⟨16, _⟩ => ⟨S128, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S1024x1024, .f32⟩
  | .hbm, ⟨21, _⟩ => ⟨S16x4352x512, .f32⟩
  | .hbm, ⟨22, _⟩ => ⟨S16x4352x512, .f32⟩
  | .hbm, ⟨23, _⟩ => ⟨S16x4352x8x64, .f32⟩
  | .hbm, ⟨24, _⟩ => ⟨S_, .f32⟩
  | .hbm, ⟨25, _⟩ => ⟨S16x4352x8, .f32⟩
  | .hbm, ⟨26, _⟩ => ⟨S16x4352x8x1, .f32⟩
  | .hbm, ⟨27, _⟩ => ⟨S_, .f32⟩
  | .hbm, ⟨28, _⟩ => ⟨S16x4352x8x1, .f32⟩
  | .hbm, ⟨29, _⟩ => ⟨S16x4352x8x1, .f32⟩
  | .hbm, ⟨30, _⟩ => ⟨S16x4352x8x64, .f32⟩
  | .hbm, ⟨31, _⟩ => ⟨S16x4352x8x64, .f32⟩
  | .hbm, ⟨32, _⟩ => ⟨S16x4352x8x64, .f32⟩
  | .hbm, ⟨33, _⟩ => ⟨S_, .f32⟩
  | .hbm, ⟨34, _⟩ => ⟨S16x4352x8, .f32⟩
  | .hbm, ⟨35, _⟩ => ⟨S16x4352x8x1, .f32⟩
  | .hbm, ⟨36, _⟩ => ⟨S_, .f32⟩
  | .hbm, ⟨37, _⟩ => ⟨S16x4352x8x1, .f32⟩
  | .hbm, ⟨38, _⟩ => ⟨S16x4352x8x1, .f32⟩
  | .hbm, ⟨39, _⟩ => ⟨S16x4352x8x64, .f32⟩
  | .hbm, ⟨40, _⟩ => ⟨S16x4352x8x64, .f32⟩
  | .hbm, ⟨41, _⟩ => ⟨S_, .f32⟩
  | .hbm, ⟨42, _⟩ => ⟨S16x4352x8x1, .f32⟩
  | .hbm, ⟨43, _⟩ => ⟨S16x4352x8x1, .f32⟩
  | .hbm, ⟨44, _⟩ => ⟨S16x4352x8x1, .f32⟩
  | .hbm, ⟨45, _⟩ => ⟨S16x4352x8x64, .f32⟩
  | .hbm, ⟨46, _⟩ => ⟨S16x4352x8x64, .f32⟩
  | .hbm, ⟨47, _⟩ => ⟨S8x64, .f32⟩
  | .hbm, ⟨48, _⟩ => ⟨S1x1x8x64, .f32⟩
  | .hbm, ⟨49, _⟩ => ⟨S16x4352x8x64, .f32⟩
  | .hbm, ⟨50, _⟩ => ⟨S16x4352x8x64, .f32⟩
  | .hbm, ⟨51, _⟩ => ⟨S8x64, .f32⟩
  | .hbm, ⟨52, _⟩ => ⟨S1x1x8x64, .f32⟩
  | .hbm, ⟨53, _⟩ => ⟨S16x4352x8x64, .f32⟩
  | .hbm, ⟨54, _⟩ => ⟨S16x4352x8x64, .f32⟩
  | .hbm, ⟨55, _⟩ => ⟨S16x4352x8x64, .f32⟩
  | .hbm, ⟨56, _⟩ => ⟨S16x4352x8x64, .f32⟩
  | .hbm, ⟨57, _⟩ => ⟨S16x4352x512, .f32⟩
  | .hbm, ⟨58, _⟩ => ⟨S16x4352x512, .f32⟩
  | .hbm, ⟨59, _⟩ => ⟨S16x4352x512, .f32⟩
  | .hbm, ⟨60, _⟩ => ⟨S16x4352x512, .f32⟩
  | .hbm, ⟨61, _⟩ => ⟨S16x4352x4x128, .f32⟩
  | .hbm, ⟨62, _⟩ => ⟨S16x4352x4x128, .f32⟩
  | .hbm, ⟨63, _⟩ => ⟨S_, .f32⟩
  | .hbm, ⟨64, _⟩ => ⟨S16x4352x4, .f32⟩
  | .hbm, ⟨65, _⟩ => ⟨S16x4352x4x1, .f32⟩
  | .hbm, ⟨66, _⟩ => ⟨S_, .f32⟩
  | .hbm, ⟨67, _⟩ => ⟨S16x4352x4x1, .f32⟩
  | .hbm, ⟨68, _⟩ => ⟨S16x4352x4x1, .f32⟩
  | .hbm, ⟨69, _⟩ => ⟨S_, .f32⟩
  | .hbm, ⟨70, _⟩ => ⟨S16x4352x4x1, .f32⟩
  | .hbm, ⟨71, _⟩ => ⟨S16x4352x4x1, .f32⟩
  | .hbm, ⟨72, _⟩ => ⟨S16x4352x4x1, .f32⟩
  | .hbm, ⟨73, _⟩ => ⟨S16x4352x4x128, .f32⟩
  | .hbm, ⟨74, _⟩ => ⟨S16x4352x4x128, .f32⟩
  | .hbm, ⟨75, _⟩ => ⟨S1x1x1x128, .f32⟩
  | .hbm, ⟨76, _⟩ => ⟨S16x4352x4x128, .f32⟩
  | .hbm, ⟨77, _⟩ => ⟨S16x4352x4x128, .f32⟩
  | .hbm, ⟨78, _⟩ => ⟨S16x4352x4x128, .f32⟩
  | .hbm, ⟨79, _⟩ => ⟨S16x4352x4x128, .f32⟩
  | .hbm, ⟨80, _⟩ => ⟨S16x4352x4x128, .f32⟩
  | .hbm, ⟨81, _⟩ => ⟨S_, .f32⟩
  | .hbm, ⟨82, _⟩ => ⟨S16x4352x4x128, .f32⟩
  | .hbm, ⟨83, _⟩ => ⟨S16x4352x4x128, .f32⟩
  | .hbm, ⟨84, _⟩ => ⟨S_, .f32⟩
  | .hbm, ⟨85, _⟩ => ⟨S16x4352x4x128, .f32⟩
  | .hbm, ⟨86, _⟩ => ⟨S16x4352x4x128, .f32⟩
  | .hbm, ⟨87, _⟩ => ⟨S16x4352x4x128, .f32⟩
  | .hbm, ⟨88, _⟩ => ⟨S16x4352x4x128, .f32⟩
  | .hbm, ⟨89, _⟩ => ⟨S16x4352x512, .f32⟩
  | .hbm, ⟨90, _⟩ => ⟨S16x4352x3072, .f32⟩
  | .hbm, ⟨91, _⟩ => ⟨S16x4352x1024, .f32⟩
  | .hbm, ⟨92, _⟩ => ⟨S16x4352x1024, .f32⟩
  | .hbm, ⟨93, _⟩ => ⟨S16x4352x1024, .f32⟩
  | .hbm, ⟨94, _⟩ => ⟨S16x4352x1024, .f32⟩
  | .hbm, ⟨95, _⟩ => ⟨S16x4352x1024, .f32⟩
  | .hbm, ⟨96, _⟩ => ⟨S16x4352x1024, .f32⟩
  | .hbm, ⟨97, _⟩ => ⟨S16x4352x1024, .f32⟩
  | .hbm, ⟨98, _⟩ => ⟨S16x4352x1024, .f32⟩
  | .hbm, ⟨99, _⟩ => ⟨S16x4352x512, .f32⟩
  | .hbm, ⟨100, _⟩ => ⟨S16x4352x1024, .f32⟩
  | .hbm, ⟨101, _⟩ => ⟨S16x4352x1024, .f32⟩
  | .hbm, ⟨102, _⟩ => ⟨S16x4352x1024, .f32⟩
  | .hbm, ⟨103, _⟩ => ⟨S16x4352x1024, .f32⟩
  | .hbm, ⟨104, _⟩ => ⟨S16x1x6144, .f32⟩
  | .hbm, ⟨105, _⟩ => ⟨S16x1x1024, .f32⟩
  | .hbm, ⟨106, _⟩ => ⟨S16x1x1024, .f32⟩
  | .hbm, ⟨107, _⟩ => ⟨S16x1x1024, .f32⟩
  | .hbm, ⟨108, _⟩ => ⟨S16x1x1024, .f32⟩
  | .hbm, ⟨109, _⟩ => ⟨S16x1x1024, .f32⟩
  | .hbm, ⟨110, _⟩ => ⟨S16x1x1024, .f32⟩
  | .hbm, ⟨111, _⟩ => ⟨S1x1x6144, .f32⟩
  | .hbm, ⟨112, _⟩ => ⟨S1x1x1024, .f32⟩
  | .hbm, ⟨113, _⟩ => ⟨S1x1x1024, .f32⟩
  | .hbm, ⟨114, _⟩ => ⟨S1x1x1024, .f32⟩
  | .hbm, ⟨115, _⟩ => ⟨S1x1x1024, .f32⟩
  | .hbm, ⟨116, _⟩ => ⟨S1x1x1024, .f32⟩
  | .hbm, ⟨117, _⟩ => ⟨S1x1x1024, .f32⟩
  | .hbm, ⟨118, _⟩ => ⟨S16x256x1024, .f32⟩
  | .hbm, ⟨119, _⟩ => ⟨S16x256x1024, .f32⟩
  | .hbm, ⟨120, _⟩ => ⟨S16x256x1024, .f32⟩
  | .hbm, ⟨121, _⟩ => ⟨S16x256x1024, .f32⟩
  | .hbm, ⟨122, _⟩ => ⟨S16x4096x1024, .f32⟩
  | .hbm, ⟨123, _⟩ => ⟨S16x4096x1024, .f32⟩
  | .hbm, ⟨124, _⟩ => ⟨S16x4096x1024, .f32⟩
  | .hbm, ⟨125, _⟩ => ⟨S16x4096x1024, .f32⟩
  | .hbm, ⟨126, _⟩ => ⟨S16x4352x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_cst : Ref sig .tc := ⟨.hbm, 24, rfl⟩
abbrev main_v3 : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_1 : Ref sig .tc := ⟨.hbm, 33, rfl⟩
abbrev main_v10 : Ref sig .tc := ⟨.hbm, 34, rfl⟩
abbrev main_v11 : Ref sig .tc := ⟨.hbm, 35, rfl⟩
abbrev main_cst_2 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_3 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_4 : Ref sig .tc := ⟨.hbm, 63, rfl⟩
abbrev main_v37 : Ref sig .tc := ⟨.hbm, 64, rfl⟩
abbrev main_v38 : Ref sig .tc := ⟨.hbm, 65, rfl⟩
abbrev main_cst_5 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_call0_v0 : Ref sig .tc := ⟨.hbm, 79, rfl⟩
abbrev main_call0_v1 : Ref sig .tc := ⟨.hbm, 80, rfl⟩
abbrev main_call0_cst : Ref sig .tc := ⟨.hbm, 81, rfl⟩
abbrev main_call0_v2 : Ref sig .tc := ⟨.hbm, 82, rfl⟩
abbrev main_call0_v3 : Ref sig .tc := ⟨.hbm, 83, rfl⟩
abbrev main_call0_cst_0 : Ref sig .tc := ⟨.hbm, 84, rfl⟩
abbrev main_call0_v4 : Ref sig .tc := ⟨.hbm, 85, rfl⟩
abbrev main_call0_v5 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩

abbrev nD : Nat := 1
abbrev τ : Topo := Topo.v7x

variable {F : FTy → Type} [FloatOps F]
-- ==== Proof.Block.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section
set_option maxRecDepth 16384
noncomputable section
namespace Cert.KernelIdeal.Attn
open Idealize.ShloMosaic Idealize.ShloMosaic.TcCoe Idealize.ShloMosaic.Tactic
open Cert.KernelIdeal.Gen

/-- The score of head `g`'s query row `a` against key column `k`. -/
def score (x0 : FVec Ideal S1x4x128x64 .bf16) (x1 : FVec Ideal S1x1x64x4352 .bf16) (g : ℕ) (a : Fin 128) (k : ℕ) : EReal :=
  ∑ j : Fin 64, x0 (ix4 0 (Fin.ofNat 4 g) a j) * x1 (ix4 0 0 j (Fin.ofNat 4352 k))

/-- The greatest score of a row over its first `nk` keys. -/
def top (x0 : FVec Ideal S1x4x128x64 .bf16) (x1 : FVec Ideal S1x1x64x4352 .bf16) (nk g : ℕ) (a : Fin 128) : EReal :=
  (Finset.range nk).sup (score x0 x1 g a)

/-- The unnormalised weight of key `k` in a row. -/
def weight (x0 : FVec Ideal S1x4x128x64 .bf16) (x1 : FVec Ideal S1x1x64x4352 .bf16) (nk g : ℕ) (a : Fin 128) (k : ℕ) : EReal :=
  Ideal.exp (score x0 x1 g a k - top x0 x1 nk g a)

variable (x0 : FVec Ideal S1x4x128x64 .bf16) (x1 : FVec Ideal S1x1x64x4352 .bf16) (x2 : FVec Ideal S1x1x4352x128 .bf16)

/-- `D` holds the scores of head `g` against the 256 keys from column `o`. -/
def IsTile (g o : ℕ) (D : FVec Ideal S128x256 .f32) : Prop :=
  ∀ (a : Fin 128) (b : Fin 256), D (ix2 a b) = score x0 x1 g a (o + b)

/-- A literal index below the bound is itself. -/
theorem ofNat_lit {n k : ℕ} [NeZero n] (h : k < n) : (Fin.ofNat n k) = ⟨k, h⟩ := Fin.ext (Nat.mod_eq_of_lt h)

/-- One product of queries and a key tile gives scores. -/
theorem tile (g o : ℕ) (ho : o + 256 ≤ 4352) {q : FVec Ideal S1x1x128x64 .bf16} {k : FVec Ideal S1x1x64x256 .bf16} {s0 s1}
    (hq : ∀ (a : Fin 128) (j : Fin 64), q (ix4 0 0 a j) = x0 (ix4 0 (Fin.ofNat 4 g) a j))
    (hk : ∀ (j : Fin 64) (b : Fin 256), k (ix4 0 0 j b) = x1 (ix4 0 0 j (Fin.ofNat 4352 (o + b)))) :
    IsTile x0 x1 g o (matmul dot_S128x64_S64x256_S128x256_1_0_0_1_n_n none
      (shapeCast S128x64 q s0 : FVec Ideal S128x64 .bf16) (shapeCast S64x256 k s1 : FVec Ideal S64x256 .bf16)
      (constant S128x256 .f32 0x00000000#32)) := by
  intro a b
  pointwise [score, hq, hk]

/-- The queries of a head, as loaded. -/
theorem ld_q (g : ℕ) (hg : g < 4) (inb) (a : Fin 128) (j : Fin 64) :
    View.ld (Val := Elt Ideal) (S := S1x4x128x64) (e' := .bf16) x0 (Rect.unit ![0, g, 0, 0] ![1, 1, 128, 64] inb)
      (ix4 (n0 := 1) (n1 := 1) (n2 := 128) (n3 := 64) 0 0 a j) = x0 (ix4 0 (Fin.ofNat 4 g) a j) :=
  View.ld_unit_apply_of _ _ _ _ _ _ fun c => by
    fin_cases c
    · rfl
    · exact Nat.mod_eq_of_lt hg
    · exact (Nat.zero_add _).symm
    · exact (Nat.zero_add _).symm

/-- A key tile, as loaded. -/
theorem ld_k (o : ℕ) (ho : o + 256 ≤ 4352) (inb) (j : Fin 64) (b : Fin 256) :
    View.ld (Val := Elt Ideal) (S := S1x1x64x4352) (e' := .bf16) x1 (Rect.unit ![0, 0, 0, o] ![1, 1, 64, 256] inb)
      (ix4 (n0 := 1) (n1 := 1) (n2 := 64) (n3 := 256) 0 0 j b) = x1 (ix4 0 0 j (Fin.ofNat 4352 (o + b))) :=
  View.ld_unit_apply_of _ _ _ _ _ _ fun c => by
    fin_cases c
    · rfl
    · rfl
    · exact (Nat.zero_add _).symm
    · exact Nat.mod_eq_of_lt (by have := b.isLt; omega)

/-- Folding lane `b` of `c` over the lanes gives the greatest score over the first `n` keys. -/
def IsMax (g n : ℕ) (c : FVec Ideal S128x128 .f32) : Prop :=
  ∀ (a : Fin 128) (b : Fin 128), (∀ i < n, score x0 x1 g a (128 * i + b) ≤ c (ix2 a b)) ∧
    ∃ i < n, c (ix2 a b) = score x0 x1 g a (128 * i + b)

/-- The first half tile starts the running maximum. -/
theorem max_base {g : ℕ} {D : FVec Ideal S128x256 .f32} (hD : IsTile x0 x1 g 0 D) {h} :
    IsMax x0 x1 g 1 (extractStridedSlice S128x128 ![0, 0] D h) := by
  intro a b
  have e : extractStridedSlice S128x128 ![0, 0] D h (ix2 a b) = score x0 x1 g a (128 * 0 + b) := by
    pointwise
    refine (hD a ⟨b, by omega⟩).trans ?_
    simp only [Nat.zero_add]
  refine ⟨fun i hi => ?_, 0, by omega, e⟩
  obtain rfl : i = 0 := by omega
  exact e.ge

/-- A further half tile extends the running maximum by 128 keys. -/
theorem max_step {g n : ℕ} {o off : ℕ} {c : FVec Ideal S128x128 .f32} {D : FVec Ideal S128x256 .f32}
    (hc : IsMax x0 x1 g n c) (hD : IsTile x0 x1 g o D) (ho : o + off = 128 * n) (hoff : off + 128 ≤ 256) {h} :
    IsMax x0 x1 g (n + 1) (maximumf c (extractStridedSlice S128x128 ![0, off] D h)) := by
  intro a b
  have e : extractStridedSlice S128x128 ![0, off] D h (ix2 a b) = score x0 x1 g a (128 * n + b) := by
    pointwise
    refine (hD a ⟨off + b, by omega⟩).trans ?_
    rw [← ho]; dsimp only; congr 1; omega
  obtain ⟨h1, i, hi, h2⟩ := hc a b
  have e' : maximumf c (extractStridedSlice S128x128 ![0, off] D h) (ix2 a b)
      = max (c (ix2 a b)) (score x0 x1 g a (128 * n + b)) := by rw [← e]; rfl
  rw [e']
  refine ⟨fun j hj => ?_, ?_⟩
  · rcases Nat.lt_succ_iff_lt_or_eq.mp hj with hj | rfl
    · exact (h1 j hj).trans (le_max_left _ _)
    · exact le_max_right _ _
  · rcases max_choice (c (ix2 a b)) (score x0 x1 g a (128 * n + b)) with hm | hm
    · exact ⟨i, by omega, hm.trans h2⟩
    · exact ⟨n, by omega, hm⟩

/-- The row maximum spread over the lanes. -/
def IsTop (nk g : ℕ) (m : FVec Ideal S128x128 .f32) : Prop := ∀ a b : Fin 128, m (ix2 a b) = top x0 x1 nk g a

/-- The lane maximum, broadcast, is the greatest score of the row. -/
theorem top_of_max {g n : ℕ} {c : FVec Ideal S128x128 .f32} (hc : IsMax x0 x1 g n c) (hn : 0 < n) {h1 h2 h3} :
    IsTop x0 x1 (128 * n) g (broadcastTo S128x128 (shapeCast S128x1 (shapeCast S128x1 (multiReduction .maximumf [1] S128 c 0xFF800000#32 h1 h2 h3)
      shapeCasts_S128_S128x1) shapeCasts_S128x1_S128x1) broadcasts_S128x1_S128x128) := by
  intro a b
  pointwise
  rw [show Ideal.ofBits .f32 4286578688#32 = (⊥ : EReal) from by simp [Ideal.ofBits, Ideal.ieee]]
  apply le_antisymm
  · rw [Finset.fold_max_le]
    refine ⟨bot_le, fun x _ => ?_⟩
    obtain ⟨-, i, hi, h2⟩ := hc a x
    rw [h2]
    exact Finset.le_sup (f := score x0 x1 g a) (Finset.mem_range.mpr (by have := x.isLt; omega))
  · refine Finset.sup_le fun k hk => ?_
    have hk' := Finset.mem_range.mp hk
    rw [Finset.le_fold_max]
    refine Or.inr ⟨⟨k % 128, Nat.mod_lt _ (by norm_num)⟩, Finset.mem_univ _, ?_⟩
    have := (hc a ⟨k % 128, Nat.mod_lt _ (by norm_num)⟩).1 (k / 128) (by omega)
    rwa [show 128 * (k / 128) + (⟨k % 128, Nat.mod_lt _ (by norm_num)⟩ : Fin 128).val = k from Nat.div_add_mod k 128] at this

/-! ## The buffers -/

/-- A read of a scratch array is decided by the writes that cover it. -/
theorem canon_take {s : Shape} {e : EltTy} (n : ℕ) (G : s.Idx → Elt Ideal e) (L : List (View.Piece (Elt Ideal) s e)) (y : s.Idx)
    (h : View.PiecesOf G (L.take n)) (hc : ∃ p ∈ L.take n, y ∈ p.1.set) : View.canon L y = G y := by
  rw [← List.take_append_drop n L]
  exact View.canon_append_of_piecesOf G (L.drop n) (L.take n) h y hc

/-- What the score scratch holds. -/
def scores (g : ℕ) : S128x4352.Idx → Elt Ideal .f32 := fun y => score x0 x1 g (y 0) (y 1)

/-- A tile of scores is a tile of the scratch. -/
theorem tile_cast {g o : ℕ} {D : FVec Ideal S128x256 .f32} (hD : IsTile x0 x1 g o D) :
    IsTile x0 x1 g o (shapeCast S128x256 D shapeCasts_S128x256_S128x256) := by
  intro a b
  refine Eq.trans ?_ (hD a b)
  pointwise

/-- Each write into the score scratch agrees with `scores`. -/
theorem s_piece {g o : ℕ} {D : FVec Ideal S128x256 .f32} (hD : IsTile x0 x1 g o D) {inb}
    (x : (Rect.unit (s := S128x4352) ![0, o] ![128, 256] inb).shape.Idx) :
    D x = scores x0 x1 g ((Rect.unit (s := S128x4352) ![0, o] ![128, 256] inb).emb x) := by
  have e := hD (x 0) (x 1)
  rw [← eq_ix2 (n0 := 128) (n1 := 256) x] at e
  refine e.trans ?_
  unfold scores
  rw [ValueKit.rect_emb_unit_val _ _ inb x 1]
  congr 1
  exact Fin.ext ((ValueKit.rect_emb_unit_val _ _ inb x 0).trans (Nat.zero_add _)).symm

/-- `P` holds the scores of 128 keys from column `o`. -/
def IsPart (g o : ℕ) (P : FVec Ideal S128x128 .f32) : Prop := ∀ a b : Fin 128, P (ix2 a b) = score x0 x1 g a (o + b)

/-- A half tile read back from the scratch holds the scores. -/
theorem part {v : View sig .tc .vmem S128x4352 .f32} {g o nk : ℕ} {L : List (View.Piece (Elt Ideal) S128x4352 .f32)}
    (hL : ∀ y : S128x4352.Idx, (y 1 : ℕ) < nk → View.canon L y = scores x0 x1 g y) (ho : o + 128 ≤ nk) {inb} :
    IsPart x0 x1 g o (v.readCov L (Rect.unit (s := S128x4352) ![0, o] ![128, 128] inb).toLoadRect) := by
  intro a b
  rw [View.readCov_eq_canon']
  have e1 := Rect.idx_unit_val (s := S128x4352) ![0, o] ![128, 128] inb (ix2 (n0 := 128) (n1 := 128) a b) 1
  have e0 := Rect.idx_unit_val (s := S128x4352) ![0, o] ![128, 128] inb (ix2 (n0 := 128) (n1 := 128) a b) 0
  refine (hL _ ?_).trans ?_
  · refine lt_of_eq_of_lt e1 ?_
    have := b.isLt
    exact lt_of_lt_of_le (Nat.add_lt_add_left this o) ho
  · unfold scores
    refine congrArg₂ (score x0 x1 g) (Fin.ext (e0.trans (Nat.zero_add _))) e1

/-- What the weight scratch holds. -/
def weights (nk : ℕ) : S512x4352.Idx → Elt Ideal .bf16 := fun y => weight x0 x1 nk ((y 0 : ℕ) / 128) (Fin.ofNat 128 (y 0)) (y 1)

/-- Each write into the weight scratch agrees with `weights`. -/
theorem p_piece {nk g o r : ℕ} {P M : FVec Ideal S128x128 .f32} (hM : IsTop x0 x1 nk g M) (hP : IsPart x0 x1 g o P) (hr : r = 128 * g) {h1 h2 inb}
    (x : (Rect.unit (s := S512x4352) ![r, o] ![128, 128] inb).shape.Idx) :
    shapeCast S128x128 (truncf .bf16 (exp (subf P M)) h1) h2 x = weights x0 x1 nk ((Rect.unit (s := S512x4352) ![r, o] ![128, 128] inb).emb x) := by
  have eM := hM (x 0) (x 1)
  have eP := hP (x 0) (x 1)
  rw [← eq_ix2 (n0 := 128) (n1 := 128) x] at eM eP
  refine (show _ = Ideal.exp (P x - M x) by pointwise).trans ?_
  rw [eM, eP]
  unfold weights
  rw [ValueKit.rect_emb_unit_val _ _ inb x 1, ValueKit.rect_emb_unit_val _ _ inb x 0]
  have h0 : (x 0 : ℕ) < 128 := (x 0).isLt
  have eg : ((![r, o] : Fin 2 → ℕ) 0 + (x 0 : ℕ)) / 128 = g := by
    show (r + (x 0 : ℕ)) / 128 = g
    omega
  have ea : Fin.ofNat 128 ((![r, o] : Fin 2 → ℕ) 0 + (x 0 : ℕ)) = x 0 := by
    apply Fin.ext
    show (r + (x 0 : ℕ)) % 128 = x 0
    omega
  rw [eg, ea]
  rfl

/-! ## The output block -/

/-- What one output entry holds: the weighted values over the sum of the weights. -/
def quot (nk g : ℕ) (a : Fin 128) (d : ℕ) : EReal :=
  Ideal.div (∑ k : Fin nk, weight x0 x1 nk g a k * x2 (ix4 0 0 (Fin.ofNat 4352 k) (Fin.ofNat 128 d)))
    (∑ k : Fin nk, weight x0 x1 nk g a k * x2 (ix4 0 0 (Fin.ofNat 4352 k) (Fin.ofNat 128 (64 + d))))

/-- What the output block holds. -/
def outBlock (nk : ℕ) : S1x128x256.Idx → Elt Ideal .bf16 := fun y => quot x0 x1 x2 nk ((y 2 : ℕ) / 64) (y 1) ((y 2 : ℕ) % 64)

/-- The values, as loaded. -/
theorem ld_v (n : ℕ) (hn : n ≤ 4352) (inb) (k : Fin n) (d : Fin 128) :
    View.ld (Val := Elt Ideal) (S := S1x1x4352x128) (e' := .bf16) x2 (Rect.unit ![0, 0, 0, 0] ![1, 1, n, 128] inb)
      (ix4 (n0 := 1) (n1 := 1) (n2 := n) (n3 := 128) 0 0 k d) = x2 (ix4 0 0 (Fin.ofNat 4352 k) d) :=
  View.ld_unit_apply_of _ _ _ _ _ _ fun c => by
    fin_cases c
    · rfl
    · rfl
    · exact (Nat.mod_eq_of_lt (k.isLt.trans_le hn)).trans (Nat.zero_add _).symm
    · exact (Nat.zero_add _).symm

/-- The product of the weights with the values and the ones. -/
def IsAcc (nk : ℕ) (A : FVec Ideal S512x128 .f32) : Prop :=
  ∀ (r : Fin 512) (d : Fin 128), A (ix2 r d) =
    ∑ k : Fin nk, weight x0 x1 nk ((r : ℕ) / 128) (Fin.ofNat 128 r) k * x2 (ix4 0 0 (Fin.ofNat 4352 k) d)

/-- The product with the context values. -/
theorem acc_A {P : FVec Ideal S512x256 .bf16} {v : FVec Ideal S1x1x256x128 .bf16} {s1}
    (hP : ∀ (r : Fin 512) (k : Fin 256), P (ix2 r k) = weight x0 x1 256 ((r : ℕ) / 128) (Fin.ofNat 128 r) k)
    (hv : ∀ (k : Fin 256) (d : Fin 128), v (ix4 0 0 k d) = x2 (ix4 0 0 (Fin.ofNat 4352 k) d)) :
    IsAcc x0 x1 x2 256 (matmul dot_S512x256_S256x128_S512x128_1_0_0_1_n_n none P (shapeCast S256x128 v s1 : FVec Ideal S256x128 .bf16)
      (constant S512x128 .f32 0x00000000#32)) := by
  intro r d
  pointwise [hP, hv]

/-- The product with all values. -/
theorem acc_B {P : FVec Ideal S512x4352 .bf16} {v : FVec Ideal S1x1x4352x128 .bf16} {s1}
    (hP : ∀ (r : Fin 512) (k : Fin 4352), P (ix2 r k) = weight x0 x1 4352 ((r : ℕ) / 128) (Fin.ofNat 128 r) k)
    (hv : ∀ (k : Fin 4352) (d : Fin 128), v (ix4 0 0 k d) = x2 (ix4 0 0 (Fin.ofNat 4352 k) d)) :
    IsAcc x0 x1 x2 4352 (matmul dot_S512x4352_S4352x128_S512x128_1_0_0_1_n_n none P (shapeCast S4352x128 v s1 : FVec Ideal S4352x128 .bf16)
      (constant S512x128 .f32 0x00000000#32)) := by
  intro r d
  pointwise [hP, hv]

/-- Each write into the output block agrees with `outBlock`. -/
theorem o_piece {nk g r o : ℕ} {A : FVec Ideal S512x128 .f32} (hA : IsAcc x0 x1 x2 nk A) (hg : g < 4) (hr : r = 128 * g) (ho : o = 64 * g)
    {h1 h2 h3 h4 h5 inb} (x : (Rect.unit (s := S1x128x256) ![0, 0, o] ![1, 128, 64] inb).shape.Idx) :
    shapeCast S1x128x64 (truncf .bf16 (extractStridedSlice S128x64 ![r, 0]
      (divf (extractStridedSlice S512x64 ![0, 0] A h1) (extractStridedSlice S512x64 ![0, 64] A h2)) h3) h4) h5 x
      = outBlock x0 x1 x2 nk ((Rect.unit (s := S1x128x256) ![0, 0, o] ![1, 128, 64] inb).emb x) := by
  subst hr ho
  have h1 : (x 1 : ℕ) < 128 := (x 1).isLt
  have h2 : (x 2 : ℕ) < 64 := (x 2).isLt
  unfold outBlock
  rw [ValueKit.rect_emb_unit_val _ _ inb x 2]
  have eg : ((![0, 0, 64 * g] : Fin 3 → ℕ) 2 + (x 2 : ℕ)) / 64 = g := by
    show (64 * g + (x 2 : ℕ)) / 64 = g
    omega
  have ed : ((![0, 0, 64 * g] : Fin 3 → ℕ) 2 + (x 2 : ℕ)) % 64 = x 2 := by
    show (64 * g + (x 2 : ℕ)) % 64 = x 2
    omega
  have ea : (Rect.unit (s := S1x128x256) ![0, 0, 64 * g] ![1, 128, 64] inb).emb x 1 = x 1 :=
    Fin.ext ((ValueKit.rect_emb_unit_val _ _ inb x 1).trans (Nat.zero_add _))
  rw [eg, ed, ea]
  have eA := hA ⟨128 * g + (x 1 : ℕ), by omega⟩ ⟨x 2, by omega⟩
  have eB := hA ⟨128 * g + (x 1 : ℕ), by omega⟩ ⟨64 + x 2, by omega⟩
  have eg' : (128 * g + (x 1 : ℕ)) / 128 = g := by omega
  have ea' : Fin.ofNat 128 (128 * g + (x 1 : ℕ)) = x 1 := Fin.ext (show (128 * g + (x 1 : ℕ)) % 128 = x 1 by omega)
  dsimp only at eA eB
  rw [eg', ea'] at eA eB
  pointwise
  rw [eA, eB]
  unfold quot
  rw [ofNat_lit (show (x 2 : ℕ) < 128 by omega), ofNat_lit (show 64 + (x 2 : ℕ) < 128 by omega)]

/-- One more agreeing write. -/
theorem piecesOf_cons {s : Shape} {e : EltTy} {G : s.Idx → Elt Ideal e} {r : Rect s} {w : r.shape.Idx → Elt Ideal e}
    {L : List (View.Piece (Elt Ideal) s e)} (h1 : ∀ x, w x = G (r.emb x)) (h2 : View.PiecesOf G L) :
    View.PiecesOf G (⟨r, w⟩ :: L) := ⟨h1, h2⟩

/-- The weights read back for the context keys. -/
theorem read_A {v : View sig .tc .vmem S512x4352 .bf16} {L : List (View.Piece (Elt Ideal) S512x4352 .bf16)}
    (hL : ∀ y : S512x4352.Idx, (y 1 : ℕ) < 256 → View.canon L y = weights x0 x1 256 y) {inb} (r : Fin 512) (k : Fin 256) :
    v.readCov L (Rect.unit (s := S512x4352) ![0, 0] ![512, 256] inb).toLoadRect (ix2 (n0 := 512) (n1 := 256) r k)
      = weight x0 x1 256 ((r : ℕ) / 128) (Fin.ofNat 128 r) k := by
  rw [View.readCov_eq_canon']
  have e1 := (Rect.idx_unit_val (s := S512x4352) ![0, 0] ![512, 256] inb (ix2 (n0 := 512) (n1 := 256) r k) 1).trans (Nat.zero_add _)
  have e0 := (Rect.idx_unit_val (s := S512x4352) ![0, 0] ![512, 256] inb (ix2 (n0 := 512) (n1 := 256) r k) 0).trans (Nat.zero_add _)
  refine (hL _ (lt_of_eq_of_lt e1 k.isLt)).trans ?_
  unfold weights
  show weight x0 x1 256 (((Rect.unit (s := S512x4352) ![0, 0] ![512, 256] inb).idx (ix2 (n0 := 512) (n1 := 256) r k) 0 : ℕ) / 128)
    (Fin.ofNat 128 ((Rect.unit (s := S512x4352) ![0, 0] ![512, 256] inb).idx (ix2 (n0 := 512) (n1 := 256) r k) 0 : ℕ))
    ((Rect.unit (s := S512x4352) ![0, 0] ![512, 256] inb).idx (ix2 (n0 := 512) (n1 := 256) r k) 1 : ℕ) = _
  rw [e0, e1]
  rfl

/-- The weights read back for all keys. -/
theorem read_B {v : View sig .tc .vmem S512x4352 .bf16} {L : List (View.Piece (Elt Ideal) S512x4352 .bf16)}
    (hL : ∀ y : S512x4352.Idx, View.canon L y = weights x0 x1 4352 y) {inb} (r : Fin 512) (k : Fin 4352) :
    v.readCov L (Rect.unit (s := S512x4352) ![0, 0] ![512, 4352] inb).toLoadRect (ix2 (n0 := 512) (n1 := 4352) r k)
      = weight x0 x1 4352 ((r : ℕ) / 128) (Fin.ofNat 128 r) k := by
  rw [View.readCov_eq_canon']
  have e1 := (Rect.idx_unit_val (s := S512x4352) ![0, 0] ![512, 4352] inb (ix2 (n0 := 512) (n1 := 4352) r k) 1).trans (Nat.zero_add _)
  have e0 := (Rect.idx_unit_val (s := S512x4352) ![0, 0] ![512, 4352] inb (ix2 (n0 := 512) (n1 := 4352) r k) 0).trans (Nat.zero_add _)
  refine (hL _).trans ?_
  show weight x0 x1 4352 (((Rect.unit (s := S512x4352) ![0, 0] ![512, 4352] inb).idx (ix2 (n0 := 512) (n1 := 4352) r k) 0 : ℕ) / 128)
    (Fin.ofNat 128 ((Rect.unit (s := S512x4352) ![0, 0] ![512, 4352] inb).idx (ix2 (n0 := 512) (n1 := 4352) r k) 0 : ℕ))
    ((Rect.unit (s := S512x4352) ![0, 0] ![512, 4352] inb).idx (ix2 (n0 := 512) (n1 := 4352) r k) 1 : ℕ) = _
  rw [e0, e1]
  rfl

/-- One more agreeing write among the first ones. -/
theorem take_cons {s : Shape} {e : EltTy} {G : s.Idx → Elt Ideal e} {n : ℕ} {r : Rect s} {w : r.shape.Idx → Elt Ideal e}
    {L : List (View.Piece (Elt Ideal) s e)} (h1 : ∀ x, w x = G (r.emb x)) (h2 : View.PiecesOf G (L.take n)) :
    View.PiecesOf G ((⟨r, w⟩ :: L : List (View.Piece (Elt Ideal) s e)).take (n + 1)) := ⟨h1, h2⟩

/-- The first write covers the index. -/
theorem cov_here {s : Shape} {e : EltTy} {n : ℕ} {y : s.Idx} {off size : Fin s.rank → ℕ} {inb} {w : (Rect.unit off size inb).shape.Idx → Elt Ideal e}
    {L : List (View.Piece (Elt Ideal) s e)} (h : ∀ a, off a ≤ (y a : ℕ) ∧ (y a : ℕ) < off a + size a) :
    ∃ p ∈ (⟨Rect.unit off size inb, w⟩ :: L : List (View.Piece (Elt Ideal) s e)).take (n + 1), y ∈ p.1.set :=
  ⟨⟨Rect.unit off size inb, w⟩, List.mem_cons_self, show y ∈ (Rect.unit off size inb).set from Rect.mem_set_unit.mpr h⟩

/-- A later write covers the index. -/
theorem cov_next {s : Shape} {e : EltTy} {n : ℕ} {y : s.Idx} {q : View.Piece (Elt Ideal) s e}
    {L : List (View.Piece (Elt Ideal) s e)} (h : ∃ p ∈ L.take n, y ∈ p.1.set) :
    ∃ p ∈ (q :: L).take (n + 1), y ∈ p.1.set := by
  obtain ⟨p, hp, hy⟩ := h
  exact ⟨p, List.mem_cons_of_mem _ hp, hy⟩

/-- The first write into the weight scratch covers the index. -/
theorem cov_here2 {n a b : ℕ} {y : S512x4352.Idx} {inb} {w : (Rect.unit (s := S512x4352) ![a, b] ![128, 128] inb).shape.Idx → Elt Ideal .bf16}
    {L : List (View.Piece (Elt Ideal) S512x4352 .bf16)}
    (h : (a ≤ (y 0 : ℕ) ∧ (y 0 : ℕ) < a + 128) ∧ (b ≤ (y 1 : ℕ) ∧ (y 1 : ℕ) < b + 128)) :
    ∃ p ∈ (⟨Rect.unit ![a, b] ![128, 128] inb, w⟩ :: L : List (View.Piece (Elt Ideal) S512x4352 .bf16)).take (n + 1), y ∈ p.1.set :=
  cov_here fun c => match c with
    | 0 => h.1
    | 1 => h.2

set_option maxHeartbeats 400000
/-- A step of context queries writes `outBlock` over 256 keys. -/
theorem out_A (c : Dev nD) (i : grid0.Coords) (arg3 : Memref sig .tc .vmem S1x4x128x64 .bf16) (harg3 : arg3.IsWhole) (arg4 : Memref sig .tc .vmem S1x1x64x4352 .bf16) (harg4 : arg4.IsWhole) (arg5 : Memref sig .tc .vmem S1x1x4352x128 .bf16) (harg5 : arg5.IsWhole) (arg6 : Memref sig .tc .vmem S1x128x256 .bf16) (harg6 : arg6.IsWhole) (arg7 : Memref sig .tc .vmem S128x4352 .f32) (harg7 : arg7.IsWhole) (arg8 : Memref sig .tc .vmem S512x4352 .bf16) (harg8 : arg8.IsWhole) (hc0 : cond0_0 i) (hc1 : ¬cond0_1 i) (y : S1x128x256.Idx) :
    out0_A_3 (F := Ideal) c i arg3 harg3 arg4 harg4 arg5 harg5 arg6 harg6 arg7 harg7 arg8 harg8 hc0 hc1 x0 x1 x2 y = outBlock x0 x1 x2 256 y := by
  have hcov := cover0_A_3 (F := Ideal) c i arg3 harg3 arg4 harg4 arg5 harg5 arg6 harg6 arg7 harg7 arg8 harg8 hc0 hc1 x0 x1 x2 y
  unfold out0_A_3
  rw [View.read_writes_junk_eq_canon]
  refine View.canon_apply_of_pieces (outBlock x0 x1 x2 256) _ ?_ y hcov
  refine View.PiecesOf.mem ?_
  clear hcov
  frame_open
  simp (disch := decide) only [View.readAt_eq_ld, Memref.IsWhole.read_unread]
  refine piecesOf_cons (o_piece x0 x1 x2 (g := 3) ?hA (by decide) rfl rfl) ?_
  rotate_left
  refine piecesOf_cons (o_piece x0 x1 x2 (g := 2) ?hA (by decide) rfl rfl) ?_
  refine piecesOf_cons (o_piece x0 x1 x2 (g := 1) ?hA (by decide) rfl rfl) ?_
  refine piecesOf_cons (o_piece x0 x1 x2 (g := 0) ?hA (by decide) rfl rfl) trivial
  case hA =>
    refine acc_A x0 x1 x2 (read_A x0 x1 ?hP) (ld_v x2 256 (by decide) _)
    case hP =>
      intro y hy
      refine canon_take 8 _ _ y ?_ ?_
      ·
        refine take_cons (p_piece x0 x1 (g := 3) ?hM3 (part x0 x1 (nk := 256) ?hL3 (by decide)) rfl) ?_
        rotate_left 2
        iterate 1 refine take_cons (p_piece x0 x1 (g := 3) ?hM3 (part x0 x1 (nk := 256) ?hL3 (by decide)) rfl) ?_
        refine take_cons (p_piece x0 x1 (g := 2) ?hM2 (part x0 x1 (nk := 256) ?hL2 (by decide)) rfl) ?_
        rotate_left 2
        iterate 1 refine take_cons (p_piece x0 x1 (g := 2) ?hM2 (part x0 x1 (nk := 256) ?hL2 (by decide)) rfl) ?_
        refine take_cons (p_piece x0 x1 (g := 1) ?hM1 (part x0 x1 (nk := 256) ?hL1 (by decide)) rfl) ?_
        rotate_left 2
        iterate 1 refine take_cons (p_piece x0 x1 (g := 1) ?hM1 (part x0 x1 (nk := 256) ?hL1 (by decide)) rfl) ?_
        refine take_cons (p_piece x0 x1 (g := 0) ?hM0 (part x0 x1 (nk := 256) ?hL0 (by decide)) rfl) ?_
        rotate_left 2
        iterate 1 refine take_cons (p_piece x0 x1 (g := 0) ?hM0 (part x0 x1 (nk := 256) ?hL0 (by decide)) rfl) ?_
        exact trivial
        case hM3 =>
          refine top_of_max x0 x1 (n := 2) ?_ (by decide)
          iterate 1 refine max_step x0 x1 (h := by decide) ?_ (tile x0 x1 _ _ (by decide) (ld_q x0 _ (by decide) _) (ld_k x1 _ (by decide) _)) (by decide) (by decide)
          exact max_base x0 x1 (tile x0 x1 _ _ (by decide) (ld_q x0 _ (by decide) _) (ld_k x1 _ (by decide) _))
        case hL3 =>
          intro y hy
          refine canon_take 1 _ _ y ?_ ?_
          · iterate 1 refine take_cons (s_piece x0 x1 (tile_cast x0 x1 (tile x0 x1 _ _ (by decide) (ld_q x0 _ (by decide) _) (ld_k x1 _ (by decide) _)))) ?_
            exact trivial
          · refine cov_here fun a => ?_
            match a with
            | 0 => exact ⟨Nat.zero_le _, (y 0).isLt⟩
            | 1 => exact ⟨Nat.zero_le _, hy⟩
        case hM2 =>
          refine top_of_max x0 x1 (n := 2) ?_ (by decide)
          iterate 1 refine max_step x0 x1 (h := by decide) ?_ (tile x0 x1 _ _ (by decide) (ld_q x0 _ (by decide) _) (ld_k x1 _ (by decide) _)) (by decide) (by decide)
          exact max_base x0 x1 (tile x0 x1 _ _ (by decide) (ld_q x0 _ (by decide) _) (ld_k x1 _ (by decide) _))
        case hL2 =>
          intro y hy
          refine canon_take 1 _ _ y ?_ ?_
          · iterate 1 refine take_cons (s_piece x0 x1 (tile_cast x0 x1 (tile x0 x1 _ _ (by decide) (ld_q x0 _ (by decide) _) (ld_k x1 _ (by decide) _)))) ?_
            exact trivial
          · refine cov_here fun a => ?_
            match a with
            | 0 => exact ⟨Nat.zero_le _, (y 0).isLt⟩
            | 1 => exact ⟨Nat.zero_le _, hy⟩
        case hM1 =>
          refine top_of_max x0 x1 (n := 2) ?_ (by decide)
          iterate 1 refine max_step x0 x1 (h := by decide) ?_ (tile x0 x1 _ _ (by decide) (ld_q x0 _ (by decide) _) (ld_k x1 _ (by decide) _)) (by decide) (by decide)
          exact max_base x0 x1 (tile x0 x1 _ _ (by decide) (ld_q x0 _ (by decide) _) (ld_k x1 _ (by decide) _))
        case hL1 =>
          intro y hy
          refine canon_take 1 _ _ y ?_ ?_
          · iterate 1 refine take_cons (s_piece x0 x1 (tile_cast x0 x1 (tile x0 x1 _ _ (by decide) (ld_q x0 _ (by decide) _) (ld_k x1 _ (by decide) _)))) ?_
            exact trivial
          · refine cov_here fun a => ?_
            match a with
            | 0 => exact ⟨Nat.zero_le _, (y 0).isLt⟩
            | 1 => exact ⟨Nat.zero_le _, hy⟩
        case hM0 =>
          refine top_of_max x0 x1 (n := 2) ?_ (by decide)
          iterate 1 refine max_step x0 x1 (h := by decide) ?_ (tile x0 x1 _ _ (by decide) (ld_q x0 _ (by decide) _) (ld_k x1 _ (by decide) _)) (by decide) (by decide)
          exact max_base x0 x1 (tile x0 x1 _ _ (by decide) (ld_q x0 _ (by decide) _) (ld_k x1 _ (by decide) _))
        case hL0 =>
          intro y hy
          refine canon_take 1 _ _ y ?_ ?_
          · iterate 1 refine take_cons (s_piece x0 x1 (tile_cast x0 x1 (tile x0 x1 _ _ (by decide) (ld_q x0 _ (by decide) _) (ld_k x1 _ (by decide) _)))) ?_
            exact trivial
          · refine cov_here fun a => ?_
            match a with
            | 0 => exact ⟨Nat.zero_le _, (y 0).isLt⟩
            | 1 => exact ⟨Nat.zero_le _, hy⟩
      ·
        have h0 : (y 0 : ℕ) < 512 := (y 0).isLt
        rcases (by omega : (y 0 : ℕ) / 128 = 3 ∨ (y 0 : ℕ) / 128 = 2 ∨ (y 0 : ℕ) / 128 = 1 ∨ (y 0 : ℕ) / 128 = 0) with h | h | h | h <;>
          rcases (by omega : (y 1 : ℕ) / 128 = 1 ∨ (y 1 : ℕ) / 128 = 0) with h' | h' <;>
          repeat' first
            | exact cov_here2 (by omega)
            | apply cov_next
set_option maxHeartbeats 8000000
/-- A step of latent queries writes `outBlock` over all 4352 keys. -/
theorem out_B (c : Dev nD) (i : grid0.Coords) (arg3 : Memref sig .tc .vmem S1x4x128x64 .bf16) (harg3 : arg3.IsWhole) (arg4 : Memref sig .tc .vmem S1x1x64x4352 .bf16) (harg4 : arg4.IsWhole) (arg5 : Memref sig .tc .vmem S1x1x4352x128 .bf16) (harg5 : arg5.IsWhole) (arg6 : Memref sig .tc .vmem S1x128x256 .bf16) (harg6 : arg6.IsWhole) (arg7 : Memref sig .tc .vmem S128x4352 .f32) (harg7 : arg7.IsWhole) (arg8 : Memref sig .tc .vmem S512x4352 .bf16) (harg8 : arg8.IsWhole) (hc0 : ¬cond0_0 i) (hc1 : cond0_1 i) (y : S1x128x256.Idx) :
    out0_B_3 (F := Ideal) c i arg3 harg3 arg4 harg4 arg5 harg5 arg6 harg6 arg7 harg7 arg8 harg8 hc0 hc1 x0 x1 x2 y = outBlock x0 x1 x2 4352 y := by
  have hcov := cover0_B_3 (F := Ideal) c i arg3 harg3 arg4 harg4 arg5 harg5 arg6 harg6 arg7 harg7 arg8 harg8 hc0 hc1 x0 x1 x2 y
  unfold out0_B_3
  rw [View.read_writes_junk_eq_canon]
  refine View.canon_apply_of_pieces (outBlock x0 x1 x2 4352) _ ?_ y hcov
  refine View.PiecesOf.mem ?_
  clear hcov
  frame_open
  simp (disch := decide) only [View.readAt_eq_ld, Memref.IsWhole.read_unread]
  refine piecesOf_cons (o_piece x0 x1 x2 (g := 3) ?hA (by decide) rfl rfl) ?_
  rotate_left
  refine piecesOf_cons (o_piece x0 x1 x2 (g := 2) ?hA (by decide) rfl rfl) ?_
  refine piecesOf_cons (o_piece x0 x1 x2 (g := 1) ?hA (by decide) rfl rfl) ?_
  refine piecesOf_cons (o_piece x0 x1 x2 (g := 0) ?hA (by decide) rfl rfl) trivial
  case hA =>
    refine acc_B x0 x1 x2 (read_B x0 x1 ?hP) (ld_v x2 4352 (by decide) _)
    case hP =>
      intro y
      refine canon_take 136 _ _ y ?_ ?_
      ·
        refine take_cons (p_piece x0 x1 (g := 3) ?hM3 (part x0 x1 (nk := 4352) ?hL3 (by decide)) rfl) ?_
        rotate_left 2
        iterate 33 refine take_cons (p_piece x0 x1 (g := 3) ?hM3 (part x0 x1 (nk := 4352) ?hL3 (by decide)) rfl) ?_
        refine take_cons (p_piece x0 x1 (g := 2) ?hM2 (part x0 x1 (nk := 4352) ?hL2 (by decide)) rfl) ?_
        rotate_left 2
        iterate 33 refine take_cons (p_piece x0 x1 (g := 2) ?hM2 (part x0 x1 (nk := 4352) ?hL2 (by decide)) rfl) ?_
        refine take_cons (p_piece x0 x1 (g := 1) ?hM1 (part x0 x1 (nk := 4352) ?hL1 (by decide)) rfl) ?_
        rotate_left 2
        iterate 33 refine take_cons (p_piece x0 x1 (g := 1) ?hM1 (part x0 x1 (nk := 4352) ?hL1 (by decide)) rfl) ?_
        refine take_cons (p_piece x0 x1 (g := 0) ?hM0 (part x0 x1 (nk := 4352) ?hL0 (by decide)) rfl) ?_
        rotate_left 2
        iterate 33 refine take_cons (p_piece x0 x1 (g := 0) ?hM0 (part x0 x1 (nk := 4352) ?hL0 (by decide)) rfl) ?_
        exact trivial
        case hM3 =>
          refine top_of_max x0 x1 (n := 34) ?_ (by decide)
          iterate 33 refine max_step x0 x1 (h := by decide) ?_ (tile x0 x1 _ _ (by decide) (ld_q x0 _ (by decide) _) (ld_k x1 _ (by decide) _)) (by decide) (by decide)
          exact max_base x0 x1 (tile x0 x1 _ _ (by decide) (ld_q x0 _ (by decide) _) (ld_k x1 _ (by decide) _))
        case hL3 =>
          intro y hy
          refine canon_take 17 _ _ y ?_ ?_
          · iterate 17 refine take_cons (s_piece x0 x1 (tile_cast x0 x1 (tile x0 x1 _ _ (by decide) (ld_q x0 _ (by decide) _) (ld_k x1 _ (by decide) _)))) ?_
            exact trivial
          · exact View.cover_of_tiledL _ ![128, 256] (by sl_kernel_rfl) y
        case hM2 =>
          refine top_of_max x0 x1 (n := 34) ?_ (by decide)
          iterate 33 refine max_step x0 x1 (h := by decide) ?_ (tile x0 x1 _ _ (by decide) (ld_q x0 _ (by decide) _) (ld_k x1 _ (by decide) _)) (by decide) (by decide)
          exact max_base x0 x1 (tile x0 x1 _ _ (by decide) (ld_q x0 _ (by decide) _) (ld_k x1 _ (by decide) _))
        case hL2 =>
          intro y hy
          refine canon_take 17 _ _ y ?_ ?_
          · iterate 17 refine take_cons (s_piece x0 x1 (tile_cast x0 x1 (tile x0 x1 _ _ (by decide) (ld_q x0 _ (by decide) _) (ld_k x1 _ (by decide) _)))) ?_
            exact trivial
          · exact View.cover_of_tiledL _ ![128, 256] (by sl_kernel_rfl) y
        case hM1 =>
          refine top_of_max x0 x1 (n := 34) ?_ (by decide)
          iterate 33 refine max_step x0 x1 (h := by decide) ?_ (tile x0 x1 _ _ (by decide) (ld_q x0 _ (by decide) _) (ld_k x1 _ (by decide) _)) (by decide) (by decide)
          exact max_base x0 x1 (tile x0 x1 _ _ (by decide) (ld_q x0 _ (by decide) _) (ld_k x1 _ (by decide) _))
        case hL1 =>
          intro y hy
          refine canon_take 17 _ _ y ?_ ?_
          · iterate 17 refine take_cons (s_piece x0 x1 (tile_cast x0 x1 (tile x0 x1 _ _ (by decide) (ld_q x0 _ (by decide) _) (ld_k x1 _ (by decide) _)))) ?_
            exact trivial
          · exact View.cover_of_tiledL _ ![128, 256] (by sl_kernel_rfl) y
        case hM0 =>
          refine top_of_max x0 x1 (n := 34) ?_ (by decide)
          iterate 33 refine max_step x0 x1 (h := by decide) ?_ (tile x0 x1 _ _ (by decide) (ld_q x0 _ (by decide) _) (ld_k x1 _ (by decide) _)) (by decide) (by decide)
          exact max_base x0 x1 (tile x0 x1 _ _ (by decide) (ld_q x0 _ (by decide) _) (ld_k x1 _ (by decide) _))
        case hL0 =>
          intro y hy
          refine canon_take 17 _ _ y ?_ ?_
          · iterate 17 refine take_cons (s_piece x0 x1 (tile_cast x0 x1 (tile x0 x1 _ _ (by decide) (ld_q x0 _ (by decide) _) (ld_k x1 _ (by decide) _)))) ?_
            exact trivial
          · exact View.cover_of_tiledL _ ![128, 256] (by sl_kernel_rfl) y
      ·
        exact View.cover_of_tiledL _ ![128, 128] (by sl_kernel_rfl) y

end Cert.KernelIdeal.Attn
-- ==== Proof.Array.lean ====
module

public import proofs.«01_k».proof.Proof.Block
public import Idealize.ShloMosaic.Lib.Pipeline.Covers
public import Idealize.ShloMosaic.Lib.Claim

@[expose] public section
set_option maxRecDepth 16384
noncomputable section
namespace Cert.KernelIdeal.Attn
open Idealize.ShloMosaic Idealize.ShloMosaic.TcCoe Idealize.ShloMosaic.Tactic
open Cert.KernelIdeal Cert.KernelIdeal.Gen

/-- The score of query row `s` of head `h` against key `j`. -/
def sc (q : FVec Ideal S16x8x4352x64 .f32) (k : FVec Ideal S16x2x4352x64 .f32) (b : Fin 16) (h : Fin 8) (s : Fin 4352) (j : ℕ) : EReal :=
  ∑ d : Fin 64, q (ix4 b h s d) * Ideal.ofBits .f32 0x3E000000#32 * k (ix4 b (Fin.ofNat 2 (h / 4)) (Fin.ofNat 4352 j) d)

/-- The unnormalised weight of key `j`. -/
def wt (q : FVec Ideal S16x8x4352x64 .f32) (k : FVec Ideal S16x2x4352x64 .f32) (nk : ℕ) (b : Fin 16) (h : Fin 8) (s : Fin 4352) (j : ℕ) : EReal :=
  Ideal.exp (sc q k b h s j - (Finset.range nk).sup (sc q k b h s))

/-- What the attention writes for one head, row and channel. -/
def attn (q : FVec Ideal S16x8x4352x64 .f32) (k v : FVec Ideal S16x2x4352x64 .f32) (nk : ℕ) (b : Fin 16) (h : Fin 8) (s : Fin 4352) (d : Fin 64) : EReal :=
  Ideal.div (∑ j : Fin nk, wt q k nk b h s j * v (ix4 b (Fin.ofNat 2 (h / 4)) (Fin.ofNat 4352 j) d))
    (∑ j : Fin nk, wt q k nk b h s j * Ideal.ofBits .f32 0x3F800000#32)

/-- The number of keys a row attends to. -/
def keys (s : ℕ) : ℕ := if s < 256 then 256 else 4352

/-- The result array. -/
def result (q : FVec Ideal S16x8x4352x64 .f32) (k v : FVec Ideal S16x2x4352x64 .f32) : FVec Ideal S16x4352x512 .bf16 := fun y =>
  attn q k v (keys (y 1)) (y 0) (Fin.ofNat 8 ((y 2 : ℕ) / 64)) (y 1) (Fin.ofNat 64 (y 2))

/-- The blocks of a grid step: batch, key head and query tile for the queries, batch and key head for keys and values, batch, query tile and key head for the output. -/
theorem idx : ∀ t : Fin cfg0.N, win0_0.index t = ![t.val / 68, t.val / 34 % 2, t.val % 34, 0] ∧ win0_1.index t = ![t.val / 68, t.val / 34 % 2, 0, 0]
    ∧ win0_2.index t = ![t.val / 68, t.val / 34 % 2, 0, 0] ∧ win0_3.index t = ![t.val / 68, t.val % 34, t.val / 34 % 2] ∧ t.val / 68 < 16 :=
  (by decide +kernel : ∀ t : Fin grid0.N, _)

variable (m : (ℓ : Loc nD τ sig) → Buf (Elt Ideal) ℓ)

/-- The three arguments, at their literal types. -/
abbrev argQ (c : Dev nD) : FVec Ideal S16x8x4352x64 .f32 := m ((c : Thread nD τ).loc main_arg0)
/-- The keys. -/
abbrev argK (c : Dev nD) : FVec Ideal S16x2x4352x64 .f32 := m ((c : Thread nD τ).loc main_arg1)
/-- The values. -/
abbrev argV (c : Dev nD) : FVec Ideal S16x2x4352x64 .f32 := m ((c : Thread nD τ).loc main_arg2)

/-- The prepared queries are the queries times the scale. -/
theorem V_q (c : Dev nD) : V m c main_v2 = fun x => argQ m c x * Ideal.ofBits .f32 0x3E000000#32 := by
  entry_read
  funext x
  pointwise [argQ]

/-- The prepared keys are the keys transposed. -/
theorem V_k (c : Dev nD) : V m c main_v4 = fun x => argK m c (ix4 (x 0) (x 1) (x 3) (x 2)) := by
  entry_read
  funext x
  pointwise [argK]

/-- The prepared values are the values with 64 columns of ones after them. -/
theorem V_v (c : Dev nD) : V m c main_v7 = fun x => if h : (x 3 : ℕ) < 64 then argV m c (ix4 (x 0) (x 1) (x 2) ⟨x 3, h⟩) else Ideal.ofBits .f32 0x3F800000#32 := by
  entry_read
  funext x
  pointwise [argV]

/-- What a step reads of the queries. -/
theorem blk_q (c : Dev nD) (t : Fin cfg0.N) (g : ℕ) (hg : g < 4) (a : Fin 128) (j : Fin 64) :
    iblk m c 0 t (ix4 0 (Fin.ofNat 4 g) a j) = argQ m c
      (ix4 (Fin.ofNat 16 (t.val / 68)) (Fin.ofNat 8 (t.val / 34 % 2 * 4 + g)) (Fin.ofNat 4352 (t.val % 34 * 128 + a)) j) * Ideal.ofBits .f32 0x3E000000#32 := by
  have ht : t.val < 1088 := t.isLt
  blk_simp [iblk, V_q m c, idx t]
  congr 2
  blk_ext [idx t] <;> simp only [Fin.val_ofNat] <;> omega

/-- What a step reads of the keys. -/
theorem blk_k (c : Dev nD) (t : Fin cfg0.N) (k : ℕ) (j : Fin 64) :
    iblk m c 1 t (ix4 0 0 j (Fin.ofNat 4352 k)) = argK m c
      (ix4 (Fin.ofNat 16 (t.val / 68)) (Fin.ofNat 2 (t.val / 34 % 2)) (Fin.ofNat 4352 k) j) := by
  have ht : t.val < 1088 := t.isLt
  blk_simp [iblk, V_k m c, idx t]
  blk_ext [idx t] <;> simp only [Fin.val_ofNat] <;> omega

/-- What a step reads of the values. -/
theorem blk_v (c : Dev nD) (t : Fin cfg0.N) (k : ℕ) (d : ℕ) (hd : d < 64) :
    iblk m c 2 t (ix4 0 0 (Fin.ofNat 4352 k) (Fin.ofNat 128 d)) = argV m c
      (ix4 (Fin.ofNat 16 (t.val / 68)) (Fin.ofNat 2 (t.val / 34 % 2)) (Fin.ofNat 4352 k) (Fin.ofNat 64 d)) := by
  have ht : t.val < 1088 := t.isLt
  have hd' : (Fin.ofNat 128 d : ℕ) = d := by simp only [Fin.val_ofNat]; omega
  blk_simp [iblk, V_v m c, idx t]
  rw [dif_pos (by omega)]
  blk_ext [idx t] <;> simp only [Fin.val_ofNat] <;> omega

/-- What a step reads right of the values: ones. -/
theorem blk_one (c : Dev nD) (t : Fin cfg0.N) (k : ℕ) (d : ℕ) (hd : d < 64) :
    iblk m c 2 t (ix4 0 0 (Fin.ofNat 4352 k) (Fin.ofNat 128 (64 + d))) = Ideal.ofBits .f32 0x3F800000#32 := by
  have hd' : (Fin.ofNat 128 (64 + d) : ℕ) = 64 + d := by simp only [Fin.val_ofNat]; omega
  blk_simp [iblk, V_v m c, idx t]
  rw [dif_neg (by omega)]

/-- A step's score is the array's. -/
theorem score_eq (c : Dev nD) (t : Fin cfg0.N) (g : ℕ) (hg : g < 4) (a : Fin 128) (k : ℕ) :
    score (iblk m c 0 t) (iblk m c 1 t) g a k = sc (argQ m c) (argK m c)
      (Fin.ofNat 16 (t.val / 68)) (Fin.ofNat 8 (t.val / 34 % 2 * 4 + g)) (Fin.ofNat 4352 (t.val % 34 * 128 + a)) k := by
  have hh : Fin.ofNat 2 ((Fin.ofNat 8 (t.val / 34 % 2 * 4 + g) : ℕ) / 4) = Fin.ofNat 2 (t.val / 34 % 2) :=
    Fin.ext (by simp only [Fin.val_ofNat]; omega)
  unfold score sc
  refine Finset.sum_congr rfl fun j _ => ?_
  rw [hh, blk_q m c t g hg a j, blk_k m c t k j]

/-- A step's quotient is the array's. -/
theorem outBlock_eq (c : Dev nD) (t : Fin cfg0.N) (nk : ℕ) (y : S1x128x256.Idx) :
    outBlock (iblk m c 0 t) (iblk m c 1 t) (iblk m c 2 t) nk y = attn (argQ m c) (argK m c) (argV m c) nk
      (Fin.ofNat 16 (t.val / 68)) (Fin.ofNat 8 (t.val / 34 % 2 * 4 + (y 2 : ℕ) / 64)) (Fin.ofNat 4352 (t.val % 34 * 128 + y 1)) (Fin.ofNat 64 (y 2)) := by
  have h2 : (y 2 : ℕ) < 256 := (y 2).isLt
  have hg : (y 2 : ℕ) / 64 < 4 := by omega
  have hm : (y 2 : ℕ) % 64 < 64 := by omega
  have hh : Fin.ofNat 2 ((Fin.ofNat 8 (t.val / 34 % 2 * 4 + (y 2 : ℕ) / 64) : ℕ) / 4) = Fin.ofNat 2 (t.val / 34 % 2) :=
    Fin.ext (by simp only [Fin.val_ofNat]; omega)
  have hd : Fin.ofNat 64 ((y 2 : ℕ) % 64) = Fin.ofNat 64 (y 2) := Fin.ext (by simp only [Fin.val_ofNat]; omega)
  have hs := funext (score_eq m c t _ hg (y 1))
  unfold outBlock quot attn
  refine congr_arg₂ _ (Finset.sum_congr rfl fun k _ => ?_) (Finset.sum_congr rfl fun k _ => ?_)
  · rw [blk_v m c t k _ hm, hh, hd]
    unfold weight top wt
    simp only [hs]
  · rw [blk_one m c t k _ hm]
    unfold weight top wt
    simp only [hs]

/-- The array that the call leaves is `result` of the three arguments. -/
theorem final (c : Dev nD) : (dats m 0 c).arrAt 3 cfg0.N = result (argQ m c) (argK m c) (argV m c) := by
  refine (dats m 0 c).arrAt_eq_of_covers 3 _ ((cfg0.win 3).covers_of_indexMap_surj rfl (by decide) fun β => ⟨fun a => match a with
    | 0 => β 0 | 1 => β 2 | 2 => β 1, fun a => ?_⟩) fun t hf y => ?_
  · match a with
    | 0 => exact (BitVec.toNat_ofNat ..).trans (Nat.mod_eq_of_lt ((β 0).isLt.trans (by decide)))
    | 1 => exact (BitVec.toNat_ofNat ..).trans (Nat.mod_eq_of_lt ((β 1).isLt.trans (by decide)))
    | 2 => exact (BitVec.toNat_ofNat ..).trans (Nat.mod_eq_of_lt ((β 2).isLt.trans (by decide)))
  · have ht : t.val < 1088 := t.isLt
    have hy1 : (y 1 : ℕ) < 128 := (y 1).isLt
    have hy2 : (y 2 : ℕ) < 256 := (y 2).isLt
    have hb : ∀ nk, nk = keys (t.val % 34 * 128 + y 1) → outBlock (iblk m c 0 t) (iblk m c 1 t) (iblk m c 2 t) nk y
        = result (argQ m c) (argK m c) (argV m c) ((win0_3.blk t).view.emb y) := by
      intro nk hnk
      have e0 : ((win0_3.blk t).view.emb y 0 : ℕ) = t.val / 68 := by blk_simp [idx t]
      have e1 : ((win0_3.blk t).view.emb y 1 : ℕ) = t.val % 34 * 128 + y 1 := by blk_simp [idx t]
      have e2 : ((win0_3.blk t).view.emb y 2 : ℕ) = t.val / 34 % 2 * 256 + y 2 := by blk_simp [idx t]
      rw [outBlock_eq]
      unfold result
      rw [e1, ← hnk, e2]
      congr 1
      · exact Fin.ext (by rw [e0]; simp only [Fin.val_ofNat]; omega)
      · exact Fin.ext (by simp only [Fin.val_ofNat]; omega)
      · exact Fin.ext (by rw [e1]; simp only [Fin.val_ofNat]; omega)
      · exact Fin.ext (by simp only [Fin.val_ofNat]; omega)
    blk_simp
    rw [after0_3]
    by_cases h0 : t.val % 34 ≤ 1
    · rw [outsAt0_A m c t h0 (by omega)]
      exact (out_A _ _ _ _ _ _ _ _ _ _ _ _ _ _ _ _ _ _ _ _).trans (hb 256 (if_pos (by omega)).symm)
    · rw [outsAt0_B m c t h0 (by omega)]
      exact (out_B _ _ _ _ _ _ _ _ _ _ _ _ _ _ _ _ _ _ _ _).trans (hb 4352 (if_neg (by omega)).symm)

end Cert.KernelIdeal.Attn
-- ==== Proof.RefSoftmax.lean ====
module

public import proofs.«01_k».proof.Proof.Gen.ReferenceIdeal.Run
public import Idealize.ShloMosaic.Lib.Pointwise
public import Idealize.ShloMosaic.Lib.Claim

@[expose] public section
set_option maxRecDepth 16384
noncomputable section
namespace Cert.ReferenceIdeal.Attn
open Idealize.ShloMosaic Idealize.ShloMosaic.TcCoe Idealize.ShloMosaic.Tactic
open Cert.ReferenceIdeal Cert.ReferenceIdeal.Gen

variable (m : (ℓ : Loc nD τ sig) → Buf (Elt Ideal) ℓ)

/-- The word of minus infinity. -/
theorem ofBits_bot : Ideal.ofBits .f32 0xFF800000#32 = ⊥ := by simp [Ideal.ofBits, Ideal.ieee]

/-- A fold of maxima from minus infinity is the supremum. -/
theorem max_fold {n : ℕ} (f : Fin n → EReal) :
    max (Ideal.ofBits .f32 0xFF800000#32) (Finset.univ.fold max (Ideal.ofBits .f32 0xFF800000#32) f) = Finset.univ.sup f := by
  rw [ofBits_bot, max_eq_right bot_le]
  rfl

/-- A maximum of arrays, read at an index. -/
theorem max_at {S : Shape} (a b : FVec Ideal S .f32) (y : S.Idx) : (maximumf a b : FVec Ideal S .f32) y = max (a y : EReal) (b y) := rfl

/-- An exponential of a difference, read at an index. -/
theorem exp_sub_at {S : Shape} (a b : FVec Ideal S .f32) (y : S.Idx) : (Host.exp (subf a b) : FVec Ideal S .f32) y = Ideal.exp ((a y : EReal) - b y) := rfl

/-- A quotient of arrays, read at an index. -/
theorem div_at {S : Shape} (a b : FVec Ideal S .f32) (y : S.Idx) : (Host.divf a b : FVec Ideal S .f32) y = Ideal.div (a y : EReal) (b y) := rfl

/-- The scaled score of query row `s` of head `h` against key `j`. -/
def score (q : FVec Ideal S16x8x4352x64 .f32) (k : FVec Ideal S16x2x4352x64 .f32) (b : Fin 16) (h : Fin 8) (s : Fin 4352) (j : ℕ) : EReal :=
  (∑ d : Fin 64, q (ix4 b h s d) * k (ix4 b (Fin.ofNat 2 (h / 4)) (Fin.ofNat 4352 j) d)) * Ideal.ofBits .f32 0x3E000000#32

/-- Softmax-weighted sum of `w` with scores `f`. -/
def softmax {n : ℕ} (f w : Fin n → EReal) : EReal :=
  ∑ x, Ideal.div (Ideal.exp (f x - Finset.univ.sup f)) (∑ j, Ideal.exp (f j - Finset.univ.sup f)) * w x

/-- The greatest context score of a row. -/
theorem rdA (D : FVec Ideal S16x2x4x256x256 .f32) (b : Fin 16) (i : Fin 2) (g : Fin 4) (s : Fin 256) :
    (Host.reduce FloatOps.maximumf D (constant S_ .f32 0xFF800000#32) reducesTo_S16x2x4x256x256_S16x2x4x256_d4 h_S_ : FVec Ideal S16x2x4x256 .f32) (ix4 b i g s)
      = Finset.univ.fold max (Ideal.ofBits .f32 0xFF800000#32) fun x : Fin 256 => D (ix5 b i g s x) := by
  pointwise

/-- Minus infinity, broadcast. -/
theorem stA (b : Fin 16) (i : Fin 2) (g : Fin 4) (s : Fin 256) : (broadcastInDim S16x2x4x256 ![] bcast_S_S16x2x4x256 (constant S_ .f32 0xFF800000#32) : FVec Ideal S16x2x4x256 .f32) (ix4 b i g s) = Ideal.ofBits .f32 0xFF800000#32 := by
  pointwise

/-- The greatest score of a row, as the reference takes it. -/
theorem mxA (D : FVec Ideal S16x2x4x256x256 .f32) (b : Fin 16) (i : Fin 2) (g : Fin 4) (s : Fin 256) :
    (maximumf (broadcastInDim S16x2x4x256 ![] bcast_S_S16x2x4x256 (constant S_ .f32 0xFF800000#32)) (Host.reduce FloatOps.maximumf D (constant S_ .f32 0xFF800000#32) reducesTo_S16x2x4x256x256_S16x2x4x256_d4 h_S_) : FVec Ideal S16x2x4x256 .f32) (ix4 b i g s) = Finset.univ.sup fun x : Fin 256 => D (ix5 b i g s x) :=
  (max_at _ _ _).trans ((congr_arg₂ (fun x y : EReal => max x y) (stA b i g s) (rdA D b i g s)).trans (max_fold _))

/-- A row value spread along the keys. -/
theorem bcA (M : FVec Ideal S16x2x4x256 .f32) (b : Fin 16) (i : Fin 2) (g : Fin 4) (s : Fin 256) (j : Fin 256) :
    (broadcastInDim S16x2x4x256x256 ![0, 1, 2, 3, 4] bcast_S16x2x4x256x1_S16x2x4x256x256_0_1_2_3_4 (broadcastInDim S16x2x4x256x1 ![0, 1, 2, 3] bcast_S16x2x4x256_S16x2x4x256x1_0_1_2_3 M) : FVec Ideal S16x2x4x256x256 .f32) (ix5 b i g s j) = M (ix4 b i g s) := by
  pointwise

/-- The sum of a row. -/
theorem smA (D : FVec Ideal S16x2x4x256x256 .f32) (b : Fin 16) (i : Fin 2) (g : Fin 4) (s : Fin 256) :
    (Host.reduceAdd D (constant S_ .f32 0x00000000#32) reducesTo_S16x2x4x256x256_S16x2x4x256_d4 h_S_ : FVec Ideal S16x2x4x256 .f32) (ix4 b i g s) = ∑ x : Fin 256, D (ix5 b i g s x) := by
  pointwise

/-- The product of weights and context values. -/
theorem dotA (P : FVec Ideal S16x2x4x256x256 .f32) (W : FVec Ideal S16x2x256x64 .f32) (b : Fin 16) (i : Fin 2) (g : Fin 4) (s : Fin 256) (d : Fin 64) :
    (Host.dotGeneral dot_S16x2x4x256x256_S16x2x256x64_S16x2x4x256x64_4_2_23_3_01_01 none P W : FVec Ideal S16x2x4x256x64 .f32) (ix5 b i g s d) = ∑ x : Fin 256, P (ix5 b i g s x) * W (ix4 b i x d) := by
  pointwise

/-- A context weight before division. -/
theorem wtA (D : FVec Ideal S16x2x4x256x256 .f32) (b : Fin 16) (i : Fin 2) (g : Fin 4) (s : Fin 256) (x : Fin 256) :
    ((Host.exp (subf D (broadcastInDim S16x2x4x256x256 ![0, 1, 2, 3, 4] bcast_S16x2x4x256x1_S16x2x4x256x256_0_1_2_3_4 (broadcastInDim S16x2x4x256x1 ![0, 1, 2, 3] bcast_S16x2x4x256_S16x2x4x256x1_0_1_2_3 (maximumf (broadcastInDim S16x2x4x256 ![] bcast_S_S16x2x4x256 (constant S_ .f32 0xFF800000#32)) (Host.reduce FloatOps.maximumf D (constant S_ .f32 0xFF800000#32) reducesTo_S16x2x4x256x256_S16x2x4x256_d4 h_S_) : FVec Ideal S16x2x4x256 .f32)) : FVec Ideal S16x2x4x256x256 .f32))) : FVec Ideal S16x2x4x256x256 .f32) (ix5 b i g s x) = Ideal.exp (D (ix5 b i g s x) - Finset.univ.sup fun x : Fin 256 => D (ix5 b i g s x)) :=
  (exp_sub_at _ _ _).trans <| congr_arg (fun z : EReal => Ideal.exp (D (ix5 b i g s x) - z)) ((bcA _ b i g s x).trans (mxA D b i g s))

/-- Softmax of the scores times the values, at one row and channel. -/
theorem softA (D : FVec Ideal S16x2x4x256x256 .f32) (W : FVec Ideal S16x2x256x64 .f32) (b : Fin 16) (i : Fin 2) (g : Fin 4) (s : Fin 256) (d : Fin 64) :
    (Host.dotGeneral dot_S16x2x4x256x256_S16x2x256x64_S16x2x4x256x64_4_2_23_3_01_01 none
      (Host.divf (Host.exp (subf D (broadcastInDim S16x2x4x256x256 ![0, 1, 2, 3, 4] bcast_S16x2x4x256x1_S16x2x4x256x256_0_1_2_3_4 (broadcastInDim S16x2x4x256x1 ![0, 1, 2, 3] bcast_S16x2x4x256_S16x2x4x256x1_0_1_2_3 (maximumf (broadcastInDim S16x2x4x256 ![] bcast_S_S16x2x4x256 (constant S_ .f32 0xFF800000#32)) (Host.reduce FloatOps.maximumf D (constant S_ .f32 0xFF800000#32) reducesTo_S16x2x4x256x256_S16x2x4x256_d4 h_S_) : FVec Ideal S16x2x4x256 .f32)) : FVec Ideal S16x2x4x256x256 .f32))) (broadcastInDim S16x2x4x256x256 ![0, 1, 2, 3, 4] bcast_S16x2x4x256x1_S16x2x4x256x256_0_1_2_3_4 (broadcastInDim S16x2x4x256x1 ![0, 1, 2, 3] bcast_S16x2x4x256_S16x2x4x256x1_0_1_2_3 (Host.reduceAdd (Host.exp (subf D (broadcastInDim S16x2x4x256x256 ![0, 1, 2, 3, 4] bcast_S16x2x4x256x1_S16x2x4x256x256_0_1_2_3_4 (broadcastInDim S16x2x4x256x1 ![0, 1, 2, 3] bcast_S16x2x4x256_S16x2x4x256x1_0_1_2_3 (maximumf (broadcastInDim S16x2x4x256 ![] bcast_S_S16x2x4x256 (constant S_ .f32 0xFF800000#32)) (Host.reduce FloatOps.maximumf D (constant S_ .f32 0xFF800000#32) reducesTo_S16x2x4x256x256_S16x2x4x256_d4 h_S_) : FVec Ideal S16x2x4x256 .f32)) : FVec Ideal S16x2x4x256x256 .f32))) (constant S_ .f32 0x00000000#32) reducesTo_S16x2x4x256x256_S16x2x4x256_d4 h_S_)) : FVec Ideal S16x2x4x256x256 .f32)) W : FVec Ideal S16x2x4x256x64 .f32) (ix5 b i g s d)
    = softmax (fun x : Fin 256 => D (ix5 b i g s x)) (fun x => W (ix4 b i x d)) := by
  refine (dotA _ W b i g s d).trans (Finset.sum_congr rfl fun x _ => congr_arg (fun z : EReal => z * W (ix4 b i x d)) ?_)
  exact (div_at _ _ _).trans <| congr_arg₂ Ideal.div (wtA D b i g s x)
    (((bcA _ b i g s x).trans (smA _ b i g s)).trans (Finset.sum_congr rfl fun j _ => wtA D b i g s j))

/-- The greatest latent score of a row. -/
theorem rdB (D : FVec Ideal S16x2x4x4096x4352 .f32) (b : Fin 16) (i : Fin 2) (g : Fin 4) (s : Fin 4096) :
    (Host.reduce FloatOps.maximumf D (constant S_ .f32 0xFF800000#32) reducesTo_S16x2x4x4096x4352_S16x2x4x4096_d4 h_S_ : FVec Ideal S16x2x4x4096 .f32) (ix4 b i g s)
      = Finset.univ.fold max (Ideal.ofBits .f32 0xFF800000#32) fun x : Fin 4352 => D (ix5 b i g s x) := by
  pointwise

/-- Minus infinity, broadcast. -/
theorem stB (b : Fin 16) (i : Fin 2) (g : Fin 4) (s : Fin 4096) : (broadcastInDim S16x2x4x4096 ![] bcast_S_S16x2x4x4096 (constant S_ .f32 0xFF800000#32) : FVec Ideal S16x2x4x4096 .f32) (ix4 b i g s) = Ideal.ofBits .f32 0xFF800000#32 := by
  pointwise

/-- The greatest score of a row, as the reference takes it. -/
theorem mxB (D : FVec Ideal S16x2x4x4096x4352 .f32) (b : Fin 16) (i : Fin 2) (g : Fin 4) (s : Fin 4096) :
    (maximumf (broadcastInDim S16x2x4x4096 ![] bcast_S_S16x2x4x4096 (constant S_ .f32 0xFF800000#32)) (Host.reduce FloatOps.maximumf D (constant S_ .f32 0xFF800000#32) reducesTo_S16x2x4x4096x4352_S16x2x4x4096_d4 h_S_) : FVec Ideal S16x2x4x4096 .f32) (ix4 b i g s) = Finset.univ.sup fun x : Fin 4352 => D (ix5 b i g s x) :=
  (max_at _ _ _).trans ((congr_arg₂ (fun x y : EReal => max x y) (stB b i g s) (rdB D b i g s)).trans (max_fold _))

/-- A row value spread along the keys. -/
theorem bcB (M : FVec Ideal S16x2x4x4096 .f32) (b : Fin 16) (i : Fin 2) (g : Fin 4) (s : Fin 4096) (j : Fin 4352) :
    (broadcastInDim S16x2x4x4096x4352 ![0, 1, 2, 3, 4] bcast_S16x2x4x4096x1_S16x2x4x4096x4352_0_1_2_3_4 (broadcastInDim S16x2x4x4096x1 ![0, 1, 2, 3] bcast_S16x2x4x4096_S16x2x4x4096x1_0_1_2_3 M) : FVec Ideal S16x2x4x4096x4352 .f32) (ix5 b i g s j) = M (ix4 b i g s) := by
  pointwise

/-- The sum of a row. -/
theorem smB (D : FVec Ideal S16x2x4x4096x4352 .f32) (b : Fin 16) (i : Fin 2) (g : Fin 4) (s : Fin 4096) :
    (Host.reduceAdd D (constant S_ .f32 0x00000000#32) reducesTo_S16x2x4x4096x4352_S16x2x4x4096_d4 h_S_ : FVec Ideal S16x2x4x4096 .f32) (ix4 b i g s) = ∑ x : Fin 4352, D (ix5 b i g s x) := by
  pointwise

/-- The product of weights and values. -/
theorem dotB (P : FVec Ideal S16x2x4x4096x4352 .f32) (W : FVec Ideal S16x2x4352x64 .f32) (b : Fin 16) (i : Fin 2) (g : Fin 4) (s : Fin 4096) (d : Fin 64) :
    (Host.dotGeneral dot_S16x2x4x4096x4352_S16x2x4352x64_S16x2x4x4096x64_4_2_23_3_01_01 none P W : FVec Ideal S16x2x4x4096x64 .f32) (ix5 b i g s d) = ∑ x : Fin 4352, P (ix5 b i g s x) * W (ix4 b i x d) := by
  pointwise

/-- A latent weight before division. -/
theorem wtB (D : FVec Ideal S16x2x4x4096x4352 .f32) (b : Fin 16) (i : Fin 2) (g : Fin 4) (s : Fin 4096) (x : Fin 4352) :
    ((Host.exp (subf D (broadcastInDim S16x2x4x4096x4352 ![0, 1, 2, 3, 4] bcast_S16x2x4x4096x1_S16x2x4x4096x4352_0_1_2_3_4 (broadcastInDim S16x2x4x4096x1 ![0, 1, 2, 3] bcast_S16x2x4x4096_S16x2x4x4096x1_0_1_2_3 (maximumf (broadcastInDim S16x2x4x4096 ![] bcast_S_S16x2x4x4096 (constant S_ .f32 0xFF800000#32)) (Host.reduce FloatOps.maximumf D (constant S_ .f32 0xFF800000#32) reducesTo_S16x2x4x4096x4352_S16x2x4x4096_d4 h_S_) : FVec Ideal S16x2x4x4096 .f32)) : FVec Ideal S16x2x4x4096x4352 .f32))) : FVec Ideal S16x2x4x4096x4352 .f32) (ix5 b i g s x) = Ideal.exp (D (ix5 b i g s x) - Finset.univ.sup fun x : Fin 4352 => D (ix5 b i g s x)) :=
  (exp_sub_at _ _ _).trans <| congr_arg (fun z : EReal => Ideal.exp (D (ix5 b i g s x) - z)) ((bcB _ b i g s x).trans (mxB D b i g s))

/-- Softmax of the scores times the values, at one row and channel. -/
theorem softB (D : FVec Ideal S16x2x4x4096x4352 .f32) (W : FVec Ideal S16x2x4352x64 .f32) (b : Fin 16) (i : Fin 2) (g : Fin 4) (s : Fin 4096) (d : Fin 64) :
    (Host.dotGeneral dot_S16x2x4x4096x4352_S16x2x4352x64_S16x2x4x4096x64_4_2_23_3_01_01 none
      (Host.divf (Host.exp (subf D (broadcastInDim S16x2x4x4096x4352 ![0, 1, 2, 3, 4] bcast_S16x2x4x4096x1_S16x2x4x4096x4352_0_1_2_3_4 (broadcastInDim S16x2x4x4096x1 ![0, 1, 2, 3] bcast_S16x2x4x4096_S16x2x4x4096x1_0_1_2_3 (maximumf (broadcastInDim S16x2x4x4096 ![] bcast_S_S16x2x4x4096 (constant S_ .f32 0xFF800000#32)) (Host.reduce FloatOps.maximumf D (constant S_ .f32 0xFF800000#32) reducesTo_S16x2x4x4096x4352_S16x2x4x4096_d4 h_S_) : FVec Ideal S16x2x4x4096 .f32)) : FVec Ideal S16x2x4x4096x4352 .f32))) (broadcastInDim S16x2x4x4096x4352 ![0, 1, 2, 3, 4] bcast_S16x2x4x4096x1_S16x2x4x4096x4352_0_1_2_3_4 (broadcastInDim S16x2x4x4096x1 ![0, 1, 2, 3] bcast_S16x2x4x4096_S16x2x4x4096x1_0_1_2_3 (Host.reduceAdd (Host.exp (subf D (broadcastInDim S16x2x4x4096x4352 ![0, 1, 2, 3, 4] bcast_S16x2x4x4096x1_S16x2x4x4096x4352_0_1_2_3_4 (broadcastInDim S16x2x4x4096x1 ![0, 1, 2, 3] bcast_S16x2x4x4096_S16x2x4x4096x1_0_1_2_3 (maximumf (broadcastInDim S16x2x4x4096 ![] bcast_S_S16x2x4x4096 (constant S_ .f32 0xFF800000#32)) (Host.reduce FloatOps.maximumf D (constant S_ .f32 0xFF800000#32) reducesTo_S16x2x4x4096x4352_S16x2x4x4096_d4 h_S_) : FVec Ideal S16x2x4x4096 .f32)) : FVec Ideal S16x2x4x4096x4352 .f32))) (constant S_ .f32 0x00000000#32) reducesTo_S16x2x4x4096x4352_S16x2x4x4096_d4 h_S_)) : FVec Ideal S16x2x4x4096x4352 .f32)) W : FVec Ideal S16x2x4x4096x64 .f32) (ix5 b i g s d)
    = softmax (fun x : Fin 4352 => D (ix5 b i g s x)) (fun x => W (ix4 b i x d)) := by
  refine (dotB _ W b i g s d).trans (Finset.sum_congr rfl fun x _ => congr_arg (fun z : EReal => z * W (ix4 b i x d)) ?_)
  exact (div_at _ _ _).trans <| congr_arg₂ Ideal.div (wtB D b i g s x)
    (((bcB _ b i g s x).trans (smB _ b i g s)).trans (Finset.sum_congr rfl fun j _ => wtB D b i g s j))
-- ==== Proof.RefRead.lean ====
module

public import proofs.«01_k».proof.Proof.RefSoftmax

@[expose] public section
set_option maxRecDepth 16384
noncomputable section
namespace Cert.ReferenceIdeal.Attn
open Idealize.ShloMosaic Idealize.ShloMosaic.TcCoe Idealize.ShloMosaic.Tactic
open Cert.ReferenceIdeal Cert.ReferenceIdeal.Gen

/-- A cast changes no value. -/
theorem trunc_at {S : Shape} (a : FVec Ideal S .f32) (y : S.Idx) : (truncf .bf16 a bitsLt_bf16_f32 : FVec Ideal S .bf16) y = (a y : EReal) := rfl

/-- The final transpose and reshape, read at an index. -/
theorem moved (C : FVec Ideal S16x2x4x4352x64 .f32) (b : Fin 16) (s : Fin 4352) (e : Fin 512) :
    (shapeCast S16x4352x512 (transpose S16x4352x2x4x64 [0, 3, 1, 2, 4] C transposes_S16x2x4x4352x64_S16x4352x2x4x64_0_3_1_2_4)
      shapeCasts_S16x4352x2x4x64_S16x4352x512 : FVec Ideal S16x4352x512 .f32) (ix3 b s e)
    = C (ix5 b (Fin.ofNat 2 ((e : ℕ) / 256)) (Fin.ofNat 4 ((e : ℕ) / 64)) s (Fin.ofNat 64 e)) := by
  have h1 := s.isLt
  have h2 := e.isLt
  pointwise
  refine congr_arg C ?_
  congr 1
  all_goals (refine Fin.ext ?_; simp only [Fin.val_ofNat]; omega)

/-- Context and latent rows joined, read at an index. -/
theorem joined (A : FVec Ideal S16x2x4x256x64 .f32) (B : FVec Ideal S16x2x4x4096x64 .f32) (b : Fin 16) (i : Fin 2) (g : Fin 4) (s : Fin 4352) (d : Fin 64) :
    (concatenate S16x2x4x4352x64 3 [⟨S16x2x4x256x64, A⟩, ⟨S16x2x4x4096x64, B⟩] concatenates_S16x2x4x256x64_S16x2x4x4096x64_S16x2x4x4352x64_d3 : FVec Ideal S16x2x4x4352x64 .f32) (ix5 b i g s d)
    = if (s : ℕ) < 256 then A (ix5 b i g (Fin.ofNat 256 s) d) else B (ix5 b i g (Fin.ofNat 4096 ((s : ℕ) - 256)) d) := by
  have h1 := s.isLt
  pointwise
  by_cases h : (s : ℕ) < 256
  · rw [dif_pos h, if_pos h]
    refine congr_arg A ?_
    congr 1
    refine Fin.ext ?_; simp only [Fin.val_ofNat]; omega
  · rw [dif_neg h, if_neg h]
    refine congr_arg B ?_
    congr 1
    refine Fin.ext ?_; simp only [Fin.val_ofNat]; omega

/-- A product of arrays, read at an index. -/
theorem mul_at {S : Shape} (a b : FVec Ideal S .f32) (y : S.Idx) : (mulf a b : FVec Ideal S .f32) y = (a y : EReal) * b y := rfl

/-- The context scores before scaling. -/
theorem dotA' (q : FVec Ideal S16x8x4352x64 .f32) (k : FVec Ideal S16x2x4352x64 .f32) (b : Fin 16) (i : Fin 2) (g : Fin 4) (s : Fin 256) (j : Fin 256) :
    (Host.dotGeneral dot_S16x2x4x256x64_S16x2x256x64_S16x2x4x256x256_4_3_23_2_01_01 none (extractStridedSlice S16x2x4x256x64 ![0, 0, 0, 0, 0] (shapeCast _ q shapeCasts_S16x8x4352x64_S16x2x4x4352x64) slices_S16x2x4x4352x64_S16x2x4x256x64_0_0_0_0_0) (extractStridedSlice S16x2x256x64 ![0, 0, 0, 0] k slices_S16x2x4352x64_S16x2x256x64_0_0_0_0) : FVec Ideal S16x2x4x256x256 .f32) (ix5 b i g s j)
    = ∑ d : Fin 64, q (ix4 b (Fin.ofNat 8 (i * 4 + g)) (Fin.ofNat 4352 (0 + s)) d) * k (ix4 b (Fin.ofNat 2 ((Fin.ofNat 8 (i * 4 + g) : ℕ) / 4)) (Fin.ofNat 4352 j) d) := by
  have hg := g.isLt
  have hs := s.isLt
  have hi := i.isLt
  have hj := j.isLt
  pointwise
  refine Finset.sum_congr rfl fun d _ => congr_arg₂ (fun x y : EReal => x * y) (congr_arg q ?_) (congr_arg k ?_) <;>
    congr 1 <;> refine Fin.ext ?_ <;> simp only [Fin.val_ofNat] <;> omega

/-- The scale, broadcast. -/
theorem splatA (b : Fin 16) (i : Fin 2) (g : Fin 4) (s : Fin 256) (j : Fin 256) :
    (broadcastInDim S16x2x4x256x256 ![] bcast_S_S16x2x4x256x256 (constant S_ .f32 0x3E000000#32) : FVec Ideal S16x2x4x256x256 .f32) (ix5 b i g s j) = Ideal.ofBits .f32 0x3E000000#32 := by
  pointwise

/-- The context scores. -/
theorem scoreA (q : FVec Ideal S16x8x4352x64 .f32) (k : FVec Ideal S16x2x4352x64 .f32) (b : Fin 16) (i : Fin 2) (g : Fin 4) (s : Fin 256) (j : Fin 256) :
    (mulf (Host.dotGeneral dot_S16x2x4x256x64_S16x2x256x64_S16x2x4x256x256_4_3_23_2_01_01 none (extractStridedSlice S16x2x4x256x64 ![0, 0, 0, 0, 0] (shapeCast _ q shapeCasts_S16x8x4352x64_S16x2x4x4352x64) slices_S16x2x4x4352x64_S16x2x4x256x64_0_0_0_0_0) (extractStridedSlice S16x2x256x64 ![0, 0, 0, 0] k slices_S16x2x4352x64_S16x2x256x64_0_0_0_0))
      (broadcastInDim S16x2x4x256x256 ![] bcast_S_S16x2x4x256x256 (constant S_ .f32 0x3E000000#32)) : FVec Ideal S16x2x4x256x256 .f32) (ix5 b i g s j)
    = score q k b (Fin.ofNat 8 (i * 4 + g)) (Fin.ofNat 4352 (0 + s)) j :=
  (mul_at _ _ _).trans (congr_arg₂ (fun x y : EReal => x * y) (dotA' q k b i g s j) (splatA b i g s j))

/-- The latent scores before scaling. -/
theorem dotB' (q : FVec Ideal S16x8x4352x64 .f32) (k : FVec Ideal S16x2x4352x64 .f32) (b : Fin 16) (i : Fin 2) (g : Fin 4) (s : Fin 4096) (j : Fin 4352) :
    (Host.dotGeneral dot_S16x2x4x4096x64_S16x2x4352x64_S16x2x4x4096x4352_4_3_23_2_01_01 none (extractStridedSlice S16x2x4x4096x64 ![0, 0, 0, 256, 0] (shapeCast _ q shapeCasts_S16x8x4352x64_S16x2x4x4352x64) slices_S16x2x4x4352x64_S16x2x4x4096x64_0_0_0_256_0) k : FVec Ideal S16x2x4x4096x4352 .f32) (ix5 b i g s j)
    = ∑ d : Fin 64, q (ix4 b (Fin.ofNat 8 (i * 4 + g)) (Fin.ofNat 4352 (256 + s)) d) * k (ix4 b (Fin.ofNat 2 ((Fin.ofNat 8 (i * 4 + g) : ℕ) / 4)) (Fin.ofNat 4352 j) d) := by
  have hg := g.isLt
  have hs := s.isLt
  have hi := i.isLt
  have hj := j.isLt
  pointwise
  refine Finset.sum_congr rfl fun d _ => congr_arg₂ (fun x y : EReal => x * y) (congr_arg q ?_) (congr_arg k ?_) <;>
    congr 1 <;> refine Fin.ext ?_ <;> simp only [Fin.val_ofNat] <;> omega

/-- The scale, broadcast. -/
theorem splatB (b : Fin 16) (i : Fin 2) (g : Fin 4) (s : Fin 4096) (j : Fin 4352) :
    (broadcastInDim S16x2x4x4096x4352 ![] bcast_S_S16x2x4x4096x4352 (constant S_ .f32 0x3E000000#32) : FVec Ideal S16x2x4x4096x4352 .f32) (ix5 b i g s j) = Ideal.ofBits .f32 0x3E000000#32 := by
  pointwise

/-- The latent scores. -/
theorem scoreB (q : FVec Ideal S16x8x4352x64 .f32) (k : FVec Ideal S16x2x4352x64 .f32) (b : Fin 16) (i : Fin 2) (g : Fin 4) (s : Fin 4096) (j : Fin 4352) :
    (mulf (Host.dotGeneral dot_S16x2x4x4096x64_S16x2x4352x64_S16x2x4x4096x4352_4_3_23_2_01_01 none (extractStridedSlice S16x2x4x4096x64 ![0, 0, 0, 256, 0] (shapeCast _ q shapeCasts_S16x8x4352x64_S16x2x4x4352x64) slices_S16x2x4x4352x64_S16x2x4x4096x64_0_0_0_256_0) k)
      (broadcastInDim S16x2x4x4096x4352 ![] bcast_S_S16x2x4x4096x4352 (constant S_ .f32 0x3E000000#32)) : FVec Ideal S16x2x4x4096x4352 .f32) (ix5 b i g s j)
    = score q k b (Fin.ofNat 8 (i * 4 + g)) (Fin.ofNat 4352 (256 + s)) j :=
  (mul_at _ _ _).trans (congr_arg₂ (fun x y : EReal => x * y) (dotB' q k b i g s j) (splatB b i g s j))

/-- The context values. -/
theorem sliceV (v : FVec Ideal S16x2x4352x64 .f32) (b : Fin 16) (i : Fin 2) (j : Fin 256) (d : Fin 64) :
    (extractStridedSlice S16x2x256x64 ![0, 0, 0, 0] v slices_S16x2x4352x64_S16x2x256x64_0_0_0_0 : FVec Ideal S16x2x256x64 .f32) (ix4 b i j d)
    = v (ix4 b i (Fin.ofNat 4352 j) d) := by
  pointwise
  refine congr_arg v ?_
  congr 1
  refine Fin.ext ?_; simp only [Fin.val_ofNat]; omega

variable (m : (ℓ : Loc nD τ sig) → Buf (Elt Ideal) ℓ)

/-- The three arguments, at their literal types. -/
abbrev argQ (c : Dev nD) : FVec Ideal S16x8x4352x64 .f32 := m ((c.tc : Thread nD τ).loc main_arg0)
/-- The keys. -/
abbrev argK (c : Dev nD) : FVec Ideal S16x2x4352x64 .f32 := m ((c.tc : Thread nD τ).loc main_arg1)
/-- The values. -/
abbrev argV (c : Dev nD) : FVec Ideal S16x2x4352x64 .f32 := m ((c.tc : Thread nD τ).loc main_arg2)

/-- One element of the attention over a row's first `nk` keys. -/
def attn (q : FVec Ideal S16x8x4352x64 .f32) (k v : FVec Ideal S16x2x4352x64 .f32) (nk : ℕ) (b : Fin 16) (h : Fin 8) (s : Fin 4352) (d : Fin 64) : EReal :=
  softmax (fun x : Fin nk => score q k b h s x) (fun x => v (ix4 b (Fin.ofNat 2 (h / 4)) (Fin.ofNat 4352 x) d))

/-- The reference's result, read at an index. -/
theorem read (c : Dev nD) (b : Fin 16) (s : Fin 4352) (e : Fin 512) :
    Value.res_main_v38 m c (ix3 b s e) = if (s : ℕ) < 256 then attn (argQ m c) (argK m c) (argV m c) 256 b (Fin.ofNat 8 (e / 64)) s (Fin.ofNat 64 e)
      else attn (argQ m c) (argK m c) (argV m c) 4352 b (Fin.ofNat 8 (e / 64)) s (Fin.ofNat 64 e) := by
  have h1 := s.isLt
  have h2 := e.isLt
  have hh : Fin.ofNat 8 ((Fin.ofNat 2 ((e : ℕ) / 256) : ℕ) * 4 + (Fin.ofNat 4 ((e : ℕ) / 64) : ℕ)) = Fin.ofNat 8 (e / 64) :=
    Fin.ext (by simp only [Fin.val_ofNat]; omega)
  have hv : Fin.ofNat 2 ((Fin.ofNat 8 ((e : ℕ) / 64) : ℕ) / 4) = Fin.ofNat 2 ((e : ℕ) / 256) :=
    Fin.ext (by simp only [Fin.val_ofNat]; omega)
  unfold Value.res_main_v38
  refine (trunc_at _ _).trans ((moved _ b s e).trans ((joined _ _ b _ _ s _).trans ?_))
  by_cases h : (s : ℕ) < 256
  · rw [if_pos h, if_pos h]
    refine (softA _ _ b _ _ _ _).trans (congr_arg₂ softmax (funext fun x => (scoreA _ _ b _ _ _ x).trans ?_) (funext fun x => (sliceV _ b _ x _).trans ?_))
    · rw [hh]
      exact congr_arg (fun s => score (argQ m c) (argK m c) b (Fin.ofNat 8 (e / 64)) s x) (Fin.ext (by simp only [Fin.val_ofNat]; omega))
    · rw [hv]
  · rw [if_neg h, if_neg h]
    refine (softB _ _ b _ _ _ _).trans (congr_arg₂ softmax (funext fun x => (scoreB _ _ b _ _ _ x).trans ?_) (funext fun x => ?_))
    · rw [hh]
      exact congr_arg (fun s => score (argQ m c) (argK m c) b (Fin.ofNat 8 (e / 64)) s x) (Fin.ext (by simp only [Fin.val_ofNat]; omega))
    · rw [hv]
      exact congr_arg (fun x => argV m c (ix4 b _ x _)) (Fin.ext (by simp only [Fin.val_ofNat]; omega))

end Cert.ReferenceIdeal.Attn
-- ==== Proof.Softmax.lean ====
module

public import proofs.«01_k».proof.Proof.Array
public import proofs.«01_k».proof.Proof.RefRead
public import Idealize.ShloMosaic.Lib.IdealHost

@[expose] public section
set_option maxRecDepth 16384
noncomputable section
namespace Cert.AttnMath
open Idealize.ShloMosaic Idealize.ShloMosaic.TcCoe
open Cert.ReferenceIdeal.Attn (softmax)

/-- A sum of real numbers, each seen as an extended real, is the real sum. -/
theorem sum_real {ι : Type} (s : Finset ι) (r : ι → ℝ) : ∑ i ∈ s, (r i : EReal) = ((∑ i ∈ s, r i : ℝ) : EReal) := by
  classical
  induction s using Finset.induction_on with
  | empty => simp
  | insert a s ha ih => rw [Finset.sum_insert ha, Finset.sum_insert ha, ih, EReal.coe_add]

/-- A non-negative real factor moves into a sum of any extended reals. -/
theorem sum_mul_real {ι : Type} (s : Finset ι) (g : ι → EReal) {z : ℝ} (hz : 0 ≤ z) :
    (∑ i ∈ s, g i) * (z : EReal) = ∑ i ∈ s, g i * z := by
  classical
  induction s using Finset.induction_on with
  | empty => simp
  | insert a s ha ih =>
    rw [Finset.sum_insert ha, Finset.sum_insert ha, ← ih]
    exact EReal.right_distrib_of_nonneg_of_ne_top (EReal.coe_nonneg.2 hz) (EReal.coe_ne_top z) _ _

/-- With real scores, dividing the weighted sum by the sum of the weights is the same as weighting by the divided weights. -/
theorem quot_eq_softmax {n : ℕ} (hn : 0 < n) (f w : Fin n → EReal) (hf : ∀ x, ∃ r : ℝ, f x = r) :
    Ideal.div (∑ x, Ideal.exp (f x - Finset.univ.sup f) * w x) (∑ x, Ideal.exp (f x - Finset.univ.sup f) * 1) = softmax f w := by
  choose r hr using hf
  obtain ⟨x₀, -, hx₀⟩ := Finset.exists_mem_eq_sup Finset.univ ⟨⟨0, hn⟩, Finset.mem_univ _⟩ f
  have hp : ∀ x, Ideal.exp (f x - Finset.univ.sup f) = ((Real.exp (r x - r x₀) : ℝ) : EReal) := fun x => by
    rw [hx₀, hr, hr, ← EReal.coe_sub, Ideal.exp_coe]
  have hpos : 0 < ∑ x, Real.exp (r x - r x₀) := Finset.sum_pos (fun x _ => Real.exp_pos _) ⟨⟨0, hn⟩, Finset.mem_univ _⟩
  have hL : ∑ x, Ideal.exp (f x - Finset.univ.sup f) = ((∑ x, Real.exp (r x - r x₀) : ℝ) : EReal) := by
    rw [← sum_real]
    exact Finset.sum_congr rfl fun x _ => hp x
  unfold softmax
  simp only [mul_one]
  rw [hL, Ideal.div_coe hpos.ne', sum_mul_real _ _ (one_div_nonneg.2 hpos.le)]
  refine Finset.sum_congr rfl fun x _ => ?_
  rw [Ideal.div_coe hpos.ne', mul_assoc, mul_assoc, mul_comm (w x)]

/-- The scale is one eighth. -/
theorem eighth : Ideal.ofBits .f32 0x3E000000#32 = ((1 / 8 : ℝ) : EReal) := by
  simp [Ideal.ofBits, Ideal.ieee]
  rw [← EReal.coe_mul]
  norm_num

/-- An array all of whose elements are real numbers. -/
def IsReal {S : Shape} (a : FVec Ideal S .f32) : Prop := ∀ x, ∃ r : ℝ, (a x : EReal) = r

open Cert.KernelIdeal (S16x8x4352x64 S16x2x4352x64)

variable (q : FVec Ideal S16x8x4352x64 .f32) (k v : FVec Ideal S16x2x4352x64 .f32)

/-- Scaling each query by 1/8 before the product, or the product after it. -/
theorem score_eq (b : Fin 16) (h : Fin 8) (s : Fin 4352) (j : ℕ) :
    Cert.KernelIdeal.Attn.sc q k b h s j = Cert.ReferenceIdeal.Attn.score q k b h s j := by
  unfold Cert.KernelIdeal.Attn.sc Cert.ReferenceIdeal.Attn.score
  rw [eighth, sum_mul_real _ _ (by norm_num)]
  exact Finset.sum_congr rfl fun d _ => mul_right_comm _ _ _

/-- Scores of real queries and keys are real. -/
theorem score_real (hq : IsReal q) (hk : IsReal k) (b : Fin 16) (h : Fin 8) (s : Fin 4352) (j : ℕ) :
    ∃ r : ℝ, Cert.ReferenceIdeal.Attn.score q k b h s j = r := by
  choose u hu using hq
  choose w hw using hk
  unfold Cert.ReferenceIdeal.Attn.score
  rw [eighth]
  simp only [hu, hw, ← EReal.coe_mul]
  rw [sum_real, ← EReal.coe_mul]
  exact ⟨_, rfl⟩

/-- A supremum over the first numbers, over a finite type. -/
theorem sup_range (n : ℕ) (g : ℕ → EReal) : (Finset.range n).sup g = Finset.univ.sup fun x : Fin n => g x := by
  refine le_antisymm (Finset.sup_le fun x hx => ?_) (Finset.sup_le fun x _ => Finset.le_sup (Finset.mem_range.2 x.isLt))
  exact Finset.le_sup (f := fun x : Fin n => g x) (Finset.mem_univ ⟨x, Finset.mem_range.1 hx⟩)

/-- The kernel's element is the reference's. -/
theorem attn_eq (hq : IsReal q) (hk : IsReal k) {nk : ℕ} (hn : 0 < nk) (b : Fin 16) (h : Fin 8) (s : Fin 4352) (d : Fin 64) :
    Cert.KernelIdeal.Attn.attn q k v nk b h s d = Cert.ReferenceIdeal.Attn.attn q k v nk b h s d := by
  unfold Cert.KernelIdeal.Attn.attn Cert.ReferenceIdeal.Attn.attn Cert.KernelIdeal.Attn.wt
  simp only [funext (score_eq q k b h s), Ideal.ofBits_one_f32, sup_range]
  exact quot_eq_softmax hn (fun x : Fin nk => Cert.ReferenceIdeal.Attn.score q k b h s x) _ fun x => score_real q k hq hk b h s x

/-- The kernel's result array is the reference's. -/
theorem result_eq (m : (ℓ : Loc Cert.ReferenceIdeal.nD Cert.ReferenceIdeal.τ Cert.ReferenceIdeal.sig) → Buf (Elt Ideal) ℓ) (c : Dev Cert.ReferenceIdeal.nD)
    (hq : IsReal (Cert.ReferenceIdeal.Attn.argQ m c)) (hk : IsReal (Cert.ReferenceIdeal.Attn.argK m c)) :
    Cert.ReferenceIdeal.Value.res_main_v38 m c
      = Cert.KernelIdeal.Attn.result (Cert.ReferenceIdeal.Attn.argQ m c) (Cert.ReferenceIdeal.Attn.argK m c) (Cert.ReferenceIdeal.Attn.argV m c) := by
  funext y
  obtain ⟨b, s, e, rfl⟩ : ∃ (b : Fin 16) (s : Fin 4352) (e : Fin 512), y = ix3 b s e := ⟨y 0, y 1, y 2, eq_ix3 (n0 := 16) (n1 := 4352) (n2 := 512) y⟩
  refine (Cert.ReferenceIdeal.Attn.read m c b s e).trans ?_
  show _ = Cert.KernelIdeal.Attn.attn _ _ _ (Cert.KernelIdeal.Attn.keys s) b (Fin.ofNat 8 (e / 64)) s (Fin.ofNat 64 e)
  by_cases h : (s : ℕ) < 256
  · rw [if_pos h, Cert.KernelIdeal.Attn.keys, if_pos h]
    exact (attn_eq _ _ _ hq hk (by decide) _ _ _ _).symm
  · rw [if_neg h, Cert.KernelIdeal.Attn.keys, if_neg h]
    exact (attn_eq _ _ _ hq hk (by decide) _ _ _ _).symm

end Cert.AttnMath
-- ==== Proof.Finite.lean ====
module

public import proofs.«01_k».proof.Pre_finite
public import proofs.«01_k».proof.Proof.Softmax
public import Idealize.ShloMosaic.Lib.ReduceAll

@[expose] public section
set_option maxRecDepth 16384
noncomputable section
namespace Cert.AttnMath
open Idealize.ShloMosaic Idealize.ShloMosaic.TcCoe

/-- The side conditions of the precondition's operations. -/
theorem finite_facts : Cert.Pre_finite.Facts where
  bcast_S_S16x8x4352x64 := by decide
  reducesTo_S16x8x4352x64_S_d0_1_2_3 := by decide
  h_S_ := by decide
  bcast_S_S16x2x4352x64 := by decide
  reducesTo_S16x2x4352x64_S_d0_1_2_3 := by decide

/-- The word of infinity. -/
theorem ofBits_top : Ideal.ofBits .f32 0x7F800000#32 = ⊤ := by simp [Ideal.ofBits, Ideal.ieee]

/-- A number whose absolute value is below infinity is real. -/
theorem real_of_abs_lt (x : EReal) (h : Ideal.cmp .olt (max x (-x)) (Ideal.ofBits .f32 0x7F800000#32) = 1#1) : ∃ r : ℝ, x = r := by
  rw [ofBits_top] at h
  have h' : max x (-x) < ⊤ := by
    by_contra hc
    simp [Ideal.cmp, hc] at h
  refine ⟨x.toReal, (EReal.coe_toReal ?_ ?_).symm⟩
  · rintro rfl; simp at h'
  · rintro rfl; simp at h'

/-- There is one empty index. -/
instance : Subsingleton Cert.Pre_finite.S_.Idx := ⟨fun a b => funext fun i => i.elim0⟩

/-- The precondition says that the queries and the keys are real. -/
theorem real_of_finite [Cert.Pre_finite.Facts] (q : FVec Ideal Cert.Pre_finite.S16x8x4352x64 .f32) (k v : FVec Ideal Cert.Pre_finite.S16x2x4352x64 .f32)
    (i : Cert.Pre_finite.S_.Idx) (h : Cert.Pre_finite.fn (F := Ideal) q k v i = 1#1) : IsReal q ∧ IsReal k := by
  dsimp only [Cert.Pre_finite.fn] at h
  obtain ⟨hq, hk⟩ := IntOp.andi_eq_one.1 h
  exact ⟨fun x => real_of_abs_lt _ (Host.reduce_andi_all _ _ _ _ _ hq x), fun x => real_of_abs_lt _ (Host.reduce_andi_all _ _ _ _ _ hk x)⟩

end Cert.AttnMath
-- ==== Proof.Plain.lean ====
module

public import Idealize.ShloMosaic.Lib.Pipeline.ValueKit
public import Idealize.ShloMosaic.Lib.Pipeline.ReadBack
public import Idealize.ShloMosaic.Lib.Pipeline.Covers
public import Idealize.ShloMosaic.Lib.Claim
public import Idealize.ShloMosaic.Lib.Pointwise

@[expose] public section
noncomputable section
namespace Cert.Plain
open Idealize.ShloMosaic Idealize.ShloMosaic.TcCoe Idealize.ShloMosaic.Tactic

/-- One element of a row scaled to unit mean square, times a weight. -/
def nrm (x g : Fin 1024 → EReal) (d : Fin 1024) : EReal :=
  x d * Ideal.rsqrt (Ideal.div (∑ k, x k * x k) (Ideal.ofBits .f32 0x44800000#32) + Ideal.ofBits .f32 0x358637BD#32) * g d

/-- A normalised row, scaled and shifted. -/
def modu (x g scale shift : Fin 1024 → EReal) (d : Fin 1024) : EReal :=
  nrm x g d * (Ideal.ofBits .f32 0x3F800000#32 + scale d) + shift d

/-- The logistic function, written out. -/
def sgm (z : EReal) : EReal :=
  Ideal.div (Ideal.ofBits .f32 0x3F800000#32) (Ideal.ofBits .f32 0x3F800000#32 + Ideal.exp (-z))

/-- A hidden unit of the gated network. -/
def hid (h w1 w3 : Fin 1024 → EReal) : EReal :=
  (∑ d, h d * w1 d) * sgm (∑ d, h d * w1 d) * ∑ d, h d * w3 d

/-- Which of the two modulation tables a row uses: 0 for context rows, 1 for latent rows. -/
def side (s : ℕ) : Fin 2 := if s < 256 then 0 else 1

/-- Row `s` of the context rows followed by the latent rows. -/
def xs (cs : FVec Ideal ⟨3, ![16, 256, 1024]⟩ .f32) (x : FVec Ideal ⟨3, ![16, 4096, 1024]⟩ .f32) (b : Fin 16) (s : ℕ) (d : Fin 1024) : EReal :=
  if s < 256 then cs (ix3 b (Fin.ofNat 256 s) d) else x (ix3 b (Fin.ofNat 4096 (s - 256)) d)

/-- Modulation vector `q` of row `s`. -/
def md (mc : FVec Ideal ⟨2, ![1, 6144]⟩ .f32) (mx : FVec Ideal ⟨2, ![16, 6144]⟩ .f32) (q : ℕ) (b : Fin 16) (s : ℕ) (d : Fin 1024) : EReal :=
  if s < 256 then mc (ix2 0 (Fin.ofNat 6144 (q * 1024 + d))) else mx (ix2 b (Fin.ofNat 6144 (q * 1024 + d)))

/-- Row `s` normalised, scaled by modulation vector `p` and shifted by `q`. -/
def hs (cs : FVec Ideal ⟨3, ![16, 256, 1024]⟩ .f32) (x : FVec Ideal ⟨3, ![16, 4096, 1024]⟩ .f32) (g : FVec Ideal ⟨1, ![1024]⟩ .f32)
    (mc : FVec Ideal ⟨2, ![1, 6144]⟩ .f32) (mx : FVec Ideal ⟨2, ![16, 6144]⟩ .f32) (p q : ℕ) (b : Fin 16) (s : ℕ) : Fin 1024 → EReal :=
  modu (xs cs x b s) (fun k => g (ix1 k)) (md mc mx p b s) (md mc mx q b s)

/-- The gated network's output `d` for row `s`, with its gate and residual. -/
def ffn (cs : FVec Ideal ⟨3, ![16, 256, 1024]⟩ .f32) (x : FVec Ideal ⟨3, ![16, 4096, 1024]⟩ .f32) (g : FVec Ideal ⟨1, ![1024]⟩ .f32)
    (mc : FVec Ideal ⟨2, ![1, 6144]⟩ .f32) (mx : FVec Ideal ⟨2, ![16, 6144]⟩ .f32) (w1 w3 : FVec Ideal ⟨2, ![1024, 2816]⟩ .f32) (w2 : FVec Ideal ⟨2, ![2816, 1024]⟩ .f32)
    (b : Fin 16) (s : ℕ) (d : Fin 1024) : EReal :=
  xs cs x b s d + md mc mx 5 b s d * ∑ j : Fin 2816, hid (hs cs x g mc mx 4 3 b s) (fun k => w1 (ix2 k j)) (fun k => w3 (ix2 k j)) * w2 (ix2 j d)

section
variable {S : Shape} (a b : FVec Ideal S .f32) (y : S.Idx)

/-- A product of arrays, read at an index. -/
theorem mul_at : (mulf a b : FVec Ideal S .f32) y = (a y : EReal) * b y := rfl
/-- A sum of arrays, read at an index. -/
theorem add_at : (addf a b : FVec Ideal S .f32) y = (a y : EReal) + b y := rfl
/-- A quotient of arrays, read at an index. -/
theorem div_at : (divf a b : FVec Ideal S .f32) y = Ideal.div (a y) (b y) := rfl
/-- The host's quotient of arrays, read at an index. -/
theorem hdiv_at : (Host.divf a b : FVec Ideal S .f32) y = Ideal.div (a y) (b y) := rfl
/-- A difference of arrays, read at an index. -/
theorem sub_at : (subf a b : FVec Ideal S .f32) y = (a y : EReal) - b y := rfl
/-- The exponential of an array, read at an index. -/
theorem exp_at : (exp a : FVec Ideal S .f32) y = Ideal.exp (a y) := rfl
/-- The host's exponential of an array, read at an index. -/
theorem hexp_at : (Host.exp a : FVec Ideal S .f32) y = Ideal.exp (a y) := rfl
/-- The host's negation of an array, read at an index. -/
theorem hneg_at : (Host.negf a : FVec Ideal S .f32) y = -(a y : EReal) := rfl
/-- The reciprocal root of an array, read at an index. -/
theorem rsqrt_at : (rsqrt a : FVec Ideal S .f32) y = Ideal.rsqrt (a y) := rfl
/-- The host's reciprocal root of an array, read at an index. -/
theorem hrsqrt_at : (Host.rsqrt a : FVec Ideal S .f32) y = Ideal.rsqrt (a y) := rfl
/-- A choice between arrays, read at an index. -/
theorem select_at (c : IVec S 1) : (select c a b : FVec Ideal S .f32) y = if c y = 1#1 then a y else b y := rfl
end

/-- A cast changes no value. -/
theorem trunc_at {S : Shape} (a : FVec Ideal S .f32) (h) (y : S.Idx) : (truncf .bf16 a h : FVec Ideal S .bf16) y = (a y : EReal) := rfl

/-- Subtracting from the zero literal negates. -/
theorem zero_lit_sub (z : EReal) : Ideal.ofBits .f32 0x00000000#32 - z = -z := by
  rw [show Ideal.ofBits .f32 0x00000000#32 = (0 : EReal) from by simp [Ideal.ofBits, Ideal.ieee]]
  exact zero_sub z

end Cert.Plain
-- ==== Proof.Mod2.lean ====
module

public import proofs.«01_k».proof.Proof.Gen.Kernel2Ideal.Value
public import proofs.«01_k».proof.Proof.Plain

@[expose] public section
set_option maxRecDepth 16384
noncomputable section
namespace Cert.Kernel2Ideal.Ffn
open Idealize.ShloMosaic Idealize.ShloMosaic.TcCoe Idealize.ShloMosaic.Tactic
open Cert.Kernel2Ideal Cert.Kernel2Ideal.Gen Cert.Plain

/-- The test for a context row. -/
theorem test_at (i : grid0.Coords) (r : Fin 544) : k0_pay2 i (ix2 r 0) = if (i 1 : ℕ) * 544 + r < 256 then 1#1 else 0#1 := by
  have h := (by decide +kernel : ∀ (j : Fin 8) (r : Fin 544), Scalar.cmpi .slt (BitVec.ofNat 32 j.val * 544#32 + BitVec.ofNat 32 r.val) 256#32 = if (j : ℕ) * 544 + r < 256 then 1#1 else 0#1)
  refine Eq.trans ?_ (h (i 1) r)
  unfold k0_pay2
  pointwise [Scalar.muli]
  rfl

/-- The row normalised. -/
theorem norm_at (X : FVec Ideal S1x544x1024 .f32) (G : FVec Ideal S1x1024 .f32) (r : Fin 544) (d : Fin 1024) :
    (mulf (mulf (k0_pay3 X) (broadcastTo S544x1024 (rsqrt (addf (divf (shapeCast S544x1 (multiReduction .add [1] S544 (mulf (k0_pay3 X) (k0_pay3 X)) 0x00000000#32 reduces_S544x1024_S544 (.inl rfl) rfl) shapeCasts_S544_S544x1) (broadcast S544x1 (Scalar.ofBits .f32 0x44800000#32))) (broadcast S544x1 (Scalar.ofBits .f32 0x358637BD#32)))) broadcasts_S544x1_S544x1024)) (broadcastTo S544x1024 (shapeCast S1x1024 G shapeCasts_S1x1024_S1x1024) broadcasts_S1x1024_S544x1024) : FVec Ideal S544x1024 .f32) (ix2 r d)
    = nrm (fun k => X (ix3 0 r k)) (fun k => G (ix2 0 k)) d := by
  unfold k0_pay3
  pointwise [nrm]

/-- The context vector on a context row, the latent one elsewhere. -/
theorem pick_at (c : IVec S544x1 1) (U W : FVec Ideal S1x1x1x1024 .f32) (r : Fin 544) (d : Fin 1024) :
    (select (broadcastTo S544x1024 (shapeCast S544x1 c shapeCasts_S544x1_S544x1) broadcasts_S544x1_S544x1024)
      (broadcastTo S544x1024 (shapeCast S1x1024 (shapeCast S1x1024 U shapeCasts_S1x1x1x1024_S1x1024) shapeCasts_S1x1024_S1x1024) broadcasts_S1x1024_S544x1024)
      (broadcastTo S544x1024 (shapeCast S1x1024 (shapeCast S1x1024 W shapeCasts_S1x1x1x1024_S1x1024) shapeCasts_S1x1024_S1x1024) broadcasts_S1x1024_S544x1024) : FVec Ideal S544x1024 .f32) (ix2 r d)
    = if c (ix2 r 0) = 1#1 then U (ix4 0 0 0 d) else W (ix4 0 0 0 d) := by
  refine (select_at _ _ _ _).trans ?_
  have e1 : broadcastTo S544x1024 (shapeCast S544x1 c shapeCasts_S544x1_S544x1) broadcasts_S544x1_S544x1024 (ix2 r d) = c (ix2 r 0) := by pointwise
  rw [e1]
  refine if_congr Iff.rfl ?_ ?_
  · pointwise
  · pointwise

/-- The choice by the row's test is the choice by the row's table. -/
theorem pick_side (i : grid0.Coords) (U W : FVec Ideal S1x1x1x1024 .f32) (x2 : FVec Ideal S1x2x6x1024 .f32) (q : Fin 6) (r : Fin 544) (d : Fin 1024)
    (hU : ∀ d, U (ix4 0 0 0 d) = x2 (ix4 0 0 q d)) (hW : ∀ d, W (ix4 0 0 0 d) = x2 (ix4 0 1 q d)) :
    (if k0_pay2 i (ix2 r 0) = 1#1 then U (ix4 0 0 0 d) else W (ix4 0 0 0 d)) = x2 (ix4 0 (side ((i 1 : ℕ) * 544 + r)) q d) := by
  rw [test_at, hU, hW]
  unfold side
  by_cases h : (i 1 : ℕ) * 544 + r < 256
  · rw [if_pos h, if_pos h, if_pos rfl]
  · rw [if_neg h, if_neg h, if_neg (by decide)]

/-- The modulated row that a step multiplies. -/
def hrow (i : grid0.Coords) (x0 : FVec Ideal S1x544x1024 .f32) (x1 : FVec Ideal S1x1024 .f32) (x2 : FVec Ideal S1x2x6x1024 .f32) (r : Fin 544) : Fin 1024 → EReal :=
  modu (fun k => x0 (ix3 0 r k)) (fun k => x1 (ix2 0 k)) (fun k => x2 (ix4 0 (side ((i 1 : ℕ) * 544 + r)) 4 k)) (fun k => x2 (ix4 0 (side ((i 1 : ℕ) * 544 + r)) 3 k))

/-- What the step computes as its modulated rows. -/
theorem row_at (i : grid0.Coords) (x0 : FVec Ideal S1x544x1024 .f32) (x1 : FVec Ideal S1x1024 .f32) (x2 : FVec Ideal S1x2x6x1024 .f32)
    (U W U' W' : FVec Ideal S1x1x1x1024 .f32)
    (hU : ∀ d, U (ix4 0 0 0 d) = x2 (ix4 0 0 4 d)) (hW : ∀ d, W (ix4 0 0 0 d) = x2 (ix4 0 1 4 d))
    (hU' : ∀ d, U' (ix4 0 0 0 d) = x2 (ix4 0 0 3 d)) (hW' : ∀ d, W' (ix4 0 0 0 d) = x2 (ix4 0 1 3 d)) (r : Fin 544) (d : Fin 1024) :
    (k0_pay5 (F := Ideal) (k0_pay2 i) (k0_pay4 i x0 x1 U W) U' W' : FVec Ideal S544x1024 .bf16) (ix2 r d) = hrow i x0 x1 x2 r d := by
  dsimp only [k0_pay5, k0_pay4]
  refine (trunc_at _ _ _).trans ((add_at _ _ _).trans (congr_arg₂ (fun x y : EReal => x + y) ((mul_at _ _ _).trans (congr_arg₂ (fun x y : EReal => x * y)
    (norm_at x0 x1 r d) ((add_at _ _ _).trans (congr_arg (fun y : EReal => Ideal.ofBits .f32 0x3F800000#32 + y) ((pick_at _ U W r d).trans (pick_side i U W x2 4 r d hU hW))))))
    ((pick_at _ U' W' r d).trans (pick_side i U' W' x2 3 r d hU' hW'))))

/-! ## The sum over the hidden units -/

/-- A tile of 256 columns from column `n`. -/
def IsCols (W : FVec Ideal S1024x2816 .bf16) (n : ℕ) (w : FVec Ideal S1024x256 .bf16) : Prop :=
  ∀ (k : Fin 1024) (b : Fin 256), w (ix2 k b) = W (ix2 k (Fin.ofNat 2816 (n + b)))

/-- A tile of 256 rows from row `n`. -/
def IsRows (W : FVec Ideal S2816x1024 .bf16) (n : ℕ) (w : FVec Ideal S256x1024 .bf16) : Prop :=
  ∀ (b : Fin 256) (d : Fin 1024), w (ix2 b d) = W (ix2 (Fin.ofNat 2816 (n + b)) d)

/-- A column tile, as loaded. -/
theorem ld_cols (W : FVec Ideal S1024x2816 .bf16) (o : ℕ) (ho : o + 256 ≤ 2816) (inb) :
    IsCols W o (View.ld (Val := Elt Ideal) (S := S1024x2816) (e' := .bf16) W (Rect.unit ![0, o] ![1024, 256] inb)) := fun k b =>
  View.ld_unit_apply_of _ _ _ _ _ _ fun c => by
    fin_cases c
    · exact (Nat.zero_add _).symm
    · exact Nat.mod_eq_of_lt (by have := b.isLt; omega)

/-- A row tile, as loaded. -/
theorem ld_rows (W : FVec Ideal S2816x1024 .bf16) (o : ℕ) (ho : o + 256 ≤ 2816) (inb) :
    IsRows W o (View.ld (Val := Elt Ideal) (S := S2816x1024) (e' := .bf16) W (Rect.unit ![o, 0] ![256, 1024] inb)) := fun b d =>
  View.ld_unit_apply_of _ _ _ _ _ _ fun c => by
    fin_cases c
    · exact Nat.mod_eq_of_lt (by have := b.isLt; omega)
    · exact (Nat.zero_add _).symm

variable (h : Fin 544 → Fin 1024 → EReal) (W1 W3 : FVec Ideal S1024x2816 .bf16) (W2 : FVec Ideal S2816x1024 .bf16)

/-- Hidden unit `j`'s contribution to output `d`. -/
def term (r : Fin 544) (d : Fin 1024) (j : ℕ) : EReal :=
  hid (h r) (fun k => W1 (ix2 k (Fin.ofNat 2816 j))) (fun k => W3 (ix2 k (Fin.ofNat 2816 j))) * W2 (ix2 (Fin.ofNat 2816 j) d)

/-- `A` holds the sum over the first `n` hidden units. -/
def IsAcc (n : ℕ) (A : FVec Ideal S544x1024 .f32) : Prop := ∀ r d, A (ix2 r d) = ∑ j ∈ Finset.range n, term h W1 W3 W2 r d j

/-- A product with a column tile. -/
theorem up_at {H : FVec Ideal S544x1024 .bf16} (hH : ∀ r d, H (ix2 r d) = h r d) {W : FVec Ideal S1024x2816 .bf16} {n : ℕ} {w : FVec Ideal S1024x256 .bf16} (hw : IsCols W n w)
    (r : Fin 544) (b : Fin 256) :
    (matmul dot_S544x1024_S1024x256_S544x256_1_0_0_1_n_n none H (shapeCast S1024x256 w shapeCasts_S1024x256_S1024x256 : FVec Ideal S1024x256 .bf16) (constant S544x256 .f32 0x00000000#32) : FVec Ideal S544x256 .f32) (ix2 r b)
    = ∑ k : Fin 1024, h r k * W (ix2 k (Fin.ofNat 2816 (n + b))) := by
  have hw' : ∀ (k : Fin 1024) (b : Fin 256), w (ix2 k b) = W (ix2 k (Fin.ofNat 2816 (n + b))) := hw
  pointwise [hH, hw']

/-- A product with a row tile. -/
theorem down_at (T : FVec Ideal S544x256 .bf16) (w : FVec Ideal S256x1024 .bf16) (r : Fin 544) (d : Fin 1024) :
    (matmul dot_S544x256_S256x1024_S544x1024_1_0_0_1_n_n none T (shapeCast S256x1024 w shapeCasts_S256x1024_S256x1024 : FVec Ideal S256x1024 .bf16) (constant S544x1024 .f32 0x00000000#32) : FVec Ideal S544x1024 .f32) (ix2 r d)
    = ∑ b : Fin 256, T (ix2 r b) * w (ix2 b d) := by
  pointwise

/-- The gate, from the products. -/
theorem gate_at (a b : FVec Ideal S544x256 .f32) (h1) (y : S544x256.Idx) :
    (truncf .bf16 (mulf (mulf a (divf (broadcast S544x256 (Scalar.ofBits .f32 0x3F800000#32)) (addf (broadcast S544x256 (Scalar.ofBits .f32 0x3F800000#32)) (exp (subf (broadcast S544x256 (Scalar.ofBits .f32 0x00000000#32)) a))))) b) h1 : FVec Ideal S544x256 .bf16) y
    = a y * sgm (a y) * b y := by
  have e : ∀ z : EReal, Ideal.ofBits .f32 0x00000000#32 - z = -z := zero_lit_sub
  unfold sgm
  rw [← e]
  rfl

/-- One further tile of hidden units. -/
theorem step {H : FVec Ideal S544x1024 .bf16} (hH : ∀ r d, H (ix2 r d) = h r d) {n : ℕ} {A : FVec Ideal S544x1024 .f32} (hA : IsAcc h W1 W3 W2 n A)
    {w1 w3 : FVec Ideal S1024x256 .bf16} {w2 : FVec Ideal S256x1024 .bf16} (h1 : IsCols W1 n w1) (h3 : IsCols W3 n w3) (h2 : IsRows W2 n w2) {hb} :
    IsAcc h W1 W3 W2 (n + 256) (addf A (matmul dot_S544x256_S256x1024_S544x1024_1_0_0_1_n_n none
      (truncf .bf16 (mulf (mulf (matmul dot_S544x1024_S1024x256_S544x256_1_0_0_1_n_n none H (shapeCast S1024x256 w1 shapeCasts_S1024x256_S1024x256 : FVec Ideal S1024x256 .bf16) (constant S544x256 .f32 0x00000000#32)) (divf (broadcast S544x256 (Scalar.ofBits .f32 0x3F800000#32)) (addf (broadcast S544x256 (Scalar.ofBits .f32 0x3F800000#32)) (exp (subf (broadcast S544x256 (Scalar.ofBits .f32 0x00000000#32)) (matmul dot_S544x1024_S1024x256_S544x256_1_0_0_1_n_n none H (shapeCast S1024x256 w1 shapeCasts_S1024x256_S1024x256 : FVec Ideal S1024x256 .bf16) (constant S544x256 .f32 0x00000000#32)))))))
        (matmul dot_S544x1024_S1024x256_S544x256_1_0_0_1_n_n none H (shapeCast S1024x256 w3 shapeCasts_S1024x256_S1024x256 : FVec Ideal S1024x256 .bf16) (constant S544x256 .f32 0x00000000#32))) hb)
      (shapeCast S256x1024 w2 shapeCasts_S256x1024_S256x1024 : FVec Ideal S256x1024 .bf16) (constant S544x1024 .f32 0x00000000#32))) := by
  intro r d
  rw [Finset.sum_range_add, Finset.sum_range (n := 256)]
  refine (add_at _ _ _).trans (congr_arg₂ (fun x y : EReal => x + y) (hA r d) ((down_at _ w2 r d).trans (Finset.sum_congr rfl fun b _ => ?_)))
  unfold term hid
  refine congr_arg₂ (fun x y : EReal => x * y) ((gate_at _ _ _ _).trans ?_) (h2 b d)
  rw [up_at h hH h1 r b, up_at h hH h3 r b]

/-- Nothing summed. -/
theorem acc_zero : IsAcc h W1 W3 W2 0 (broadcast S544x1024 (Scalar.ofBits .f32 0x00000000#32)) := by
  intro r d
  exact (show Ideal.ofBits .f32 0x00000000#32 = (0 : EReal) from by simp [Ideal.ofBits, Ideal.ieee]).trans (Finset.sum_range_zero _).symm

end Cert.Kernel2Ideal.Ffn
-- ==== Proof.Out2.lean ====
module

public import proofs.«01_k».proof.Proof.Mod2

@[expose] public section
set_option maxRecDepth 16384
noncomputable section
namespace Cert.Kernel2Ideal.Ffn
open Idealize.ShloMosaic Idealize.ShloMosaic.TcCoe Idealize.ShloMosaic.Tactic
open Cert.Kernel2Ideal Cert.Kernel2Ideal.Gen Cert.Plain

variable (h : Fin 544 → Fin 1024 → EReal) (x3 x4 : FVec Ideal S1024x2816 .bf16) (x5 : FVec Ideal S2816x1024 .bf16)

/-- After the first seven tiles. -/
theorem acc_a (v5 : IVec S544x1 1) (v35 : FVec Ideal S544x1024 .f32) (v36 v38 : FVec Ideal S1x1x1x1024 .f32) (H : FVec Ideal S544x1024 .bf16) (eH : H = k0_pay5 v5 v35 v36 v38) (hH : ∀ r d, H (ix2 r d) = h r d) :
    IsAcc h x3 x4 x5 1280 (k0_pay10 H (k0_pay8 H (k0_pay6 v5 v35 v36 v38 (View.ld x3 r0_6) (View.ld x4 r0_6) (View.ld x5 r0_7)) (k0_pay7 v5 v35 v36 v38 (View.ld x3 r0_8)) (View.ld x4 r0_8) (View.ld x5 r0_9) (View.ld x3 r0_10) (View.ld x4 r0_10) (View.ld x5 r0_11)) (k0_pay9 (View.ld x3 r0_12)) (View.ld x4 r0_12) (View.ld x5 r0_13) (View.ld x3 r0_14) (View.ld x4 r0_14) (View.ld x5 r0_15)) := by
  unfold k0_pay6 k0_pay7
  rw [← eH]
  dsimp only [k0_pay8, k0_pay9, k0_pay10]
  have s0 := step h x3 x4 x5 hH (acc_zero h x3 x4 x5) (ld_cols x3 0 (by omega) inb_S1024x2816_S1024x256_0_0) (ld_cols x4 0 (by omega) inb_S1024x2816_S1024x256_0_0) (ld_rows x5 0 (by omega) inb_S2816x1024_S256x1024_0_0) (hb := bitsLt_bf16_f32)
  have s1 := step h x3 x4 x5 hH s0 (ld_cols x3 256 (by omega) inb_S1024x2816_S1024x256_0_256) (ld_cols x4 256 (by omega) inb_S1024x2816_S1024x256_0_256) (ld_rows x5 256 (by omega) inb_S2816x1024_S256x1024_256_0) (hb := bitsLt_bf16_f32)
  have s2 := step h x3 x4 x5 hH s1 (ld_cols x3 512 (by omega) inb_S1024x2816_S1024x256_0_512) (ld_cols x4 512 (by omega) inb_S1024x2816_S1024x256_0_512) (ld_rows x5 512 (by omega) inb_S2816x1024_S256x1024_512_0) (hb := bitsLt_bf16_f32)
  have s3 := step h x3 x4 x5 hH s2 (ld_cols x3 768 (by omega) inb_S1024x2816_S1024x256_0_768) (ld_cols x4 768 (by omega) inb_S1024x2816_S1024x256_0_768) (ld_rows x5 768 (by omega) inb_S2816x1024_S256x1024_768_0) (hb := bitsLt_bf16_f32)
  exact step h x3 x4 x5 hH s3 (ld_cols x3 1024 (by omega) inb_S1024x2816_S1024x256_0_1024) (ld_cols x4 1024 (by omega) inb_S1024x2816_S1024x256_0_1024) (ld_rows x5 1024 (by omega) inb_S2816x1024_S256x1024_1024_0) (hb := bitsLt_bf16_f32)

/-- After ten tiles. -/
theorem acc_b (A H) (hH : ∀ r d, H (ix2 r d) = h r d) (hA : IsAcc h x3 x4 x5 1280 A) :
    IsAcc h x3 x4 x5 2560 (k0_pay15 H (k0_pay13 H (k0_pay11 H A (View.ld x3 r0_16) (View.ld x4 r0_16) (View.ld x5 r0_17)) (k0_pay12 H (View.ld x3 r0_18) (View.ld x4 r0_18)) (View.ld x5 r0_19) (View.ld x3 r0_20) (View.ld x4 r0_20) (View.ld x5 r0_21)) (k0_pay14 H (View.ld x3 r0_22) (View.ld x4 r0_22)) (View.ld x5 r0_23) (View.ld x3 r0_24) (View.ld x4 r0_24) (View.ld x5 r0_25)) := by
  dsimp only [k0_pay11, k0_pay12, k0_pay13, k0_pay14, k0_pay15]
  have s0 := step h x3 x4 x5 hH hA (ld_cols x3 1280 (by omega) inb_S1024x2816_S1024x256_0_1280) (ld_cols x4 1280 (by omega) inb_S1024x2816_S1024x256_0_1280) (ld_rows x5 1280 (by omega) inb_S2816x1024_S256x1024_1280_0) (hb := bitsLt_bf16_f32)
  have s1 := step h x3 x4 x5 hH s0 (ld_cols x3 1536 (by omega) inb_S1024x2816_S1024x256_0_1536) (ld_cols x4 1536 (by omega) inb_S1024x2816_S1024x256_0_1536) (ld_rows x5 1536 (by omega) inb_S2816x1024_S256x1024_1536_0) (hb := bitsLt_bf16_f32)
  have s2 := step h x3 x4 x5 hH s1 (ld_cols x3 1792 (by omega) inb_S1024x2816_S1024x256_0_1792) (ld_cols x4 1792 (by omega) inb_S1024x2816_S1024x256_0_1792) (ld_rows x5 1792 (by omega) inb_S2816x1024_S256x1024_1792_0) (hb := bitsLt_bf16_f32)
  have s3 := step h x3 x4 x5 hH s2 (ld_cols x3 2048 (by omega) inb_S1024x2816_S1024x256_0_2048) (ld_cols x4 2048 (by omega) inb_S1024x2816_S1024x256_0_2048) (ld_rows x5 2048 (by omega) inb_S2816x1024_S256x1024_2048_0) (hb := bitsLt_bf16_f32)
  exact step h x3 x4 x5 hH s3 (ld_cols x3 2304 (by omega) inb_S1024x2816_S1024x256_0_2304) (ld_cols x4 2304 (by omega) inb_S1024x2816_S1024x256_0_2304) (ld_rows x5 2304 (by omega) inb_S2816x1024_S256x1024_2304_0) (hb := bitsLt_bf16_f32)

/-- The rows, as loaded. -/
theorem ld_x (x0 : FVec Ideal S1x544x1024 .f32) : View.ld (Val := Elt Ideal) (e' := .f32) x0 r0_0 = x0 :=
  View.ld_unit_zero (by funext a; fin_cases a <;> rfl) _ _

/-- The weight row, as loaded. -/
theorem ld_g (x1 : FVec Ideal S1x1024 .f32) : View.ld (Val := Elt Ideal) (e' := .f32) x1 r0_1 = x1 :=
  View.ld_unit_zero (by funext a; fin_cases a <;> rfl) _ _

/-- A modulation row, as loaded. -/
theorem ld_m (x2 : FVec Ideal S1x2x6x1024 .f32) (l : Fin 2) (q : Fin 6) (inb) (d : Fin 1024) :
    View.ld (Val := Elt Ideal) (S := S1x2x6x1024) (e' := .f32) x2 (Rect.unit ![0, l.val, q.val, 0] ![1, 1, 1, 1024] inb) (ix4 (n0 := 1) (n1 := 1) (n2 := 1) (n3 := 1024) 0 0 0 d) = x2 (ix4 0 l q d) :=
  View.ld_unit_apply_of _ _ _ _ _ _ fun c => by
    fin_cases c
    · rfl
    · exact (Nat.add_zero _).symm
    · exact (Nat.add_zero _).symm
    · exact (Nat.zero_add _).symm

/-- A block put back under its leading axis, read at an index. -/
theorem lead (A : FVec Ideal S544x1024 .f32) (r : Fin 544) (d : Fin 1024) :
    (shapeCast S1x544x1024 A shapeCasts_S544x1024_S1x544x1024 : FVec Ideal S1x544x1024 .f32) (ix3 0 r d) = A (ix2 r d) := by
  pointwise

/-- The leading axis dropped, read at an index. -/
theorem drop_lead (X : FVec Ideal S1x544x1024 .f32) (r : Fin 544) (d : Fin 1024) : k0_pay3 X (ix2 r d) = X (ix3 0 r d) := by
  unfold k0_pay3
  pointwise

/-- The last tile, the gate and the residual. -/
theorem last_at (i : grid0.Coords) (x0 : FVec Ideal S1x544x1024 .f32) (x2 : FVec Ideal S1x2x6x1024 .f32) (A H) (hH : ∀ r d, H (ix2 r d) = h r d) (hA : IsAcc h x3 x4 x5 2560 A) (r : Fin 544) (d : Fin 1024) :
    k0_pay1 (k0_pay2 i) (k0_pay3 x0) A (k0_pay16 H (View.ld x3 r0_26)) (k0_pay17 H (View.ld x4 r0_26)) (k0_pay18 H (View.ld x3 r0_26)) (Scalar.ofBits .f32 0x3F800000#32) (View.ld x5 r0_27) (View.ld x2 r0_28) (View.ld x2 r0_29) (ix3 0 r d)
    = x0 (ix3 0 r d) + x2 (ix4 0 (side ((i 1 : ℕ) * 544 + r)) 5 d) * ∑ j ∈ Finset.range 2816, term h x3 x4 x5 r d j := by
  have s0 := step h x3 x4 x5 hH hA (ld_cols x3 2560 (by omega) inb_S1024x2816_S1024x256_0_2560) (ld_cols x4 2560 (by omega) inb_S1024x2816_S1024x256_0_2560) (ld_rows x5 2560 (by omega) inb_S2816x1024_S256x1024_2560_0) (hb := bitsLt_bf16_f32)
  dsimp only [k0_pay1, k0_pay16, k0_pay17, k0_pay18]
  exact (lead _ r d).trans ((add_at _ _ _).trans (congr_arg₂ (fun x y : EReal => x + y) (drop_lead x0 r d) ((mul_at _ _ _).trans (congr_arg₂ (fun x y : EReal => x * y)
    ((pick_at _ _ _ r d).trans (pick_side i _ _ x2 5 r d (ld_m x2 0 5 _) (ld_m x2 1 5 _))) (s0 r d)))))

/-- What a step writes. -/
theorem out_at (i : grid0.Coords) (x0 : FVec Ideal S1x544x1024 .f32) (x1 : FVec Ideal S1x1024 .f32) (x2 : FVec Ideal S1x2x6x1024 .f32) (r : Fin 544) (d : Fin 1024) :
    out0_6 (F := Ideal) i x0 x1 x2 x3 x4 x5 (ix3 0 r d)
    = x0 (ix3 0 r d) + x2 (ix4 0 (side ((i 1 : ℕ) * 544 + r)) 5 d) * ∑ j ∈ Finset.range 2816, term (hrow i x0 x1 x2) x3 x4 x5 r d j := by
  have hH : ∀ r d, k0_pay21 (F := Ideal) i x0 x1 x2 x3 x4 x5 (ix2 r d) = hrow i x0 x1 x2 r d := fun r d => by
    unfold k0_pay21 k0_pay20 k0_pay19
    rw [ld_x, ld_g]
    exact row_at i x0 x1 x2 _ _ _ _ (ld_m x2 0 4 _) (ld_m x2 1 4 _) (ld_m x2 0 3 _) (ld_m x2 1 3 _) r d
  have hA := acc_b _ x3 x4 x5 _ _ hH (acc_a _ x3 x4 x5 (k0_pay19 i x0 x1 x2 x3 x4 x5) (k0_pay20 i x0 x1 x2 x3 x4 x5) (View.ld (Val := Elt Ideal) (e' := .f32) x2 r0_4) (View.ld (Val := Elt Ideal) (e' := .f32) x2 r0_5) _ (by unfold k0_pay21; rfl) hH)
  unfold out0_6
  rw [View.canon_unit_zero (by funext a; fin_cases a <;> rfl), ld_x]
  exact last_at _ x3 x4 x5 i x0 x2 _ _ hH hA r d

end Cert.Kernel2Ideal.Ffn
-- ==== Proof.Array2.lean ====
module

public import proofs.«01_k».proof.Proof.Out2

@[expose] public section
set_option maxRecDepth 16384
noncomputable section
namespace Cert.Kernel2Ideal.Ffn
open Idealize.ShloMosaic Idealize.ShloMosaic.TcCoe Idealize.ShloMosaic.Tactic
open Cert.Kernel2Ideal Cert.Kernel2Ideal.Gen Cert.Plain

/-- The blocks of a grid step: batch and row tile for the rows and the output, batch for the modulation table. -/
theorem idx : ∀ t : Fin cfg0.N, win0_0.index t = ![t.val / 8, t.val % 8, 0] ∧ win0_1.index t = ![0, 0] ∧ win0_2.index t = ![t.val / 8, 0, 0, 0]
    ∧ win0_3.index t = ![0, 0] ∧ win0_4.index t = ![0, 0] ∧ win0_5.index t = ![0, 0] ∧ win0_6.index t = ![t.val / 8, t.val % 8, 0] ∧ t.val / 8 < 16 ∧ (grid0.coords t 1 : ℕ) = t.val % 8 :=
  (by decide +kernel : ∀ t : Fin grid0.N, _)

variable (m : (ℓ : Loc nD τ sig) → Buf (Elt Ideal) ℓ)

/-- The arguments, at their literal types: the context rows. -/
abbrev argC (c : Dev nD) : FVec Ideal S16x256x1024 .f32 := m ((c : Thread nD τ).loc main_arg0)
/-- The latent rows. -/
abbrev argX (c : Dev nD) : FVec Ideal S16x4096x1024 .f32 := m ((c : Thread nD τ).loc main_arg1)
/-- The norm's weight. -/
abbrev argG (c : Dev nD) : FVec Ideal S1024 .f32 := m ((c : Thread nD τ).loc main_arg2)
/-- The context modulation. -/
abbrev argMC (c : Dev nD) : FVec Ideal S1x6144 .f32 := m ((c : Thread nD τ).loc main_arg3)
/-- The latent modulation. -/
abbrev argMX (c : Dev nD) : FVec Ideal S16x6144 .f32 := m ((c : Thread nD τ).loc main_arg4)
/-- The first weight. -/
abbrev argW1 (c : Dev nD) : FVec Ideal S1024x2816 .f32 := m ((c : Thread nD τ).loc main_arg5)
/-- The gating weight. -/
abbrev argW3 (c : Dev nD) : FVec Ideal S1024x2816 .f32 := m ((c : Thread nD τ).loc main_arg6)
/-- The last weight. -/
abbrev argW2 (c : Dev nD) : FVec Ideal S2816x1024 .f32 := m ((c : Thread nD τ).loc main_arg7)

/-- The result array. -/
def result (cs : FVec Ideal S16x256x1024 .f32) (x : FVec Ideal S16x4096x1024 .f32) (g : FVec Ideal S1024 .f32) (mc : FVec Ideal S1x6144 .f32) (mx : FVec Ideal S16x6144 .f32)
    (w1 w3 : FVec Ideal S1024x2816 .f32) (w2 : FVec Ideal S2816x1024 .f32) : FVec Ideal S16x4352x1024 .f32 := fun y =>
  ffn cs x g mc mx w1 w3 w2 (y 0) (y 1) (y 2)

/-- The rows joined. -/
theorem V_x (c : Dev nD) : V m c main_v0 = fun y : S16x4352x1024.Idx => xs (argC m c) (argX m c) (y 0) (y 1) (y 2) := by
  entry_read
  funext y
  pointwise [argC, argX, xs]
  split
  · refine congr_arg _ ?_
    congr 1
    refine Fin.ext ?_; simp only [Fin.val_ofNat]; omega
  · have : (y 1 : ℕ) < 4352 := (y 1).isLt
    refine congr_arg _ ?_
    congr 1
    refine Fin.ext ?_; simp only [Fin.val_ofNat]; omega

/-- The norm's weight as one row. -/
theorem V_g (c : Dev nD) : V m c main_v10 = fun y : S1x1024.Idx => argG m c (ix1 (y 1)) := by
  entry_read
  funext y
  pointwise [argG]

/-- The modulation table. -/
theorem V_mod (c : Dev nD) : V m c main_v6 = fun y : S16x2x6x1024.Idx => if (y 1 : ℕ) < 1 then argMC m c (ix2 0 (Fin.ofNat 6144 ((y 2 : ℕ) * 1024 + y 3)))
    else argMX m c (ix2 (y 0) (Fin.ofNat 6144 ((y 2 : ℕ) * 1024 + y 3))) := by
  entry_read
  funext y
  pointwise [argMC, argMX]
  have h2 : (y 2 : ℕ) < 6 := (y 2).isLt
  have h3 : (y 3 : ℕ) < 1024 := (y 3).isLt
  by_cases h : (y 1 : ℕ) < 1
  · refine (dif_pos h).trans (Eq.trans ?_ (if_pos h).symm)
    exact congr_arg (fun j : Fin 6144 => argMC m c (ix2 0 j)) (Fin.ext (by simp only [Fin.val_ofNat]; omega))
  · refine (dif_neg h).trans (Eq.trans ?_ (if_neg h).symm)
    exact congr_arg (fun j : Fin 6144 => argMX m c (ix2 (y 0) j)) (Fin.ext (by simp only [Fin.val_ofNat]; omega))

/-- The first weight, cast. -/
theorem V_w1 (c : Dev nD) : V m c main_v7 = argW1 m c := by
  entry_read
  funext y
  pointwise [argW1]

/-- The gating weight, cast. -/
theorem V_w3 (c : Dev nD) : V m c main_v8 = argW3 m c := by
  entry_read
  funext y
  pointwise [argW3]

/-- The last weight, cast. -/
theorem V_w2 (c : Dev nD) : V m c main_v9 = argW2 m c := by
  entry_read
  funext y
  pointwise [argW2]

/-- What a step reads of the rows. -/
theorem blk_x (c : Dev nD) (t : Fin cfg0.N) (r : Fin 544) (k : Fin 1024) :
    iblk m c 0 t (ix3 0 r k) = xs (argC m c) (argX m c) (Fin.ofNat 16 (t.val / 8)) (t.val % 8 * 544 + r) k := by
  have ht : t.val < 128 := t.isLt
  have hx := V_x m c
  generalize argC m c = C at hx ⊢
  generalize argX m c = X at hx ⊢
  blk_simp [iblk, hx, idx t]
  have e0 : (win0_0.blk t).view.emb (ix3 0 r k) 0 = Fin.ofNat 16 (t.val / 8) := Fin.ext (by blk_simp [idx t]; simp only [Fin.val_ofNat]; omega)
  have e2 : (win0_0.blk t).view.emb (ix3 0 r k) 2 = k := Fin.ext (by blk_simp [idx t])
  rw [e0, e2]

/-- What a step reads of the norm's weight. -/
theorem blk_g (c : Dev nD) (t : Fin cfg0.N) (k : Fin 1024) : iblk m c 1 t (ix2 0 k) = argG m c (ix1 k) := by
  blk_simp [iblk, V_g m c, idx t]
  exact congr_arg (fun j : Fin 1024 => argG m c (ix1 j)) (Fin.ext (by blk_simp [idx t]))

/-- What a step reads of the modulation table. -/
theorem blk_m (c : Dev nD) (t : Fin cfg0.N) (s : ℕ) (q : Fin 6) (k : Fin 1024) :
    iblk m c 2 t (ix4 0 (side s) q k) = md (argMC m c) (argMX m c) q (Fin.ofNat 16 (t.val / 8)) s k := by
  have ht : t.val < 128 := t.isLt
  blk_simp [iblk, V_mod m c, idx t]
  unfold md side
  by_cases h : s < 256
  · rw [if_pos h, if_pos h, if_pos (by decide)]
  · rw [if_neg h, if_neg h, if_neg (by decide)]
    have e0 : (win0_2.blk t).view.emb (ix4 0 1 q k) 0 = Fin.ofNat 16 (t.val / 8) := Fin.ext (by blk_simp [idx t]; simp only [Fin.val_ofNat]; omega)
    exact congr_arg (fun b : Fin 16 => argMX m c (ix2 b (Fin.ofNat 6144 (q * 1024 + k)))) e0

/-- What a step reads of the first weight. -/
theorem blk_w1 (c : Dev nD) (t : Fin cfg0.N) (k : Fin 1024) (j : Fin 2816) : iblk m c 3 t (ix2 k j) = argW1 m c (ix2 k j) := by
  blk_simp [iblk, V_w1 m c, idx t]
  blk_ext [idx t]

/-- What a step reads of the gating weight. -/
theorem blk_w3 (c : Dev nD) (t : Fin cfg0.N) (k : Fin 1024) (j : Fin 2816) : iblk m c 4 t (ix2 k j) = argW3 m c (ix2 k j) := by
  blk_simp [iblk, V_w3 m c, idx t]
  blk_ext [idx t]

/-- What a step reads of the last weight. -/
theorem blk_w2 (c : Dev nD) (t : Fin cfg0.N) (j : Fin 2816) (d : Fin 1024) : iblk m c 5 t (ix2 j d) = argW2 m c (ix2 j d) := by
  blk_simp [iblk, V_w2 m c, idx t]
  blk_ext [idx t]

/-- What a step writes is the array's. -/
theorem out_eq (c : Dev nD) (t : Fin cfg0.N) (r : Fin 544) (d : Fin 1024) :
    out0_6 (F := Ideal) (grid0.coords t) (iblk m c 0 t) (iblk m c 1 t) (iblk m c 2 t) (iblk m c 3 t) (iblk m c 4 t) (iblk m c 5 t) (ix3 0 r d)
    = ffn (argC m c) (argX m c) (argG m c) (argMC m c) (argMX m c) (argW1 m c) (argW3 m c) (argW2 m c) (Fin.ofNat 16 (t.val / 8)) (t.val % 8 * 544 + r) d := by
  have hi : (grid0.coords t 1 : ℕ) = t.val % 8 := (idx t).2.2.2.2.2.2.2.2
  have hh : hrow (grid0.coords t) (iblk m c 0 t) (iblk m c 1 t) (iblk m c 2 t) r
      = hs (argC m c) (argX m c) (argG m c) (argMC m c) (argMX m c) 4 3 (Fin.ofNat 16 (t.val / 8)) (t.val % 8 * 544 + r) := by
    unfold hrow hs
    rw [hi, funext (blk_x m c t r), funext (blk_g m c t), funext (blk_m m c t _ 4), funext (blk_m m c t _ 3)]
    rfl
  refine (out_at _ _ _ _ _ _ _ r d).trans ?_
  unfold ffn
  rw [hi, blk_x m c t r d, blk_m m c t _ 5 d, Finset.sum_range]
  refine congr_arg₂ (fun x y : EReal => x + y) rfl (congr_arg₂ (fun x y : EReal => x * y) rfl (Finset.sum_congr rfl fun j _ => ?_))
  have hj : Fin.ofNat 2816 j.val = j := Fin.ext (Nat.mod_eq_of_lt j.isLt)
  unfold term
  rw [hh, hj, blk_w2 m c t j d, funext fun k => blk_w1 m c t k j, funext fun k => blk_w3 m c t k j]

/-- The array that the call leaves is `result` of the arguments. -/
theorem final (c : Dev nD) : (dats m 0 c).arrAt 6 cfg0.N = result (argC m c) (argX m c) (argG m c) (argMC m c) (argMX m c) (argW1 m c) (argW3 m c) (argW2 m c) := by
  refine (dats m 0 c).arrAt_eq_of_covers 6 _ ((cfg0.win 6).covers_of_indexMap_surj rfl (by decide) fun β => ⟨fun a => match a with
    | 0 => β 0 | 1 => β 1, fun a => ?_⟩) fun t hf y => ?_
  · match a with
    | 0 => exact (BitVec.toNat_ofNat ..).trans (Nat.mod_eq_of_lt ((β 0).isLt.trans (by decide)))
    | 1 => exact (BitVec.toNat_ofNat ..).trans (Nat.mod_eq_of_lt ((β 1).isLt.trans (by decide)))
    | 2 => exact (Nat.lt_one_iff.mp (β 2).isLt).symm
  · have ht : t.val < 128 := t.isLt
    have e0 : ((win0_6.blk t).view.emb y 0 : ℕ) = t.val / 8 := by blk_simp [idx t]
    have e1 : ((win0_6.blk t).view.emb y 1 : ℕ) = t.val % 8 * 544 + y 1 := by blk_simp [idx t]
    have e2 : ((win0_6.blk t).view.emb y 2 : ℕ) = y 2 := by blk_simp [idx t]
    have hy : y = ix3 0 (y 1) (y 2) := by
      funext a
      match a with
      | 0 => exact Fin.ext (Nat.lt_one_iff.mp (y 0).isLt)
      | 1 => rfl
      | 2 => rfl
    have hb : out0_6 (F := Ideal) (grid0.coords t) (iblk m c 0 t) (iblk m c 1 t) (iblk m c 2 t) (iblk m c 3 t) (iblk m c 4 t) (iblk m c 5 t) y
        = result (argC m c) (argX m c) (argG m c) (argMC m c) (argMX m c) (argW1 m c) (argW3 m c) (argW2 m c) ((win0_6.blk t).view.emb y) := by
      rw [hy]
      refine (out_eq m c t (y 1) (y 2)).trans ?_
      rw [← hy]
      unfold result
      rw [e1]
      congr 1
      · exact Fin.ext (by rw [e0]; simp only [Fin.val_ofNat]; omega)
      · exact Fin.ext e2.symm
    blk_simp
    rw [after0_6]
    exact hb

end Cert.Kernel2Ideal.Ffn
-- ==== Proof.Out3.lean ====
module

public import proofs.«01_k».proof.Proof.Gen.Kernel3Ideal.Value
public import proofs.«01_k».proof.Proof.Out2

@[expose] public section
set_option maxRecDepth 16384
noncomputable section
namespace Cert.Kernel3Ideal.Pre
open Idealize.ShloMosaic Idealize.ShloMosaic.TcCoe Idealize.ShloMosaic.Tactic
open Cert.Kernel3Ideal Cert.Kernel3Ideal.Gen Cert.Plain
open Cert.Kernel2Ideal.Ffn (norm_at pick_at pick_side ld_x ld_g ld_m lead)

/-- The modulated row that a step computes. -/
def hrow (i : grid0.Coords) (x0 : FVec Ideal S1x544x1024 .f32) (x1 : FVec Ideal S1x1024 .f32) (x2 : FVec Ideal S1x2x6x1024 .f32) (r : Fin 544) : Fin 1024 → EReal :=
  modu (fun k => x0 (ix3 0 r k)) (fun k => x1 (ix2 0 k)) (fun k => x2 (ix4 0 (side ((i 1 : ℕ) * 544 + r)) 1 k)) (fun k => x2 (ix4 0 (side ((i 1 : ℕ) * 544 + r)) 0 k))

/-- What the step computes as its modulated rows. -/
theorem row_at (i : grid0.Coords) (x0 : FVec Ideal S1x544x1024 .f32) (x1 : FVec Ideal S1x1024 .f32) (x2 : FVec Ideal S1x2x6x1024 .f32)
    (U W U' W' : FVec Ideal S1x1x1x1024 .f32)
    (hU : ∀ d, U (ix4 0 0 0 d) = x2 (ix4 0 0 1 d)) (hW : ∀ d, W (ix4 0 0 0 d) = x2 (ix4 0 1 1 d))
    (hU' : ∀ d, U' (ix4 0 0 0 d) = x2 (ix4 0 0 0 d)) (hW' : ∀ d, W' (ix4 0 0 0 d) = x2 (ix4 0 1 0 d)) (r : Fin 544) (d : Fin 1024) :
    (k0_pay4 (F := Ideal) (k0_pay2 i) (k0_pay3 i x0 x1 U W) U' W' : FVec Ideal S544x1024 .f32) (ix2 r d) = hrow i x0 x1 x2 r d := by
  dsimp only [k0_pay4, k0_pay3]
  refine (add_at _ _ _).trans (congr_arg₂ (fun x y : EReal => x + y) ((mul_at _ _ _).trans (congr_arg₂ (fun x y : EReal => x * y)
    (norm_at x0 x1 r d) ((add_at _ _ _).trans (congr_arg (fun y : EReal => Ideal.ofBits .f32 0x3F800000#32 + y) ((pick_at _ U W r d).trans (pick_side i U W x2 1 r d hU hW))))))
    ((pick_at _ U' W' r d).trans (pick_side i U' W' x2 0 r d hU' hW')))

/-- A block put back under its leading axis, read at an index. -/
theorem lead256 (A : FVec Ideal S544x256 .f32) (y : S1x544x256.Idx) :
    (shapeCast S1x544x256 A shapeCasts_S544x256_S1x544x256 : FVec Ideal S1x544x256 .f32) y = A (ix2 (y 1) (y 2)) := by
  pointwise

/-- A gate block put back under its leading axis, read at an index. -/
theorem lead256' (A : FVec Ideal S544x256 .bf16) (y : S1x544x256.Idx) :
    (shapeCast S1x544x256 A shapeCasts_S544x256_S1x544x256 : FVec Ideal S1x544x256 .bf16) y = A (ix2 (y 1) (y 2)) := by
  pointwise

/-- A product of the rows with a column tile. -/
theorem up_at {H : FVec Ideal S544x1024 .bf16} {h : Fin 544 → Fin 1024 → EReal} (hH : ∀ r d, H (ix2 r d) = h r d) (w : FVec Ideal S1024x256 .bf16) (r : Fin 544) (b : Fin 256) :
    (matmul dot_S544x1024_S1024x256_S544x256_1_0_0_1_n_n none H (shapeCast S1024x256 w shapeCasts_S1024x256_S1024x256 : FVec Ideal S1024x256 .bf16) (constant S544x256 .f32 0x00000000#32) : FVec Ideal S544x256 .f32) (ix2 r b)
    = ∑ k : Fin 1024, h r k * w (ix2 k b) := by
  pointwise [hH]

/-- A column tile of the projection's weight, as loaded. -/
theorem ld_p (W : FVec Ideal S1024x4352 .bf16) (o : ℕ) (ho : o + 256 ≤ 4352) (inb) (k : Fin 1024) (b : Fin 256) :
    View.ld (Val := Elt Ideal) (S := S1024x4352) (e' := .bf16) W (Rect.unit ![0, o] ![1024, 256] inb) (ix2 (n0 := 1024) (n1 := 256) k b) = W (ix2 k (Fin.ofNat 4352 (o + b))) :=
  View.ld_unit_apply_of _ _ _ _ _ _ fun c => by
    fin_cases c
    · exact (Nat.zero_add _).symm
    · exact Nat.mod_eq_of_lt (by have := b.isLt; omega)

/-- A column tile of the gates' weight, as loaded. -/
theorem ld_q (W : FVec Ideal S1024x3072 .bf16) (o : ℕ) (ho : o + 256 ≤ 3072) (inb) (k : Fin 1024) (b : Fin 256) :
    View.ld (Val := Elt Ideal) (S := S1024x3072) (e' := .bf16) W (Rect.unit ![0, o] ![1024, 256] inb) (ix2 (n0 := 1024) (n1 := 256) k b) = W (ix2 k (Fin.ofNat 3072 (o + b))) :=
  View.ld_unit_apply_of _ _ _ _ _ _ fun c => by
    fin_cases c
    · exact (Nat.zero_add _).symm
    · exact Nat.mod_eq_of_lt (by have := b.isLt; omega)

/-- A tile of the gates' bias, as loaded. -/
theorem ld_b (V : FVec Ideal S1x3072 .f32) (o : ℕ) (ho : o + 256 ≤ 3072) (inb) (b : Fin 256) :
    View.ld (Val := Elt Ideal) (S := S1x3072) (e' := .f32) V (Rect.unit ![0, o] ![1, 256] inb) (ix2 (n0 := 1) (n1 := 256) 0 b) = V (ix2 0 (Fin.ofNat 3072 (o + b))) :=
  View.ld_unit_apply_of _ _ _ _ _ _ fun c => by
    fin_cases c
    · rfl
    · exact Nat.mod_eq_of_lt (by have := b.isLt; omega)

/-- A bias row, spread over the rows. -/
theorem bias_at (v : FVec Ideal S1x256 .f32) (r : Fin 544) (b : Fin 256) :
    (broadcastTo S544x256 (shapeCast S1x256 v shapeCasts_S1x256_S1x256) broadcasts_S1x256_S544x256 : FVec Ideal S544x256 .f32) (ix2 r b) = v (ix2 0 b) := by
  pointwise

/-- The logistic function of an array, as the step writes it. -/
theorem sgm_at (a : FVec Ideal S544x256 .f32) (h1) (y : S544x256.Idx) :
    (truncf .bf16 (divf (broadcast S544x256 (Scalar.ofBits .f32 0x3F800000#32)) (addf (broadcast S544x256 (Scalar.ofBits .f32 0x3F800000#32)) (exp (subf (broadcast S544x256 (Scalar.ofBits .f32 0x00000000#32)) a)))) h1 : FVec Ideal S544x256 .bf16) y
    = sgm (a y) := by
  have e : ∀ z : EReal, Ideal.ofBits .f32 0x00000000#32 - z = -z := zero_lit_sub
  unfold sgm
  rw [← e]
  rfl

/-- A list of pieces agrees with an array if its head and its tail do. -/
theorem more {s : Shape} {e : EltTy} {G : s.Idx → Elt Ideal e} {p : View.Piece (Elt Ideal) s e} {L : List (View.Piece (Elt Ideal) s e)}
    (h : ∀ x, p.2 x = G (p.1.emb x)) (t : ∀ q ∈ L, ∀ x, q.2 x = G (q.1.emb x)) : ∀ q ∈ p :: L, ∀ x, q.2 x = G (q.1.emb x) :=
  List.forall_mem_cons.mpr ⟨h, t⟩

section
variable (h : Fin 544 → Fin 1024 → EReal) {H : FVec Ideal S544x1024 .bf16} (hH : ∀ r d, H (ix2 r d) = h r d)

/-- The projection block. -/
def proj (W : FVec Ideal S1024x4352 .bf16) : FVec Ideal S1x544x4352 .f32 := fun y => ∑ k : Fin 1024, h (y 1) k * W (ix2 k (y 2))

/-- The gates' block. -/
def gates (W : FVec Ideal S1024x3072 .bf16) (V : FVec Ideal S1x3072 .f32) : FVec Ideal S1x544x3072 .bf16 := fun y =>
  sgm ((∑ k : Fin 1024, h (y 1) k * W (ix2 k (y 2))) + V (ix2 0 (y 2)))

include hH in
/-- A tile of the projection is the block's. -/
theorem proj_piece (W : FVec Ideal S1024x4352 .bf16) (o : ℕ) (ho : o + 256 ≤ 4352) (i1 i2) (x : S1x544x256.Idx) :
    (shapeCast S1x544x256 (matmul dot_S544x1024_S1024x256_S544x256_1_0_0_1_n_n none H (shapeCast S1024x256 (View.ld (Val := Elt Ideal) (S := S1024x4352) (e' := .bf16) W (Rect.unit ![0, o] ![1024, 256] i1)) shapeCasts_S1024x256_S1024x256 : FVec Ideal S1024x256 .bf16) (constant S544x256 .f32 0x00000000#32)) shapeCasts_S544x256_S1x544x256 : FVec Ideal S1x544x256 .f32) x
    = proj h W ((Rect.unit (s := S1x544x4352) ![0, 0, o] ![1, 544, 256] i2).emb x) := by
  have hx : (x 2 : ℕ) < 256 := (x 2).isLt
  refine (lead256 _ x).trans ((up_at hH _ (x 1) (x 2)).trans ?_)
  unfold proj
  have e1 : (Rect.unit (s := S1x544x4352) ![0, 0, o] ![1, 544, 256] i2).emb x 1 = x 1 := Fin.ext (by show 0 + 1 * (x 1 : ℕ) = x 1; omega)
  have e2 : (Rect.unit (s := S1x544x4352) ![0, 0, o] ![1, 544, 256] i2).emb x 2 = Fin.ofNat 4352 (o + (x 2 : ℕ)) := Fin.ext (by
    show o + 1 * (x 2 : ℕ) = (o + (x 2 : ℕ)) % 4352; omega)
  rw [e1, e2]
  exact Finset.sum_congr rfl fun k _ => congr_arg (fun z : EReal => h (x 1) k * z) (ld_p W o ho i1 k (x 2))

include hH in
/-- A tile of the gates is the block's. -/
theorem gate_piece (W : FVec Ideal S1024x3072 .bf16) (V : FVec Ideal S1x3072 .f32) (o : ℕ) (ho : o + 256 ≤ 3072) (i1 i2 i3 h1) (x : S1x544x256.Idx) :
    (shapeCast S1x544x256 (truncf .bf16 (divf (broadcast S544x256 (Scalar.ofBits .f32 0x3F800000#32)) (addf (broadcast S544x256 (Scalar.ofBits .f32 0x3F800000#32)) (exp (subf (broadcast S544x256 (Scalar.ofBits .f32 0x00000000#32))
      (addf (matmul dot_S544x1024_S1024x256_S544x256_1_0_0_1_n_n none H (shapeCast S1024x256 (View.ld (Val := Elt Ideal) (S := S1024x3072) (e' := .bf16) W (Rect.unit ![0, o] ![1024, 256] i1)) shapeCasts_S1024x256_S1024x256 : FVec Ideal S1024x256 .bf16) (constant S544x256 .f32 0x00000000#32))
        (broadcastTo S544x256 (shapeCast S1x256 (View.ld (Val := Elt Ideal) (S := S1x3072) (e' := .f32) V (Rect.unit ![0, o] ![1, 256] i3)) shapeCasts_S1x256_S1x256) broadcasts_S1x256_S544x256)))))) h1 : FVec Ideal S544x256 .bf16) shapeCasts_S544x256_S1x544x256 : FVec Ideal S1x544x256 .bf16) x
    = gates h W V ((Rect.unit (s := S1x544x3072) ![0, 0, o] ![1, 544, 256] i2).emb x) := by
  have hx : (x 2 : ℕ) < 256 := (x 2).isLt
  refine (lead256' _ x).trans ((sgm_at _ _ _).trans ?_)
  unfold gates
  have e1 : (Rect.unit (s := S1x544x3072) ![0, 0, o] ![1, 544, 256] i2).emb x 1 = x 1 := Fin.ext (by show 0 + 1 * (x 1 : ℕ) = x 1; omega)
  have e2 : (Rect.unit (s := S1x544x3072) ![0, 0, o] ![1, 544, 256] i2).emb x 2 = Fin.ofNat 3072 (o + (x 2 : ℕ)) := Fin.ext (by
    show o + 1 * (x 2 : ℕ) = (o + (x 2 : ℕ)) % 3072; omega)
  rw [e1, e2]
  refine congr_arg sgm ((add_at _ _ _).trans (congr_arg₂ (fun x y : EReal => x + y) ((up_at hH _ (x 1) (x 2)).trans ?_) ((bias_at _ (x 1) (x 2)).trans (ld_b V o ho i3 (x 2)))))
  exact Finset.sum_congr rfl fun k _ => congr_arg (fun z : EReal => h (x 1) k * z) (ld_q W o ho i1 k (x 2))
end

variable (i : grid0.Coords) (x0 : FVec Ideal S1x544x1024 .f32) (x1 : FVec Ideal S1x1024 .f32) (x2 : FVec Ideal S1x2x6x1024 .f32)
  (x3 : FVec Ideal S1024x4352 .bf16) (x4 : FVec Ideal S1024x3072 .bf16) (x5 : FVec Ideal S1x3072 .f32)

/-- The rows the step multiplies. -/
theorem H_at (r : Fin 544) (d : Fin 1024) : k0_pay46 (F := Ideal) i x0 x1 x2 x3 x4 x5 (ix2 r d) = hrow i x0 x1 x2 r d := by
  unfold k0_pay46 k0_pay45 k0_pay44 k0_pay6
  rw [show View.ld (Val := Elt Ideal) (e' := .f32) x0 r0_0 = x0 from ld_x x0, show View.ld (Val := Elt Ideal) (e' := .f32) x1 r0_1 = x1 from ld_g x1]
  exact (trunc_at _ _ _).trans (row_at i x0 x1 x2 _ _ _ _ (ld_m x2 0 1 _) (ld_m x2 1 1 _) (ld_m x2 0 0 _) (ld_m x2 1 0 _) r d)

/-- What a step writes of the modulated rows. -/
theorem out6_at (r : Fin 544) (d : Fin 1024) : out0_6 (F := Ideal) i x0 x1 x2 x3 x4 x5 (ix3 0 r d) = hrow i x0 x1 x2 r d := by
  unfold out0_6 k0_pay45 k0_pay44 k0_pay5
  rw [View.canon_unit_zero (by funext a; fin_cases a <;> rfl), show View.ld (Val := Elt Ideal) (e' := .f32) x0 r0_0 = x0 from ld_x x0, show View.ld (Val := Elt Ideal) (e' := .f32) x1 r0_1 = x1 from ld_g x1]
  exact (lead _ r d).trans (row_at i x0 x1 x2 _ _ _ _ (ld_m x2 0 1 _) (ld_m x2 1 1 _) (ld_m x2 0 0 _) (ld_m x2 1 0 _) r d)

/-- What a step writes of the projection. -/
theorem out7_at (y : S1x544x4352.Idx) : out0_7 (F := Ideal) i x0 x1 x2 x3 x4 x5 y = proj (hrow i x0 x1 x2) x3 y := by
  have P := proj_piece _ (H_at i x0 x1 x2 x3 x4 x5) x3
  unfold out0_7
  refine View.canon_apply_of_pieces (Val := Elt Ideal) (proj (hrow i x0 x1 x2) x3) _ ?_ y (cover0_7 _ _ _ _ _ _ _ _ _ _ _ _ _ _ _ _ _ y)
  exact more (P 4096 (by decide) (by decide) (by decide)) <| more (P 3840 (by decide) (by decide) (by decide)) <| more (P 3584 (by decide) (by decide) (by decide)) <| more (P 3328 (by decide) (by decide) (by decide)) <| more (P 3072 (by decide) (by decide) (by decide)) <|
    more (P 2816 (by decide) (by decide) (by decide)) <| more (P 2560 (by decide) (by decide) (by decide)) <| more (P 2304 (by decide) (by decide) (by decide)) <| more (P 2048 (by decide) (by decide) (by decide)) <| more (P 1792 (by decide) (by decide) (by decide)) <|
    more (P 1536 (by decide) (by decide) (by decide)) <| more (P 1280 (by decide) (by decide) (by decide)) <| more (P 1024 (by decide) (by decide) (by decide)) <| more (P 768 (by decide) (by decide) (by decide)) <| more (P 512 (by decide) (by decide) (by decide)) <|
    more (P 256 (by decide) (by decide) (by decide)) <| more (P 0 (by decide) (by decide) (by decide)) fun _ h => nomatch h

/-- What a step writes of the gates. -/
theorem out8_at (y : S1x544x3072.Idx) : out0_8 (F := Ideal) i x0 x1 x2 x3 x4 x5 y = gates (hrow i x0 x1 x2) x4 x5 y := by
  have P := gate_piece _ (H_at i x0 x1 x2 x3 x4 x5) x4 x5
  unfold out0_8
  refine View.canon_apply_of_pieces (Val := Elt Ideal) (gates (hrow i x0 x1 x2) x4 x5) _ ?_ y (cover0_8 _ _ _ _ _ _ _ _ _ _ _ _ y)
  exact more (P 2816 (by decide) (by decide) (by decide) (by decide) (by decide)) <| more (P 2560 (by decide) (by decide) (by decide) (by decide) (by decide)) <| more (P 2304 (by decide) (by decide) (by decide) (by decide) (by decide)) <| more (P 2048 (by decide) (by decide) (by decide) (by decide) (by decide)) <|
    more (P 1792 (by decide) (by decide) (by decide) (by decide) (by decide)) <| more (P 1536 (by decide) (by decide) (by decide) (by decide) (by decide)) <| more (P 1280 (by decide) (by decide) (by decide) (by decide) (by decide)) <| more (P 1024 (by decide) (by decide) (by decide) (by decide) (by decide)) <|
    more (P 768 (by decide) (by decide) (by decide) (by decide) (by decide)) <| more (P 512 (by decide) (by decide) (by decide) (by decide) (by decide)) <| more (P 256 (by decide) (by decide) (by decide) (by decide) (by decide)) <| more (P 0 (by decide) (by decide) (by decide) (by decide) (by decide)) fun _ h => nomatch h

end Cert.Kernel3Ideal.Pre
-- ==== Proof.Array3.lean ====
module

public import proofs.«01_k».proof.Proof.Out3

@[expose] public section
set_option maxRecDepth 16384
noncomputable section
namespace Cert.Kernel3Ideal.Pre
open Idealize.ShloMosaic Idealize.ShloMosaic.TcCoe Idealize.ShloMosaic.Tactic
open Cert.Kernel3Ideal Cert.Kernel3Ideal.Gen Cert.Plain

/-- The blocks of a grid step: batch and row tile for the rows and the outputs, batch for the modulation table. -/
theorem idx : ∀ t : Fin cfg0.N, win0_0.index t = ![t.val / 8, t.val % 8, 0] ∧ win0_1.index t = ![0, 0] ∧ win0_2.index t = ![t.val / 8, 0, 0, 0]
    ∧ win0_3.index t = ![0, 0] ∧ win0_4.index t = ![0, 0] ∧ win0_5.index t = ![0, 0] ∧ win0_6.index t = ![t.val / 8, t.val % 8, 0]
    ∧ win0_7.index t = ![t.val / 8, t.val % 8, 0] ∧ win0_8.index t = ![t.val / 8, t.val % 8, 0] ∧ t.val / 8 < 16 ∧ (grid0.coords t 1 : ℕ) = t.val % 8 :=
  (by decide +kernel : ∀ t : Fin grid0.N, _)

variable (m : (ℓ : Loc nD τ sig) → Buf (Elt Ideal) ℓ)

/-- The arguments, at their literal types: the context rows. -/
abbrev argC (c : Dev nD) : FVec Ideal S16x256x1024 .f32 := m ((c : Thread nD τ).loc main_arg0)
/-- The latent rows. -/
abbrev argX (c : Dev nD) : FVec Ideal S16x4096x1024 .f32 := m ((c : Thread nD τ).loc main_arg1)
/-- The norm's weight. -/
abbrev argG (c : Dev nD) : FVec Ideal S1024 .f32 := m ((c : Thread nD τ).loc main_arg2)
/-- The context modulation. -/
abbrev argMC (c : Dev nD) : FVec Ideal S1x6144 .f32 := m ((c : Thread nD τ).loc main_arg3)
/-- The latent modulation. -/
abbrev argMX (c : Dev nD) : FVec Ideal S16x6144 .f32 := m ((c : Thread nD τ).loc main_arg4)
/-- The projection's weight. -/
abbrev argW (c : Dev nD) : FVec Ideal S1024x4352 .f32 := m ((c : Thread nD τ).loc main_arg5)
/-- The gates' weight. -/
abbrev argU (c : Dev nD) : FVec Ideal S1024x3072 .f32 := m ((c : Thread nD τ).loc main_arg6)
/-- The gates' bias. -/
abbrev argV (c : Dev nD) : FVec Ideal S3072 .f32 := m ((c : Thread nD τ).loc main_arg7)

section
variable (cs : FVec Ideal S16x256x1024 .f32) (x : FVec Ideal S16x4096x1024 .f32) (g : FVec Ideal S1024 .f32) (mc : FVec Ideal S1x6144 .f32) (mx : FVec Ideal S16x6144 .f32)

/-- The first result: the modulated rows. -/
def result6 : FVec Ideal S16x4352x1024 .f32 := fun y => hs cs x g mc mx 1 0 (y 0) (y 1) (y 2)

/-- The second result: the projections. -/
def result7 (w : FVec Ideal S1024x4352 .f32) : FVec Ideal S16x4352x4352 .f32 := fun y =>
  ∑ k : Fin 1024, hs cs x g mc mx 1 0 (y 0) (y 1) k * w (ix2 k (y 2))

/-- The third result: the gates. -/
def result8 (u : FVec Ideal S1024x3072 .f32) (v : FVec Ideal S3072 .f32) : FVec Ideal S16x4352x3072 .bf16 := fun y =>
  sgm ((∑ k : Fin 1024, hs cs x g mc mx 1 0 (y 0) (y 1) k * u (ix2 k (y 2))) + v (ix1 (y 2)))
end

/-- The rows joined. -/
theorem V_x (c : Dev nD) : V m c main_v0 = fun y : S16x4352x1024.Idx => xs (argC m c) (argX m c) (y 0) (y 1) (y 2) := by
  entry_read
  funext y
  pointwise [argC, argX, xs]
  split
  · refine congr_arg _ ?_
    congr 1
    refine Fin.ext ?_; simp only [Fin.val_ofNat]; omega
  · have : (y 1 : ℕ) < 4352 := (y 1).isLt
    refine congr_arg _ ?_
    congr 1
    refine Fin.ext ?_; simp only [Fin.val_ofNat]; omega

/-- The norm's weight as one row. -/
theorem V_g (c : Dev nD) : V m c main_v9 = fun y : S1x1024.Idx => argG m c (ix1 (y 1)) := by
  entry_read
  funext y
  pointwise [argG]

/-- The modulation table. -/
theorem V_mod (c : Dev nD) : V m c main_v6 = fun y : S16x2x6x1024.Idx => if (y 1 : ℕ) < 1 then argMC m c (ix2 0 (Fin.ofNat 6144 ((y 2 : ℕ) * 1024 + y 3)))
    else argMX m c (ix2 (y 0) (Fin.ofNat 6144 ((y 2 : ℕ) * 1024 + y 3))) := by
  entry_read
  funext y
  pointwise [argMC, argMX]
  have h2 : (y 2 : ℕ) < 6 := (y 2).isLt
  have h3 : (y 3 : ℕ) < 1024 := (y 3).isLt
  by_cases h : (y 1 : ℕ) < 1
  · refine (dif_pos h).trans (Eq.trans ?_ (if_pos h).symm)
    exact congr_arg (fun j : Fin 6144 => argMC m c (ix2 0 j)) (Fin.ext (by simp only [Fin.val_ofNat]; omega))
  · refine (dif_neg h).trans (Eq.trans ?_ (if_neg h).symm)
    exact congr_arg (fun j : Fin 6144 => argMX m c (ix2 (y 0) j)) (Fin.ext (by simp only [Fin.val_ofNat]; omega))

/-- The projection's weight, cast. -/
theorem V_w (c : Dev nD) : V m c main_v7 = argW m c := by
  entry_read
  funext y
  pointwise [argW]

/-- The gates' weight, cast. -/
theorem V_u (c : Dev nD) : V m c main_v8 = argU m c := by
  entry_read
  funext y
  pointwise [argU]

/-- The gates' bias as one row. -/
theorem V_v (c : Dev nD) : V m c main_v10 = fun y : S1x3072.Idx => argV m c (ix1 (y 1)) := by
  entry_read
  funext y
  pointwise [argV]

/-- What a step reads of the rows. -/
theorem blk_x (c : Dev nD) (t : Fin cfg0.N) (r : Fin 544) (k : Fin 1024) :
    iblk m c 0 t (ix3 0 r k) = xs (argC m c) (argX m c) (Fin.ofNat 16 (t.val / 8)) (t.val % 8 * 544 + r) k := by
  have ht : t.val < 128 := t.isLt
  have hx := V_x m c
  generalize argC m c = C at hx ⊢
  generalize argX m c = X at hx ⊢
  blk_simp [iblk, hx, idx t]
  have e0 : (win0_0.blk t).view.emb (ix3 0 r k) 0 = Fin.ofNat 16 (t.val / 8) := Fin.ext (by blk_simp [idx t]; simp only [Fin.val_ofNat]; omega)
  have e2 : (win0_0.blk t).view.emb (ix3 0 r k) 2 = k := Fin.ext (by blk_simp [idx t])
  rw [e0, e2]

/-- What a step reads of the norm's weight. -/
theorem blk_g (c : Dev nD) (t : Fin cfg0.N) (k : Fin 1024) : iblk m c 1 t (ix2 0 k) = argG m c (ix1 k) := by
  blk_simp [iblk, V_g m c, idx t]
  exact congr_arg (fun j : Fin 1024 => argG m c (ix1 j)) (Fin.ext (by blk_simp [idx t]))

/-- What a step reads of the modulation table. -/
theorem blk_m (c : Dev nD) (t : Fin cfg0.N) (s : ℕ) (q : Fin 6) (k : Fin 1024) :
    iblk m c 2 t (ix4 0 (side s) q k) = md (argMC m c) (argMX m c) q (Fin.ofNat 16 (t.val / 8)) s k := by
  have ht : t.val < 128 := t.isLt
  blk_simp [iblk, V_mod m c, idx t]
  unfold md side
  by_cases h : s < 256
  · rw [if_pos h, if_pos h, if_pos (by decide)]
  · rw [if_neg h, if_neg h, if_neg (by decide)]
    have e0 : (win0_2.blk t).view.emb (ix4 0 1 q k) 0 = Fin.ofNat 16 (t.val / 8) := Fin.ext (by blk_simp [idx t]; simp only [Fin.val_ofNat]; omega)
    exact congr_arg (fun b : Fin 16 => argMX m c (ix2 b (Fin.ofNat 6144 (q * 1024 + k)))) e0

/-- What a step reads of the projection's weight. -/
theorem blk_w (c : Dev nD) (t : Fin cfg0.N) (k : Fin 1024) (j : Fin 4352) : iblk m c 3 t (ix2 k j) = argW m c (ix2 k j) := by
  blk_simp [iblk, V_w m c, idx t]
  blk_ext [idx t]

/-- What a step reads of the gates' weight. -/
theorem blk_u (c : Dev nD) (t : Fin cfg0.N) (k : Fin 1024) (j : Fin 3072) : iblk m c 4 t (ix2 k j) = argU m c (ix2 k j) := by
  blk_simp [iblk, V_u m c, idx t]
  blk_ext [idx t]

/-- What a step reads of the gates' bias. -/
theorem blk_v (c : Dev nD) (t : Fin cfg0.N) (j : Fin 3072) : iblk m c 5 t (ix2 0 j) = argV m c (ix1 j) := by
  blk_simp [iblk, V_v m c, idx t]
  exact congr_arg (fun j : Fin 3072 => argV m c (ix1 j)) (Fin.ext (by blk_simp [idx t]))

/-- The rows that a step modulates are the arguments'. -/
theorem row_eq (c : Dev nD) (t : Fin cfg0.N) (r : Fin 544) :
    hrow (grid0.coords t) (iblk m c 0 t) (iblk m c 1 t) (iblk m c 2 t) r
    = hs (argC m c) (argX m c) (argG m c) (argMC m c) (argMX m c) 1 0 (Fin.ofNat 16 (t.val / 8)) (t.val % 8 * 544 + r) := by
  have hi : (grid0.coords t 1 : ℕ) = t.val % 8 := (idx t).2.2.2.2.2.2.2.2.2.2
  unfold hrow hs
  rw [hi, funext (blk_x m c t r), funext (blk_g m c t), funext (blk_m m c t _ 1), funext (blk_m m c t _ 0)]
  rfl

/-- The array of modulated rows that the call leaves. -/
theorem final6 (c : Dev nD) : (dats m 0 c).arrAt 6 cfg0.N = result6 (argC m c) (argX m c) (argG m c) (argMC m c) (argMX m c) := by
  refine (dats m 0 c).arrAt_eq_of_covers 6 _ ((cfg0.win 6).covers_of_indexMap_surj rfl (by decide) fun β => ⟨fun a => match a with
    | 0 => β 0 | 1 => β 1, fun a => ?_⟩) fun t hf y => ?_
  · match a with
    | 0 => exact (BitVec.toNat_ofNat ..).trans (Nat.mod_eq_of_lt ((β 0).isLt.trans (by decide)))
    | 1 => exact (BitVec.toNat_ofNat ..).trans (Nat.mod_eq_of_lt ((β 1).isLt.trans (by decide)))
    | 2 => exact (Nat.lt_one_iff.mp (β 2).isLt).symm
  · have ht : t.val < 128 := t.isLt
    have e0 : (win0_6.blk t).view.emb y 0 = Fin.ofNat 16 (t.val / 8) := Fin.ext (by blk_simp [idx t]; simp only [Fin.val_ofNat]; omega)
    have e1 : ((win0_6.blk t).view.emb y 1 : ℕ) = t.val % 8 * 544 + y 1 := by blk_simp [idx t]
    have e2 : (win0_6.blk t).view.emb y 2 = y 2 := Fin.ext (by blk_simp [idx t])
    have hb : out0_6 (F := Ideal) (grid0.coords t) (iblk m c 0 t) (iblk m c 1 t) (iblk m c 2 t) (iblk m c 3 t) (iblk m c 4 t) (iblk m c 5 t) y
        = result6 (argC m c) (argX m c) (argG m c) (argMC m c) (argMX m c) ((win0_6.blk t).view.emb y) := by
      unfold result6
      rw [e0, e1, e2]
      have hy : y = ix3 0 (y 1) (y 2) := by
        funext a
        match a with
        | 0 => exact Fin.ext (Nat.lt_one_iff.mp (y 0).isLt)
        | 1 => rfl
        | 2 => rfl
      refine (congr_arg _ hy).trans ((out6_at _ _ _ _ _ _ _ (y 1) (y 2)).trans ?_)
      exact congr_fun (row_eq m c t (y 1)) (y 2)
    blk_simp
    rw [after0_6]
    exact hb

/-- The array of projections that the call leaves. -/
theorem final7 (c : Dev nD) : (dats m 0 c).arrAt 7 cfg0.N = result7 (argC m c) (argX m c) (argG m c) (argMC m c) (argMX m c) (argW m c) := by
  refine (dats m 0 c).arrAt_eq_of_covers 7 _ ((cfg0.win 7).covers_of_indexMap_surj rfl (by decide) fun β => ⟨fun a => match a with
    | 0 => β 0 | 1 => β 1, fun a => ?_⟩) fun t hf y => ?_
  · match a with
    | 0 => exact (BitVec.toNat_ofNat ..).trans (Nat.mod_eq_of_lt ((β 0).isLt.trans (by decide)))
    | 1 => exact (BitVec.toNat_ofNat ..).trans (Nat.mod_eq_of_lt ((β 1).isLt.trans (by decide)))
    | 2 => exact (Nat.lt_one_iff.mp (β 2).isLt).symm
  · have ht : t.val < 128 := t.isLt
    have e0 : (win0_7.blk t).view.emb y 0 = Fin.ofNat 16 (t.val / 8) := Fin.ext (by blk_simp [idx t]; simp only [Fin.val_ofNat]; omega)
    have e1 : ((win0_7.blk t).view.emb y 1 : ℕ) = t.val % 8 * 544 + y 1 := by blk_simp [idx t]
    have e2 : (win0_7.blk t).view.emb y 2 = y 2 := Fin.ext (by blk_simp [idx t])
    have hb : out0_7 (F := Ideal) (grid0.coords t) (iblk m c 0 t) (iblk m c 1 t) (iblk m c 2 t) (iblk m c 3 t) (iblk m c 4 t) (iblk m c 5 t) y
        = result7 (argC m c) (argX m c) (argG m c) (argMC m c) (argMX m c) (argW m c) ((win0_7.blk t).view.emb y) := by
      unfold result7
      rw [e0, e1, e2]
      refine (out7_at _ _ _ _ _ _ _ y).trans ?_
      unfold proj
      rw [row_eq m c t (y 1)]
      exact Finset.sum_congr rfl fun k _ => congr_arg (fun z : EReal => _ * z) (blk_w m c t k (y 2))
    blk_simp
    rw [after0_7]
    exact hb

/-- The array of gates that the call leaves. -/
theorem final8 (c : Dev nD) : (dats m 0 c).arrAt 8 cfg0.N = result8 (argC m c) (argX m c) (argG m c) (argMC m c) (argMX m c) (argU m c) (argV m c) := by
  refine (dats m 0 c).arrAt_eq_of_covers 8 _ ((cfg0.win 8).covers_of_indexMap_surj rfl (by decide) fun β => ⟨fun a => match a with
    | 0 => β 0 | 1 => β 1, fun a => ?_⟩) fun t hf y => ?_
  · match a with
    | 0 => exact (BitVec.toNat_ofNat ..).trans (Nat.mod_eq_of_lt ((β 0).isLt.trans (by decide)))
    | 1 => exact (BitVec.toNat_ofNat ..).trans (Nat.mod_eq_of_lt ((β 1).isLt.trans (by decide)))
    | 2 => exact (Nat.lt_one_iff.mp (β 2).isLt).symm
  · have ht : t.val < 128 := t.isLt
    have e0 : (win0_8.blk t).view.emb y 0 = Fin.ofNat 16 (t.val / 8) := Fin.ext (by blk_simp [idx t]; simp only [Fin.val_ofNat]; omega)
    have e1 : ((win0_8.blk t).view.emb y 1 : ℕ) = t.val % 8 * 544 + y 1 := by blk_simp [idx t]
    have e2 : (win0_8.blk t).view.emb y 2 = y 2 := Fin.ext (by blk_simp [idx t])
    have hb : out0_8 (F := Ideal) (grid0.coords t) (iblk m c 0 t) (iblk m c 1 t) (iblk m c 2 t) (iblk m c 3 t) (iblk m c 4 t) (iblk m c 5 t) y
        = result8 (argC m c) (argX m c) (argG m c) (argMC m c) (argMX m c) (argU m c) (argV m c) ((win0_8.blk t).view.emb y) := by
      unfold result8
      rw [e0, e1, e2]
      refine (out8_at _ _ _ _ _ _ _ y).trans ?_
      unfold gates
      rw [row_eq m c t (y 1)]
      exact congr_arg sgm (congr_arg₂ (fun a b : EReal => a + b) (Finset.sum_congr rfl fun k _ => congr_arg (fun z : EReal => _ * z) (blk_u m c t k (y 2))) (blk_v m c t (y 2)))
    blk_simp
    rw [after0_8]
    exact hb

end Cert.Kernel3Ideal.Pre
-- ==== Proof.RefMod.lean ====
module

public import proofs.«01_k».proof.Proof.Gen.Reference2Ideal.Run
public import proofs.«01_k».proof.Proof.Plain

@[expose] public section
set_option maxRecDepth 16384
noncomputable section
namespace Cert.Reference2Ideal.Ffn
open Idealize.ShloMosaic Idealize.ShloMosaic.TcCoe Idealize.ShloMosaic.Tactic
open Cert.Reference2Ideal Cert.Reference2Ideal.Gen Cert.Plain

/-- Context and latent rows joined, read at an index. -/
theorem joined (A : FVec Ideal S16x256x1024 .f32) (B : FVec Ideal S16x4096x1024 .f32) (b : Fin 16) (s : Fin 4352) (d : Fin 1024) :
    (concatenate S16x4352x1024 1 [⟨S16x256x1024, A⟩, ⟨S16x4096x1024, B⟩] concatenates_S16x256x1024_S16x4096x1024_S16x4352x1024_d1 : FVec Ideal S16x4352x1024 .f32) (ix3 b s d)
    = if (s : ℕ) < 256 then A (ix3 b (Fin.ofNat 256 s) d) else B (ix3 b (Fin.ofNat 4096 ((s : ℕ) - 256)) d) := by
  have h1 := s.isLt
  pointwise
  by_cases h : (s : ℕ) < 256
  · rw [dif_pos h, if_pos h]
    refine congr_arg A ?_
    congr 1
    refine Fin.ext ?_; simp only [Fin.val_ofNat]; omega
  · rw [dif_neg h, if_neg h]
    refine congr_arg B ?_
    congr 1
    refine Fin.ext ?_; simp only [Fin.val_ofNat]; omega

/-- A sum over the channels. -/
theorem sum_at (A : FVec Ideal S16x4352x1024 .f32) (b : Fin 16) (s : Fin 4352) :
    (Host.reduceAdd A (constant S_ .f32 0x00000000#32) reducesTo_S16x4352x1024_S16x4352_d2 h_S_ : FVec Ideal S16x4352 .f32) (ix2 b s) = ∑ k : Fin 1024, A (ix3 b s k) := by
  pointwise

/-- A row statistic spread over the channels. -/
theorem spread (A : FVec Ideal S16x4352x1 .f32) (b : Fin 16) (s : Fin 4352) (d : Fin 1024) :
    (broadcastInDim S16x4352x1024 ![0, 1, 2] bcast_S16x4352x1_S16x4352x1024_0_1_2 A : FVec Ideal S16x4352x1024 .f32) (ix3 b s d) = A (ix3 b s 0) := by
  pointwise

/-- A row statistic with an axis added. -/
theorem keep (A : FVec Ideal S16x4352 .f32) (b : Fin 16) (s : Fin 4352) :
    (broadcastInDim S16x4352x1 ![0, 1] bcast_S16x4352_S16x4352x1_0_1 A : FVec Ideal S16x4352x1 .f32) (ix3 b s 0) = A (ix2 b s) := by
  pointwise

/-- A literal, broadcast. -/
theorem splat (v : BitVec 32) (b : Fin 16) (s : Fin 4352) :
    (broadcastInDim S16x4352x1 ![] bcast_S_S16x4352x1 (constant S_ .f32 v) : FVec Ideal S16x4352x1 .f32) (ix3 b s 0) = Ideal.ofBits .f32 v := by
  pointwise

/-- The norm's weight, broadcast. -/
theorem weight (g : FVec Ideal S1024 .f32) (b : Fin 16) (s : Fin 4352) (d : Fin 1024) :
    (broadcastInDim S16x4352x1024 ![0, 1, 2] bcast_S1x1x1024_S16x4352x1024_0_1_2 (broadcastInDim S1x1x1024 ![2] bcast_S1024_S1x1x1024_2 g) : FVec Ideal S16x4352x1024 .f32) (ix3 b s d) = g (ix1 d) := by
  pointwise

/-- The normalised rows of `A`, as the reference writes them. -/
def norm (A : FVec Ideal S16x4352x1024 .f32) (g : FVec Ideal S1024 .f32) : FVec Ideal S16x4352x1024 .f32 :=
  mulf (mulf A (broadcastInDim S16x4352x1024 ![0, 1, 2] bcast_S16x4352x1_S16x4352x1024_0_1_2 (Host.rsqrt (addf (Host.divf (broadcastInDim S16x4352x1 ![0, 1] bcast_S16x4352_S16x4352x1_0_1 (Host.reduceAdd (mulf A A) (constant S_ .f32 0x00000000#32) reducesTo_S16x4352x1024_S16x4352_d2 h_S_)) (broadcastInDim S16x4352x1 ![] bcast_S_S16x4352x1 (constant S_ .f32 0x44800000#32))) (broadcastInDim S16x4352x1 ![] bcast_S_S16x4352x1 (constant S_ .f32 0x358637BD#32)))))) (broadcastInDim S16x4352x1024 ![0, 1, 2] bcast_S1x1x1024_S16x4352x1024_0_1_2 (broadcastInDim S1x1x1024 ![2] bcast_S1024_S1x1x1024_2 g))

/-- The row factor from the row's sum of squares. -/
theorem stat_at (Q : FVec Ideal S16x4352 .f32) (b : Fin 16) (s : Fin 4352) :
    (Host.rsqrt (addf (Host.divf (broadcastInDim S16x4352x1 ![0, 1] bcast_S16x4352_S16x4352x1_0_1 Q) (broadcastInDim S16x4352x1 ![] bcast_S_S16x4352x1 (constant S_ .f32 0x44800000#32))) (broadcastInDim S16x4352x1 ![] bcast_S_S16x4352x1 (constant S_ .f32 0x358637BD#32))) : FVec Ideal S16x4352x1 .f32) (ix3 b s 0)
    = Ideal.rsqrt (Ideal.div (Q (ix2 b s)) (Ideal.ofBits .f32 0x44800000#32) + Ideal.ofBits .f32 0x358637BD#32) := by
  have h1 := keep Q b s
  have h2 := splat 0x44800000#32 b s
  have h3 := splat 0x358637BD#32 b s
  generalize broadcastInDim S16x4352x1 ![0, 1] bcast_S16x4352_S16x4352x1_0_1 Q = A at h1 ⊢
  generalize (broadcastInDim S16x4352x1 ![] bcast_S_S16x4352x1 (constant S_ .f32 0x44800000#32) : FVec Ideal S16x4352x1 .f32) = B at h2 ⊢
  generalize (broadcastInDim S16x4352x1 ![] bcast_S_S16x4352x1 (constant S_ .f32 0x358637BD#32) : FVec Ideal S16x4352x1 .f32) = C at h3 ⊢
  rw [← h1, ← h2, ← h3]
  rfl

/-- Rows times a row factor times a weight. -/
theorem scaled (A : FVec Ideal S16x4352x1024 .f32) (R : FVec Ideal S16x4352x1 .f32) (g : FVec Ideal S1024 .f32) (b : Fin 16) (s : Fin 4352) (d : Fin 1024) :
    (mulf (mulf A (broadcastInDim S16x4352x1024 ![0, 1, 2] bcast_S16x4352x1_S16x4352x1024_0_1_2 R)) (broadcastInDim S16x4352x1024 ![0, 1, 2] bcast_S1x1x1024_S16x4352x1024_0_1_2 (broadcastInDim S1x1x1024 ![2] bcast_S1024_S1x1x1024_2 g)) : FVec Ideal S16x4352x1024 .f32) (ix3 b s d)
    = A (ix3 b s d) * R (ix3 b s 0) * g (ix1 d) := by
  rw [← spread R b s d, ← weight g b s d]
  exact (mul_at _ _ _).trans (congr_arg (fun x : EReal => x * _) (mul_at _ _ _))

/-- A normalised row is the plain one. -/
theorem norm_at (A : FVec Ideal S16x4352x1024 .f32) (g : FVec Ideal S1024 .f32) (b : Fin 16) (s : Fin 4352) (d : Fin 1024) :
    norm A g (ix3 b s d) = nrm (fun k => A (ix3 b s k)) (fun k => g (ix1 k)) d := by
  unfold norm nrm
  rw [scaled, stat_at, sum_at]
  rfl

/-- The context half of an array. -/
theorem half_c (A : FVec Ideal S16x4352x1024 .f32) (b : Fin 16) (s : Fin 256) (d : Fin 1024) :
    (extractStridedSlice S16x256x1024 ![0, 0, 0] A slices_S16x4352x1024_S16x256x1024_0_0_0 : FVec Ideal S16x256x1024 .f32) (ix3 b s d) = A (ix3 b (Fin.ofNat 4352 s) d) := by
  have := s.isLt
  pointwise
  refine congr_arg A ?_
  congr 1
  refine Fin.ext ?_; simp only [Fin.val_ofNat]; omega

/-- The latent half of an array. -/
theorem half_x (A : FVec Ideal S16x4352x1024 .f32) (b : Fin 16) (s : Fin 4096) (d : Fin 1024) :
    (extractStridedSlice S16x4096x1024 ![0, 256, 0] A slices_S16x4352x1024_S16x4096x1024_0_256_0 : FVec Ideal S16x4096x1024 .f32) (ix3 b s d) = A (ix3 b (Fin.ofNat 4352 (256 + s)) d) := by
  have := s.isLt
  pointwise
  refine congr_arg A ?_
  congr 1
  refine Fin.ext ?_; simp only [Fin.val_ofNat]; omega

/-- A context modulation vector. -/
theorem mod_c (mc : FVec Ideal S1x6144 .f32) (o : ℕ) (ho : o + 1024 ≤ 6144) (h) (d : Fin 1024) :
    (extractStridedSlice S1x1x1024 ![0, 0, o] (broadcastInDim S1x1x6144 ![0, 2] bcast_S1x6144_S1x1x6144_0_2 mc) h : FVec Ideal S1x1x1024 .f32) (ix3 0 0 d) = mc (ix2 0 (Fin.ofNat 6144 (o + d))) := by
  have := d.isLt
  pointwise
  exact congr_arg (fun j : Fin 6144 => mc (ix2 0 j)) (Fin.ext (by simp only [Fin.val_ofNat]; omega))

/-- A latent modulation vector. -/
theorem mod_x (mx : FVec Ideal S16x6144 .f32) (o : ℕ) (ho : o + 1024 ≤ 6144) (h) (b : Fin 16) (d : Fin 1024) :
    (extractStridedSlice S16x1x1024 ![0, 0, o] (broadcastInDim S16x1x6144 ![0, 2] bcast_S16x6144_S16x1x6144_0_2 mx) h : FVec Ideal S16x1x1024 .f32) (ix3 b 0 d) = mx (ix2 b (Fin.ofNat 6144 (o + d))) := by
  have := d.isLt
  pointwise
  exact congr_arg (fun j : Fin 6144 => mx (ix2 b j)) (Fin.ext (by simp only [Fin.val_ofNat]; omega))

/-- A context vector spread over the rows. -/
theorem rows_c (v : FVec Ideal S1x1x1024 .f32) (b : Fin 16) (s : Fin 256) (d : Fin 1024) :
    (broadcastInDim S16x256x1024 ![0, 1, 2] bcast_S1x1x1024_S16x256x1024_0_1_2 v : FVec Ideal S16x256x1024 .f32) (ix3 b s d) = v (ix3 0 0 d) := by
  pointwise

/-- A latent vector spread over the rows. -/
theorem rows_x (v : FVec Ideal S16x1x1024 .f32) (b : Fin 16) (s : Fin 4096) (d : Fin 1024) :
    (broadcastInDim S16x4096x1024 ![0, 1, 2] bcast_S16x1x1024_S16x4096x1024_0_1_2 v : FVec Ideal S16x4096x1024 .f32) (ix3 b s d) = v (ix3 b 0 d) := by
  pointwise

/-- One, broadcast over a context vector. -/
theorem one_c (d : Fin 1024) : (broadcastInDim S1x1x1024 ![] bcast_S_S1x1x1024 (constant S_ .f32 0x3F800000#32) : FVec Ideal S1x1x1024 .f32) (ix3 0 0 d) = Ideal.ofBits .f32 0x3F800000#32 := by
  pointwise

/-- One, broadcast over a latent vector. -/
theorem one_x (b : Fin 16) (d : Fin 1024) : (broadcastInDim S16x1x1024 ![] bcast_S_S16x1x1024 (constant S_ .f32 0x3F800000#32) : FVec Ideal S16x1x1024 .f32) (ix3 b 0 d) = Ideal.ofBits .f32 0x3F800000#32 := by
  pointwise

/-- The rows `N` modulated, as the reference writes them. -/
def modded (N : FVec Ideal S16x4352x1024 .f32) (mc : FVec Ideal S1x6144 .f32) (mx : FVec Ideal S16x6144 .f32) (o p : ℕ)
    (h1 : S1x1x6144.Slices ![0, 0, o] S1x1x1024) (h2 : S1x1x6144.Slices ![0, 0, p] S1x1x1024)
    (h3 : S16x1x6144.Slices ![0, 0, o] S16x1x1024) (h4 : S16x1x6144.Slices ![0, 0, p] S16x1x1024) : FVec Ideal S16x4352x1024 .f32 :=
  concatenate S16x4352x1024 1 [⟨S16x256x1024, (addf (mulf (extractStridedSlice S16x256x1024 ![0, 0, 0] N slices_S16x4352x1024_S16x256x1024_0_0_0) (broadcastInDim S16x256x1024 ![0, 1, 2] bcast_S1x1x1024_S16x256x1024_0_1_2 (addf (broadcastInDim S1x1x1024 ![] bcast_S_S1x1x1024 (constant S_ .f32 0x3F800000#32)) (extractStridedSlice S1x1x1024 ![0, 0, o] (broadcastInDim S1x1x6144 ![0, 2] bcast_S1x6144_S1x1x6144_0_2 mc) h1)))) (broadcastInDim S16x256x1024 ![0, 1, 2] bcast_S1x1x1024_S16x256x1024_0_1_2 (extractStridedSlice S1x1x1024 ![0, 0, p] (broadcastInDim S1x1x6144 ![0, 2] bcast_S1x6144_S1x1x6144_0_2 mc) h2)))⟩, ⟨S16x4096x1024, (addf (mulf (extractStridedSlice S16x4096x1024 ![0, 256, 0] N slices_S16x4352x1024_S16x4096x1024_0_256_0) (broadcastInDim S16x4096x1024 ![0, 1, 2] bcast_S16x1x1024_S16x4096x1024_0_1_2 (addf (broadcastInDim S16x1x1024 ![] bcast_S_S16x1x1024 (constant S_ .f32 0x3F800000#32)) (extractStridedSlice S16x1x1024 ![0, 0, o] (broadcastInDim S16x1x6144 ![0, 2] bcast_S16x6144_S16x1x6144_0_2 mx) h3)))) (broadcastInDim S16x4096x1024 ![0, 1, 2] bcast_S16x1x1024_S16x4096x1024_0_1_2 (extractStridedSlice S16x1x1024 ![0, 0, p] (broadcastInDim S16x1x6144 ![0, 2] bcast_S16x6144_S16x1x6144_0_2 mx) h4)))⟩] concatenates_S16x256x1024_S16x4096x1024_S16x4352x1024_d1

/-- A modulated row, read at an index. -/
theorem modded_at (N : FVec Ideal S16x4352x1024 .f32) (mc : FVec Ideal S1x6144 .f32) (mx : FVec Ideal S16x6144 .f32) (p q : ℕ) (hp : p < 6) (hq : q < 6) (h1 h2 h3 h4)
    (b : Fin 16) (s : Fin 4352) (d : Fin 1024) :
    modded N mc mx (p * 1024) (q * 1024) h1 h2 h3 h4 (ix3 b s d) = N (ix3 b s d) * (Ideal.ofBits .f32 0x3F800000#32 + md mc mx p b s d) + md mc mx q b s d := by
  have hs := s.isLt
  unfold modded
  refine (joined _ _ b s d).trans ?_
  unfold md
  by_cases h : (s : ℕ) < 256
  · rw [if_pos h, if_pos h, if_pos h]
    have es : Fin.ofNat 4352 (Fin.ofNat 256 (s : ℕ)).val = s := Fin.ext (by simp only [Fin.val_ofNat]; omega)
    have hN := half_c N b (Fin.ofNat 256 s) d
    rw [es] at hN
    exact (add_at _ _ _).trans (congr_arg₂ (fun x y : EReal => x + y) ((mul_at _ _ _).trans (congr_arg₂ (fun x y : EReal => x * y) hN
      ((rows_c _ b _ d).trans ((add_at _ _ _).trans (congr_arg₂ (fun x y : EReal => x + y) (one_c d) (mod_c mc (p * 1024) (by omega) _ d))))))
      ((rows_c _ b _ d).trans (mod_c mc (q * 1024) (by omega) _ d)))
  · rw [if_neg h, if_neg h, if_neg h]
    have es : Fin.ofNat 4352 (256 + (Fin.ofNat 4096 ((s : ℕ) - 256)).val) = s := Fin.ext (by simp only [Fin.val_ofNat]; omega)
    have hN := half_x N b (Fin.ofNat 4096 ((s : ℕ) - 256)) d
    rw [es] at hN
    exact (add_at _ _ _).trans (congr_arg₂ (fun x y : EReal => x + y) ((mul_at _ _ _).trans (congr_arg₂ (fun x y : EReal => x * y) hN
      ((rows_x _ b _ d).trans ((add_at _ _ _).trans (congr_arg₂ (fun x y : EReal => x + y) (one_x b d) (mod_x mx (p * 1024) (by omega) _ b d))))))
      ((rows_x _ b _ d).trans (mod_x mx (q * 1024) (by omega) _ b d)))

/-- The rows joined. -/
abbrev rows (cs : FVec Ideal S16x256x1024 .f32) (x : FVec Ideal S16x4096x1024 .f32) : FVec Ideal S16x4352x1024 .f32 :=
  concatenate S16x4352x1024 1 [⟨S16x256x1024, cs⟩, ⟨S16x4096x1024, x⟩] concatenates_S16x256x1024_S16x4096x1024_S16x4352x1024_d1

/-- The modulated rows are the plain ones. -/
theorem h_at (cs : FVec Ideal S16x256x1024 .f32) (x : FVec Ideal S16x4096x1024 .f32) (g : FVec Ideal S1024 .f32) (mc : FVec Ideal S1x6144 .f32) (mx : FVec Ideal S16x6144 .f32)
    (p q : ℕ) (hp : p < 6) (hq : q < 6) (h1 h2 h3 h4) (b : Fin 16) (s : Fin 4352) (d : Fin 1024) :
    modded (norm (rows cs x) g) mc mx (p * 1024) (q * 1024) h1 h2 h3 h4 (ix3 b s d) = hs cs x g mc mx p q b s d := by
  refine (modded_at _ mc mx p q hp hq h1 h2 h3 h4 b s d).trans ?_
  rw [norm_at, funext fun k => joined cs x b s k]
  rfl

end Cert.Reference2Ideal.Ffn
-- ==== Proof.RefFfn.lean ====
module

public import proofs.«01_k».proof.Proof.RefMod

@[expose] public section
set_option maxRecDepth 16384
noncomputable section
namespace Cert.Reference2Ideal.Ffn
open Idealize.ShloMosaic Idealize.ShloMosaic.TcCoe Idealize.ShloMosaic.Tactic
open Cert.Reference2Ideal Cert.Reference2Ideal.Gen Cert.Plain

/-- A product with an up weight. -/
theorem up_at (H : FVec Ideal S16x4352x1024 .f32) (w : FVec Ideal S1024x2816 .f32) (b : Fin 16) (s : Fin 4352) (j : Fin 2816) :
    (Host.dotGeneral dot_S16x4352x1024_S1024x2816_S16x4352x2816_2_0_01_1_n_n none H w : FVec Ideal S16x4352x2816 .f32) (ix3 b s j) = ∑ d : Fin 1024, H (ix3 b s d) * w (ix2 d j) := by
  pointwise

/-- The product with the down weight. -/
theorem down_at (T : FVec Ideal S16x4352x2816 .f32) (w : FVec Ideal S2816x1024 .f32) (b : Fin 16) (s : Fin 4352) (d : Fin 1024) :
    (Host.dotGeneral dot_S16x4352x2816_S2816x1024_S16x4352x1024_2_0_01_1_n_n none T w : FVec Ideal S16x4352x1024 .f32) (ix3 b s d) = ∑ j : Fin 2816, T (ix3 b s j) * w (ix2 j d) := by
  pointwise

/-- One, broadcast over the hidden units. -/
theorem one_h (b : Fin 16) (s : Fin 4352) (j : Fin 2816) :
    (broadcastInDim S16x4352x2816 ![] bcast_S_S16x4352x2816 (constant S_ .f32 0x3F800000#32) : FVec Ideal S16x4352x2816 .f32) (ix3 b s j) = Ideal.ofBits .f32 0x3F800000#32 := by
  pointwise

/-- The gated product of two arrays, as the reference writes it. -/
def gated (a e : FVec Ideal S16x4352x2816 .f32) : FVec Ideal S16x4352x2816 .f32 :=
  mulf (mulf a (Host.divf (broadcastInDim S16x4352x2816 ![] bcast_S_S16x4352x2816 (constant S_ .f32 0x3F800000#32)) (addf (broadcastInDim S16x4352x2816 ![] bcast_S_S16x4352x2816 (constant S_ .f32 0x3F800000#32)) (Host.exp (Host.negf a))))) e

/-- The gated product, read at an index. -/
theorem gated_at (a e : FVec Ideal S16x4352x2816 .f32) (b : Fin 16) (s : Fin 4352) (j : Fin 2816) :
    gated a e (ix3 b s j) = a (ix3 b s j) * sgm (a (ix3 b s j)) * e (ix3 b s j) := by
  have h1 := one_h b s j
  unfold gated sgm
  generalize (broadcastInDim S16x4352x2816 ![] bcast_S_S16x4352x2816 (constant S_ .f32 0x3F800000#32) : FVec Ideal S16x4352x2816 .f32) = B at h1 ⊢
  rw [← h1]
  rfl

/-- The network's output before its gate, as the reference writes it. -/
def net (H : FVec Ideal S16x4352x1024 .f32) (w1 w3 : FVec Ideal S1024x2816 .f32) (w2 : FVec Ideal S2816x1024 .f32) : FVec Ideal S16x4352x1024 .f32 :=
  Host.dotGeneral dot_S16x4352x2816_S2816x1024_S16x4352x1024_2_0_01_1_n_n none (gated (Host.dotGeneral dot_S16x4352x1024_S1024x2816_S16x4352x2816_2_0_01_1_n_n none H w1) (Host.dotGeneral dot_S16x4352x1024_S1024x2816_S16x4352x2816_2_0_01_1_n_n none H w3)) w2

/-- The network's output, read at an index. -/
theorem net_at (H : FVec Ideal S16x4352x1024 .f32) (w1 w3 : FVec Ideal S1024x2816 .f32) (w2 : FVec Ideal S2816x1024 .f32) (b : Fin 16) (s : Fin 4352) (d : Fin 1024) :
    net H w1 w3 w2 (ix3 b s d) = ∑ j : Fin 2816, hid (fun k => H (ix3 b s k)) (fun k => w1 (ix2 k j)) (fun k => w3 (ix2 k j)) * w2 (ix2 j d) := by
  unfold net hid
  refine (down_at _ w2 b s d).trans (Finset.sum_congr rfl fun j _ => ?_)
  rw [gated_at, up_at, up_at]

/-- The gated residual, as the reference writes it. -/
def resid (cs : FVec Ideal S16x256x1024 .f32) (x : FVec Ideal S16x4096x1024 .f32) (N : FVec Ideal S16x4352x1024 .f32) (mc : FVec Ideal S1x6144 .f32) (mx : FVec Ideal S16x6144 .f32) : FVec Ideal S16x4352x1024 .f32 :=
  concatenate S16x4352x1024 1 [⟨S16x256x1024, (addf cs (mulf (broadcastInDim S16x256x1024 ![0, 1, 2] bcast_S1x1x1024_S16x256x1024_0_1_2 (extractStridedSlice S1x1x1024 ![0, 0, 5120] (broadcastInDim S1x1x6144 ![0, 2] bcast_S1x6144_S1x1x6144_0_2 mc) slices_S1x1x6144_S1x1x1024_0_0_5120)) (extractStridedSlice S16x256x1024 ![0, 0, 0] N slices_S16x4352x1024_S16x256x1024_0_0_0)))⟩, ⟨S16x4096x1024, (addf x (mulf (broadcastInDim S16x4096x1024 ![0, 1, 2] bcast_S16x1x1024_S16x4096x1024_0_1_2 (extractStridedSlice S16x1x1024 ![0, 0, 5120] (broadcastInDim S16x1x6144 ![0, 2] bcast_S16x6144_S16x1x6144_0_2 mx) slices_S16x1x6144_S16x1x1024_0_0_5120)) (extractStridedSlice S16x4096x1024 ![0, 256, 0] N slices_S16x4352x1024_S16x4096x1024_0_256_0)))⟩] concatenates_S16x256x1024_S16x4096x1024_S16x4352x1024_d1

/-- The gated residual, read at an index. -/
theorem resid_at (cs : FVec Ideal S16x256x1024 .f32) (x : FVec Ideal S16x4096x1024 .f32) (N : FVec Ideal S16x4352x1024 .f32) (mc : FVec Ideal S1x6144 .f32) (mx : FVec Ideal S16x6144 .f32)
    (b : Fin 16) (s : Fin 4352) (d : Fin 1024) :
    resid cs x N mc mx (ix3 b s d) = xs cs x b s d + md mc mx 5 b s d * N (ix3 b s d) := by
  have hs := s.isLt
  unfold resid
  refine (joined _ _ b s d).trans ?_
  unfold md xs
  by_cases h : (s : ℕ) < 256
  · rw [if_pos h, if_pos h, if_pos h]
    have es : Fin.ofNat 4352 (Fin.ofNat 256 (s : ℕ)).val = s := Fin.ext (by simp only [Fin.val_ofNat]; omega)
    have hN := half_c N b (Fin.ofNat 256 s) d
    rw [es] at hN
    exact (add_at _ _ _).trans (congr_arg₂ (fun x y : EReal => x + y) rfl ((mul_at _ _ _).trans (congr_arg₂ (fun x y : EReal => x * y)
      ((rows_c _ b _ d).trans (mod_c mc 5120 (by omega) _ d)) hN)))
  · rw [if_neg h, if_neg h, if_neg h]
    have es : Fin.ofNat 4352 (256 + (Fin.ofNat 4096 ((s : ℕ) - 256)).val) = s := Fin.ext (by simp only [Fin.val_ofNat]; omega)
    have hN := half_x N b (Fin.ofNat 4096 ((s : ℕ) - 256)) d
    rw [es] at hN
    exact (add_at _ _ _).trans (congr_arg₂ (fun x y : EReal => x + y) rfl ((mul_at _ _ _).trans (congr_arg₂ (fun x y : EReal => x * y)
      ((rows_x _ b _ d).trans (mod_x mx 5120 (by omega) _ b d)) hN)))

variable (m : (ℓ : Loc nD τ sig) → Buf (Elt Ideal) ℓ)

/-- The arguments, at their literal types: the context rows. -/
abbrev argC (c : Dev nD) : FVec Ideal S16x256x1024 .f32 := m ((c.tc : Thread nD τ).loc main_arg0)
/-- The latent rows. -/
abbrev argX (c : Dev nD) : FVec Ideal S16x4096x1024 .f32 := m ((c.tc : Thread nD τ).loc main_arg1)
/-- The norm's weight. -/
abbrev argG (c : Dev nD) : FVec Ideal S1024 .f32 := m ((c.tc : Thread nD τ).loc main_arg2)
/-- The context modulation. -/
abbrev argMC (c : Dev nD) : FVec Ideal S1x6144 .f32 := m ((c.tc : Thread nD τ).loc main_arg3)
/-- The latent modulation. -/
abbrev argMX (c : Dev nD) : FVec Ideal S16x6144 .f32 := m ((c.tc : Thread nD τ).loc main_arg4)
/-- The first weight. -/
abbrev argW1 (c : Dev nD) : FVec Ideal S1024x2816 .f32 := m ((c.tc : Thread nD τ).loc main_arg5)
/-- The gating weight. -/
abbrev argW3 (c : Dev nD) : FVec Ideal S1024x2816 .f32 := m ((c.tc : Thread nD τ).loc main_arg6)
/-- The last weight. -/
abbrev argW2 (c : Dev nD) : FVec Ideal S2816x1024 .f32 := m ((c.tc : Thread nD τ).loc main_arg7)

/-- The reference's term is the composition of the parts. -/
theorem res_eq (c : Dev nD) : Value.res_main_v56 m c = resid (argC m c) (argX m c) (net (modded (norm (rows (argC m c) (argX m c)) (argG m c)) (argMC m c) (argMX m c) (4 * 1024) (3 * 1024)
    slices_S1x1x6144_S1x1x1024_0_0_4096 slices_S1x1x6144_S1x1x1024_0_0_3072 slices_S16x1x6144_S16x1x1024_0_0_4096 slices_S16x1x6144_S16x1x1024_0_0_3072) (argW1 m c) (argW3 m c) (argW2 m c)) (argMC m c) (argMX m c) := by
  unfold Value.res_main_v56 resid net gated modded norm rows
  rfl

/-- The reference's result, read at an index. -/
theorem read (c : Dev nD) (b : Fin 16) (s : Fin 4352) (d : Fin 1024) :
    Value.res_main_v56 m c (ix3 b s d) = ffn (argC m c) (argX m c) (argG m c) (argMC m c) (argMX m c) (argW1 m c) (argW3 m c) (argW2 m c) b s d := by
  rw [res_eq, resid_at, net_at]
  unfold ffn
  have hh := funext fun k => h_at (argC m c) (argX m c) (argG m c) (argMC m c) (argMX m c) 4 3 (by decide) (by decide)
    slices_S1x1x6144_S1x1x1024_0_0_4096 slices_S1x1x6144_S1x1x1024_0_0_3072 slices_S16x1x6144_S16x1x1024_0_0_4096 slices_S16x1x6144_S16x1x1024_0_0_3072 b s k
  rw [hh]

end Cert.Reference2Ideal.Ffn
-- ==== Proof.RefPre.lean ====
module

public import proofs.«01_k».proof.Proof.Gen.Reference3Ideal.Run
public import proofs.«01_k».proof.Proof.RefMod

@[expose] public section
set_option maxRecDepth 16384
noncomputable section
namespace Cert.Reference3Ideal.Pre
open Idealize.ShloMosaic Idealize.ShloMosaic.TcCoe Idealize.ShloMosaic.Tactic
open Cert.Reference3Ideal Cert.Reference3Ideal.Gen Cert.Plain
open Cert.Reference2Ideal.Ffn (modded rows h_at)

/-- A product with the projection's weight. -/
theorem proj_at (H : FVec Ideal S16x4352x1024 .f32) (w : FVec Ideal S1024x4352 .f32) (b : Fin 16) (s : Fin 4352) (j : Fin 4352) :
    (Host.dotGeneral dot_S16x4352x1024_S1024x4352_S16x4352x4352_2_0_01_1_n_n none H w : FVec Ideal S16x4352x4352 .f32) (ix3 b s j) = ∑ d : Fin 1024, H (ix3 b s d) * w (ix2 d j) := by
  pointwise

/-- A product with the gates' weight. -/
theorem up_at (H : FVec Ideal S16x4352x1024 .f32) (w : FVec Ideal S1024x3072 .f32) (b : Fin 16) (s : Fin 4352) (j : Fin 3072) :
    (Host.dotGeneral dot_S16x4352x1024_S1024x3072_S16x4352x3072_2_0_01_1_n_n none H w : FVec Ideal S16x4352x3072 .f32) (ix3 b s j) = ∑ d : Fin 1024, H (ix3 b s d) * w (ix2 d j) := by
  pointwise

/-- One, broadcast over the gates. -/
theorem one_at (b : Fin 16) (s : Fin 4352) (j : Fin 3072) :
    (broadcastInDim S16x4352x3072 ![] bcast_S_S16x4352x3072 (constant S_ .f32 0x3F800000#32) : FVec Ideal S16x4352x3072 .f32) (ix3 b s j) = Ideal.ofBits .f32 0x3F800000#32 := by
  pointwise

/-- The bias, broadcast over the rows. -/
theorem bias_at (v : FVec Ideal S3072 .f32) (b : Fin 16) (s : Fin 4352) (j : Fin 3072) :
    (broadcastInDim S16x4352x3072 ![0, 1, 2] bcast_S1x1x3072_S16x4352x3072_0_1_2 (broadcastInDim S1x1x3072 ![2] bcast_S3072_S1x1x3072_2 v) : FVec Ideal S16x4352x3072 .f32) (ix3 b s j) = v (ix1 j) := by
  pointwise

/-- The logistic function of an array, as the reference writes it. -/
def logistic (a : FVec Ideal S16x4352x3072 .f32) : FVec Ideal S16x4352x3072 .bf16 :=
  truncf .bf16 (Host.divf (broadcastInDim S16x4352x3072 ![] bcast_S_S16x4352x3072 (constant S_ .f32 0x3F800000#32)) (addf (broadcastInDim S16x4352x3072 ![] bcast_S_S16x4352x3072 (constant S_ .f32 0x3F800000#32)) (Host.exp (Host.negf a)))) (by decide)

/-- The logistic function of an array, read at an index. -/
theorem logistic_at (a : FVec Ideal S16x4352x3072 .f32) (b : Fin 16) (s : Fin 4352) (j : Fin 3072) : logistic a (ix3 b s j) = sgm (a (ix3 b s j)) := by
  have h1 := one_at b s j
  unfold logistic sgm
  generalize (broadcastInDim S16x4352x3072 ![] bcast_S_S16x4352x3072 (constant S_ .f32 0x3F800000#32) : FVec Ideal S16x4352x3072 .f32) = B at h1 ⊢
  rw [← h1]
  rfl

/-- The gates, as the reference writes them. -/
def gates (H : FVec Ideal S16x4352x1024 .f32) (u : FVec Ideal S1024x3072 .f32) (v : FVec Ideal S3072 .f32) : FVec Ideal S16x4352x3072 .bf16 :=
  logistic (addf (Host.dotGeneral dot_S16x4352x1024_S1024x3072_S16x4352x3072_2_0_01_1_n_n none H u) (broadcastInDim S16x4352x3072 ![0, 1, 2] bcast_S1x1x3072_S16x4352x3072_0_1_2 (broadcastInDim S1x1x3072 ![2] bcast_S3072_S1x1x3072_2 v)))

/-- The gates, read at an index. -/
theorem gates_at (H : FVec Ideal S16x4352x1024 .f32) (u : FVec Ideal S1024x3072 .f32) (v : FVec Ideal S3072 .f32) (b : Fin 16) (s : Fin 4352) (j : Fin 3072) :
    gates H u v (ix3 b s j) = sgm ((∑ d : Fin 1024, H (ix3 b s d) * u (ix2 d j)) + v (ix1 j)) := by
  unfold gates
  rw [logistic_at]
  exact congr_arg sgm ((add_at _ _ _).trans (congr_arg₂ (fun x y : EReal => x + y) (up_at H u b s j) (bias_at v b s j)))

variable (m : (ℓ : Loc nD τ sig) → Buf (Elt Ideal) ℓ)

/-- The arguments, at their literal types: the context rows. -/
abbrev argC (c : Dev nD) : FVec Ideal S16x256x1024 .f32 := m ((c.tc : Thread nD τ).loc main_arg0)
/-- The latent rows. -/
abbrev argX (c : Dev nD) : FVec Ideal S16x4096x1024 .f32 := m ((c.tc : Thread nD τ).loc main_arg1)
/-- The norm's weight. -/
abbrev argG (c : Dev nD) : FVec Ideal S1024 .f32 := m ((c.tc : Thread nD τ).loc main_arg2)
/-- The context modulation. -/
abbrev argMC (c : Dev nD) : FVec Ideal S1x6144 .f32 := m ((c.tc : Thread nD τ).loc main_arg3)
/-- The latent modulation. -/
abbrev argMX (c : Dev nD) : FVec Ideal S16x6144 .f32 := m ((c.tc : Thread nD τ).loc main_arg4)
/-- The projection's weight. -/
abbrev argW (c : Dev nD) : FVec Ideal S1024x4352 .f32 := m ((c.tc : Thread nD τ).loc main_arg5)
/-- The gates' weight. -/
abbrev argU (c : Dev nD) : FVec Ideal S1024x3072 .f32 := m ((c.tc : Thread nD τ).loc main_arg6)
/-- The gates' bias. -/
abbrev argV (c : Dev nD) : FVec Ideal S3072 .f32 := m ((c.tc : Thread nD τ).loc main_arg7)

/-- The modulated rows, as the reference writes them. -/
def hrows (c : Dev nD) : FVec Ideal S16x4352x1024 .f32 :=
  modded (Cert.Reference2Ideal.Ffn.norm (rows (argC m c) (argX m c)) (argG m c)) (argMC m c) (argMX m c) (1 * 1024) (0 * 1024)
    slices_S1x1x6144_S1x1x1024_0_0_1024 slices_S1x1x6144_S1x1x1024_0_0_0 slices_S16x1x6144_S16x1x1024_0_0_1024 slices_S16x1x6144_S16x1x1024_0_0_0

/-- The modulated rows, read at an index. -/
theorem hrows_at (c : Dev nD) (b : Fin 16) (s : Fin 4352) (d : Fin 1024) :
    hrows m c (ix3 b s d) = hs (argC m c) (argX m c) (argG m c) (argMC m c) (argMX m c) 1 0 b s d :=
  h_at (argC m c) (argX m c) (argG m c) (argMC m c) (argMX m c) 1 0 (by decide) (by decide)
    slices_S1x1x6144_S1x1x1024_0_0_1024 slices_S1x1x6144_S1x1x1024_0_0_0 slices_S16x1x6144_S16x1x1024_0_0_1024 slices_S16x1x6144_S16x1x1024_0_0_0 b s d

/-- The first result is the modulated rows. -/
theorem res_h (c : Dev nD) : Value.res_main_v42 m c = hrows m c := by
  unfold Value.res_main_v42 hrows modded Cert.Reference2Ideal.Ffn.norm rows
  rfl

/-- The second result is their projection. -/
theorem res_p (c : Dev nD) : Value.res_main_v43 m c = (Host.dotGeneral dot_S16x4352x1024_S1024x4352_S16x4352x4352_2_0_01_1_n_n none (hrows m c) (argW m c) : FVec Ideal S16x4352x4352 .f32) := by
  unfold Value.res_main_v43 hrows modded Cert.Reference2Ideal.Ffn.norm rows
  rfl

/-- The third result is their gates. -/
theorem res_g (c : Dev nD) : Value.res_main_v54 m c = gates (hrows m c) (argU m c) (argV m c) := by
  unfold Value.res_main_v54 gates logistic hrows modded Cert.Reference2Ideal.Ffn.norm rows
  rfl

/-- The second result, read at an index. -/
theorem read_p (c : Dev nD) (b : Fin 16) (s : Fin 4352) (j : Fin 4352) :
    Value.res_main_v43 m c (ix3 b s j) = ∑ k : Fin 1024, hs (argC m c) (argX m c) (argG m c) (argMC m c) (argMX m c) 1 0 b s k * argW m c (ix2 k j) := by
  rw [res_p]
  refine (proj_at _ _ b s j).trans (Finset.sum_congr rfl fun k _ => ?_)
  rw [hrows_at]

/-- The third result, read at an index. -/
theorem read_g (c : Dev nD) (b : Fin 16) (s : Fin 4352) (j : Fin 3072) :
    Value.res_main_v54 m c (ix3 b s j) = sgm ((∑ k : Fin 1024, hs (argC m c) (argX m c) (argG m c) (argMC m c) (argMX m c) 1 0 b s k * argU m c (ix2 k j)) + argV m c (ix1 j)) := by
  rw [res_g, gates_at]
  simp only [hrows_at]

end Cert.Reference3Ideal.Pre
-- ==== Proof.Last.lean ====
module

public import proofs.«01_k».proof.Proof.Gen.Kernel4Ideal.Value
public import proofs.«01_k».proof.Proof.Gen.Reference4Ideal.Run
public import proofs.«01_k».proof.Proof.Plain

@[expose] public section
set_option maxRecDepth 16384
noncomputable section
namespace Cert.Kernel4Ideal.Last
open Idealize.ShloMosaic Idealize.ShloMosaic.TcCoe Idealize.ShloMosaic.Tactic
open Cert.Kernel4Ideal Cert.Kernel4Ideal.Gen Cert.Plain

/-- The blocks of a grid step: the rows read lie one tile further on than those written. -/
theorem idx : ∀ t : Fin cfg0.N, win0_0.index t = ![t.val / 16, t.val % 16 + 1, 0] ∧ win0_1.index t = ![0, 0] ∧ win0_2.index t = ![t.val / 16, t.val % 16, 0] :=
  (by decide +kernel : ∀ t : Fin grid0.N, _)

/-- What a step computes of its rows. -/
theorem pay_at (X : FVec Ideal S1x256x1024 .f32) (G : FVec Ideal S1x1024 .f32) (r : Fin 256) (d : Fin 1024) :
    (k0_pay1 X G : FVec Ideal S1x256x1024 .f32) (ix3 0 r d) = nrm (fun k => X (ix3 0 r k)) (fun k => G (ix2 0 k)) d := by
  unfold k0_pay1
  pointwise [nrm]

/-- What a step writes. -/
theorem out_at (x0 : FVec Ideal S1x256x1024 .f32) (x1 : FVec Ideal S1x1024 .f32) (r : Fin 256) (d : Fin 1024) :
    out0_2 (F := Ideal) x0 x1 (ix3 0 r d) = nrm (fun k => x0 (ix3 0 r k)) (fun k => x1 (ix2 0 k)) d := by
  have h0 : View.ld (Val := Elt Ideal) (e' := .f32) x0 r0_0 = x0 := View.ld_unit_zero (by funext a; fin_cases a <;> rfl) _ _
  have h1 : View.ld (Val := Elt Ideal) (e' := .f32) x1 r0_1 = x1 := View.ld_unit_zero (by funext a; fin_cases a <;> rfl) _ _
  unfold out0_2
  rw [View.canon_unit_zero (by funext a; fin_cases a <;> rfl), h0, h1]
  exact pay_at x0 x1 r d

variable (m : (ℓ : Loc nD τ sig) → Buf (Elt Ideal) ℓ)

/-- The context rows. -/
abbrev argC (c : Dev nD) : FVec Ideal S16x256x1024 .f32 := m ((c : Thread nD τ).loc main_arg0)
/-- The latent rows. -/
abbrev argX (c : Dev nD) : FVec Ideal S16x4096x1024 .f32 := m ((c : Thread nD τ).loc main_arg1)
/-- The norm's weight. -/
abbrev argG (c : Dev nD) : FVec Ideal S1024 .f32 := m ((c : Thread nD τ).loc main_arg2)

/-- The result array: each latent row, normalised. -/
def result (x : FVec Ideal S16x4096x1024 .f32) (g : FVec Ideal S1024 .f32) : FVec Ideal S16x4096x1024 .f32 := fun y =>
  nrm (fun k => x (ix3 (y 0) (y 1) k)) (fun k => g (ix1 k)) (y 2)

/-- The rows joined. -/
theorem V_x (c : Dev nD) : V m c main_v0 = fun y : S16x4352x1024.Idx => xs (argC m c) (argX m c) (y 0) (y 1) (y 2) := by
  entry_read
  funext y
  pointwise [argC, argX, xs]
  split
  · refine congr_arg _ ?_
    congr 1
    refine Fin.ext ?_; simp only [Fin.val_ofNat]; omega
  · have : (y 1 : ℕ) < 4352 := (y 1).isLt
    refine congr_arg _ ?_
    congr 1
    refine Fin.ext ?_; simp only [Fin.val_ofNat]; omega

/-- The norm's weight as one row. -/
theorem V_g (c : Dev nD) : V m c main_v1 = fun y : S1x1024.Idx => argG m c (ix1 (y 1)) := by
  entry_read
  funext y
  pointwise [argG]

/-- What a step reads of the rows: latent rows. -/
theorem blk_x (c : Dev nD) (t : Fin cfg0.N) (r : Fin 256) (k : Fin 1024) :
    iblk m c 0 t (ix3 0 r k) = argX m c (ix3 (Fin.ofNat 16 (t.val / 16)) (Fin.ofNat 4096 (t.val % 16 * 256 + r)) k) := by
  have ht : t.val < 256 := t.isLt
  have hx := V_x m c
  generalize argC m c = C at hx ⊢
  generalize argX m c = X at hx ⊢
  blk_simp [iblk, hx, idx t]
  have e0 : (win0_0.blk t).view.emb (ix3 0 r k) 0 = Fin.ofNat 16 (t.val / 16) := Fin.ext (by blk_simp [idx t]; simp only [Fin.val_ofNat]; omega)
  have e2 : (win0_0.blk t).view.emb (ix3 0 r k) 2 = k := Fin.ext (by blk_simp [idx t])
  rw [e0, e2]
  unfold xs
  refine (if_neg (by omega)).trans ?_
  exact congr_arg (fun j : Fin 4096 => X (ix3 (Fin.ofNat 16 (t.val / 16)) j k)) (Fin.ext (by simp only [Fin.val_ofNat]; omega))

/-- What a step reads of the norm's weight. -/
theorem blk_g (c : Dev nD) (t : Fin cfg0.N) (k : Fin 1024) : iblk m c 1 t (ix2 0 k) = argG m c (ix1 k) := by
  blk_simp [iblk, V_g m c, idx t]
  exact congr_arg (fun j : Fin 1024 => argG m c (ix1 j)) (Fin.ext (by blk_simp [idx t]))

/-- The array that the call leaves is `result` of the arguments. -/
theorem final (c : Dev nD) : (dats m 0 c).arrAt 2 cfg0.N = result (argX m c) (argG m c) := by
  refine (dats m 0 c).arrAt_eq_of_covers 2 _ ((cfg0.win 2).covers_of_indexMap_surj rfl (by decide) fun β => ⟨fun a => match a with
    | 0 => β 0 | 1 => β 1, fun a => ?_⟩) fun t hf y => ?_
  · match a with
    | 0 => exact (BitVec.toNat_ofNat ..).trans (Nat.mod_eq_of_lt ((β 0).isLt.trans (by decide)))
    | 1 => exact (BitVec.toNat_ofNat ..).trans (Nat.mod_eq_of_lt ((β 1).isLt.trans (by decide)))
    | 2 => exact (Nat.lt_one_iff.mp (β 2).isLt).symm
  · have ht : t.val < 256 := t.isLt
    have e0 : (win0_2.blk t).view.emb y 0 = Fin.ofNat 16 (t.val / 16) := Fin.ext (by blk_simp [idx t]; simp only [Fin.val_ofNat]; omega)
    have e1 : (win0_2.blk t).view.emb y 1 = Fin.ofNat 4096 (t.val % 16 * 256 + y 1) := Fin.ext (by
      have : (y 1 : ℕ) < 256 := (y 1).isLt
      blk_simp [idx t]; simp only [Fin.val_ofNat]; omega)
    have e2 : (win0_2.blk t).view.emb y 2 = y 2 := Fin.ext (by blk_simp [idx t])
    have hy : y = ix3 0 (y 1) (y 2) := by
      funext a
      match a with
      | 0 => exact Fin.ext (Nat.lt_one_iff.mp (y 0).isLt)
      | 1 => rfl
      | 2 => rfl
    have hb : out0_2 (F := Ideal) (iblk m c 0 t) (iblk m c 1 t) y = result (argX m c) (argG m c) ((win0_2.blk t).view.emb y) := by
      unfold result
      rw [e0, e1, e2]
      refine (congr_arg _ hy).trans ((out_at _ _ (y 1) (y 2)).trans ?_)
      rw [funext (blk_x m c t (y 1)), funext (blk_g m c t)]
    blk_simp
    rw [after0_2]
    exact hb

end Cert.Kernel4Ideal.Last

namespace Cert.Reference4Ideal.Last
open Idealize.ShloMosaic Idealize.ShloMosaic.TcCoe Idealize.ShloMosaic.Tactic
open Cert.Reference4Ideal Cert.Reference4Ideal.Gen Cert.Plain

/-- A sum over the channels. -/
theorem sum_at (A : FVec Ideal S16x4096x1024 .f32) (b : Fin 16) (s : Fin 4096) :
    (Host.reduceAdd A (constant S_ .f32 0x00000000#32) reducesTo_S16x4096x1024_S16x4096_d2 h_S_ : FVec Ideal S16x4096 .f32) (ix2 b s) = ∑ k : Fin 1024, A (ix3 b s k) := by
  pointwise

/-- A row statistic spread over the channels. -/
theorem spread (A : FVec Ideal S16x4096x1 .f32) (b : Fin 16) (s : Fin 4096) (d : Fin 1024) :
    (broadcastInDim S16x4096x1024 ![0, 1, 2] bcast_S16x4096x1_S16x4096x1024_0_1_2 A : FVec Ideal S16x4096x1024 .f32) (ix3 b s d) = A (ix3 b s 0) := by
  pointwise

/-- A row statistic with an axis added. -/
theorem keep (A : FVec Ideal S16x4096 .f32) (b : Fin 16) (s : Fin 4096) :
    (broadcastInDim S16x4096x1 ![0, 1] bcast_S16x4096_S16x4096x1_0_1 A : FVec Ideal S16x4096x1 .f32) (ix3 b s 0) = A (ix2 b s) := by
  pointwise

/-- A literal, broadcast. -/
theorem splat (v : BitVec 32) (b : Fin 16) (s : Fin 4096) :
    (broadcastInDim S16x4096x1 ![] bcast_S_S16x4096x1 (constant S_ .f32 v) : FVec Ideal S16x4096x1 .f32) (ix3 b s 0) = Ideal.ofBits .f32 v := by
  pointwise

/-- The norm's weight, broadcast. -/
theorem weight (g : FVec Ideal S1024 .f32) (b : Fin 16) (s : Fin 4096) (d : Fin 1024) :
    (broadcastInDim S16x4096x1024 ![0, 1, 2] bcast_S1x1x1024_S16x4096x1024_0_1_2 (broadcastInDim S1x1x1024 ![2] bcast_S1024_S1x1x1024_2 g) : FVec Ideal S16x4096x1024 .f32) (ix3 b s d) = g (ix1 d) := by
  pointwise

/-- The normalised rows of `A`, as the reference writes them. -/
def norm (A : FVec Ideal S16x4096x1024 .f32) (g : FVec Ideal S1024 .f32) : FVec Ideal S16x4096x1024 .f32 :=
  mulf (mulf A (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf A A) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 g))

/-- The row factor from the row's sum of squares. -/
theorem stat_at (Q : FVec Ideal S16x4096 .f32) (b : Fin 16) (s : Fin 4096) :
    (Host.rsqrt (addf (Host.divf (broadcastInDim S16x4096x1 ![0, 1] bcast_S16x4096_S16x4096x1_0_1 Q) (broadcastInDim S16x4096x1 ![] bcast_S_S16x4096x1 (constant S_ .f32 0x44800000#32))) (broadcastInDim S16x4096x1 ![] bcast_S_S16x4096x1 (constant S_ .f32 0x358637BD#32))) : FVec Ideal S16x4096x1 .f32) (ix3 b s 0)
    = Ideal.rsqrt (Ideal.div (Q (ix2 b s)) (Ideal.ofBits .f32 0x44800000#32) + Ideal.ofBits .f32 0x358637BD#32) := by
  have h1 := keep Q b s
  have h2 := splat 0x44800000#32 b s
  have h3 := splat 0x358637BD#32 b s
  generalize broadcastInDim S16x4096x1 ![0, 1] bcast_S16x4096_S16x4096x1_0_1 Q = A at h1 ⊢
  generalize (broadcastInDim S16x4096x1 ![] bcast_S_S16x4096x1 (constant S_ .f32 0x44800000#32) : FVec Ideal S16x4096x1 .f32) = B at h2 ⊢
  generalize (broadcastInDim S16x4096x1 ![] bcast_S_S16x4096x1 (constant S_ .f32 0x358637BD#32) : FVec Ideal S16x4096x1 .f32) = C at h3 ⊢
  rw [← h1, ← h2, ← h3]
  rfl

/-- Rows times a row factor times a weight. -/
theorem scaled (A : FVec Ideal S16x4096x1024 .f32) (R : FVec Ideal S16x4096x1 .f32) (g : FVec Ideal S1024 .f32) (b : Fin 16) (s : Fin 4096) (d : Fin 1024) :
    (mulf (mulf A (broadcastInDim S16x4096x1024 ![0, 1, 2] bcast_S16x4096x1_S16x4096x1024_0_1_2 R)) (broadcastInDim S16x4096x1024 ![0, 1, 2] bcast_S1x1x1024_S16x4096x1024_0_1_2 (broadcastInDim S1x1x1024 ![2] bcast_S1024_S1x1x1024_2 g)) : FVec Ideal S16x4096x1024 .f32) (ix3 b s d)
    = A (ix3 b s d) * R (ix3 b s 0) * g (ix1 d) := by
  rw [← spread R b s d, ← weight g b s d]
  exact (mul_at _ _ _).trans (congr_arg (fun x : EReal => x * _) (mul_at _ _ _))

/-- A normalised row is the plain one. -/
theorem norm_at (A : FVec Ideal S16x4096x1024 .f32) (g : FVec Ideal S1024 .f32) (b : Fin 16) (s : Fin 4096) (d : Fin 1024) :
    norm A g (ix3 b s d) = nrm (fun k => A (ix3 b s k)) (fun k => g (ix1 k)) d := by
  unfold norm nrm
  rw [scaled, stat_at, sum_at]
  rfl

/-- The reference's result is the plain one. -/
theorem read (A : FVec Ideal S16x4096x1024 .f32) (g : FVec Ideal S1024 .f32) : norm A g = Cert.Kernel4Ideal.Last.result A g := by
  funext y
  have hy : y = ix3 (y 0) (y 1) (y 2) := by funext a; fin_cases a <;> rfl
  exact (congr_arg (norm A g) hy).trans (norm_at A g (y 0) (y 1) (y 2))

end Cert.Reference4Ideal.Last
-- ==== Proof.Frame5.lean ====
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Claim
public import Idealize.ShloMosaic.Lib.Pipeline.ClipFacts
public import Idealize.ShloMosaic.Lib.Ring
public import Idealize.ShloMosaic.Lib.Tactic
public import Idealize.ShloMosaic.Lib.WordCmp

@[expose] public section

set_option maxRecDepth 16384

noncomputable section

namespace Cert.Kernel5Ideal.Frm

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-- The host operations of part 0 make no new buffer. -/
theorem hostOps0_fresh : (hostOps0 : List (HloOp τ sig (Elt F))).Forall fun op => op.fresh = ∅ := by
  simp only [List.Forall]; repeat' constructor
/-- The host operations of part 1 make no new buffer. -/
theorem hostOps0_1_fresh : (hostOps0_1 : List (HloOp τ sig (Elt F))).Forall fun op => op.fresh = ∅ := by
  simp only [List.Forall]; repeat' constructor
/-- The host operations of part 2 make no new buffer. -/
theorem hostOps0_2_fresh : (hostOps0_2 : List (HloOp τ sig (Elt F))).Forall fun op => op.fresh = ∅ := by
  simp only [List.Forall]; repeat' constructor
/-- The host operations of part 3 make no new buffer. -/
theorem hostOps0_3_fresh : (hostOps0_3 : List (HloOp τ sig (Elt F))).Forall fun op => op.fresh = ∅ := by
  simp only [List.Forall]; repeat' constructor
/-- The host operations of part 4 make no new buffer. -/
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The argument arrays. -/
abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

/-- No host operation before the region writes an argument array: the region finds it as launched. -/
theorem V_arg (b : Ref sig .tc) (hb : b ∈ args) (c : Dev nD) : V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne fun e => absurd (e ▸ hb) (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The projection's blocks end inside the array. -/
theorem inside8 : ∀ (t : Fin cfg0.N) (a : Fin 3), (win0_8.index t a + 1) * win0_8.size a ≤ win0_8.shape.size a :=
  (by decide +kernel : ∀ (t : Fin grid0.N) (a : Fin 3), _)

/-- So each is moved whole. -/
theorem whole8 (t : Fin cfg0.N) (y : S1x544x512.Idx) (a : Fin 3) : (y a).val < win0_8.xsize (grid0.coords t) a :=
  (y a).isLt.trans_eq (Pipeline.Clip.extent_of_inb (inside8 t a)).symm

/-- The projection's block at point `t`. -/
def zblk (c : Dev nD) (t : Fin cfg0.N) : Vec F S1x544x512 .f32 := fun y => iblk m c 8 t fun a => ⟨(y a).val, whole8 t y a⟩

/-! ## The body's accesses -/

abbrev r0_0 : Rect S1x544x512 := Rect.unit (s := S1x544x512) ![0, 0, 0] S1x544x512.size inb_S1x544x512_S1x544x512_0_0_0
abbrev r0_1 : Rect S512x512 := Rect.unit (s := S512x512) ![0, 0] S512x512.size inb_S512x512_S512x512_0_0
abbrev r0_2 : Rect S1x512 := Rect.unit (s := S1x512) ![0, 0] S1x512.size inb_S1x512_S1x512_0_0
abbrev r0_3 : Rect S1x544x3072 := Rect.unit (s := S1x544x3072) ![0, 0, 0] S1x544x1024.size inb_S1x544x3072_S1x544x1024_0_0_0
abbrev r0_4 : Rect S512x1024 := Rect.unit (s := S512x1024) ![0, 0] S512x1024.size inb_S512x1024_S512x1024_0_0
abbrev r0_5 : Rect S1x544x3072 := Rect.unit (s := S1x544x3072) ![0, 0, 1024] S1x544x1024.size inb_S1x544x3072_S1x544x1024_0_0_1024
abbrev r0_6 : Rect S1x544x3072 := Rect.unit (s := S1x544x3072) ![0, 0, 2048] S1x544x1024.size inb_S1x544x3072_S1x544x1024_0_0_2048
abbrev r0_7 : Rect S1024x1024 := Rect.unit (s := S1024x1024) ![0, 0] S1024x1024.size inb_S1024x1024_S1024x1024_0_0
abbrev r0_8 : Rect S1x2x6x1024 := Rect.unit (s := S1x2x6x1024) ![0, 0, 2, 0] S1x1x1x1024.size inb_S1x2x6x1024_S1x1x1x1024_0_0_2_0
abbrev r0_9 : Rect S1x2x6x1024 := Rect.unit (s := S1x2x6x1024) ![0, 1, 2, 0] S1x1x1x1024.size inb_S1x2x6x1024_S1x1x1x1024_0_1_2_0
abbrev r0_10 : Rect S1x544x1024 := Rect.unit (s := S1x544x1024) ![0, 0, 0] S1x544x1024.size inb_S1x544x1024_S1x544x1024_0_0_0

/-! ## What the body leaves in each output window's buffer -/

/-- Window 21's staging buffer after the body, from the input windows' blocks: its 1 store as one piece. -/
def out0_21 (i : grid0.Coords) (x0 : Vec F S1x544x1024 .f32) (x1 : Vec F S1x544x512 .f32) (x2 : Vec F S1x544x512 .f32) (x3 : Vec F S1x544x512 .f32) (x4 : Vec F S1x544x512 .f32) (x5 : Vec F S1x544x512 .f32) (x6 : Vec F S1x544x512 .f32) (x7 : Vec F S1x544x512 .f32) (x8 : Vec F S1x544x512 .f32) (x9 : Vec F S1x544x512 .bf16) (x10 : Vec F S1x544x3072 .bf16) (x11 : Vec F S1x2x6x1024 .f32) (x12 : Vec F S1x512 .f32) (x13 : Vec F S1x512 .f32) (x14 : Vec F S512x512 .bf16) (x15 : Vec F S1x512 .f32) (x16 : Vec F S512x512 .bf16) (x17 : Vec F S512x1024 .bf16) (x18 : Vec F S512x1024 .bf16) (x19 : Vec F S512x1024 .bf16) (x20 : Vec F S1024x1024 .bf16) : Vec F S1x544x1024 .f32 :=
  View.canon [⟨r0_10, k0_pay1 (BitVec.ofNat 32 (i 1).val) (k0_pay6 (k0_pay3 (k0_pay2 (View.ld x1 r0_0) (View.ld x2 r0_0) (View.ld x3 r0_0) (View.ld x14 r0_1) (View.ld x14 r0_1)) (View.ld x12 r0_2) (View.ld x13 r0_2) (View.ld x4 r0_0) (View.ld x5 r0_0)) (k0_pay4 (View.ld x8 r0_0)) (k0_pay5 (View.ld x6 r0_0) (View.ld x7 r0_0) (View.ld x16 r0_1)) (View.ld x15 r0_2) (View.ld x10 r0_3) (View.ld x17 r0_4) (View.ld x10 r0_5) (View.ld x18 r0_4)) (k0_pay7 (View.ld x10 r0_6)) (k0_pay8 (View.ld x9 r0_0)) (View.ld x19 r0_4) (View.ld x20 r0_7) (View.ld x11 r0_8) (View.ld x11 r0_9) (View.ld x0 r0_10)⟩]

/-- Its stores tile the buffer (checked by evaluation), so they cover it. -/
theorem cover0_21 (p0 : Vec F S1x544x1024 .f32) (y : S1x544x1024.Idx) :
    ∃ pc ∈ ([⟨r0_10, p0⟩] : List (View.Piece (Elt F) S1x544x1024 .f32)), y ∈ pc.1.set :=
  View.cover_of_tiled [⟨r0_10, p0⟩] S1x544x1024.size (by rfl) y

/-! ## The body's triple -/

set_option maxHeartbeats 1000000 in
/-- The kernel body on whole staging memrefs, the inputs' at read contents `xW` and the outputs' at anything, runs to
    the continuation holding the inputs' as they were and each output's at `out0_W` of the inputs'. -/
theorem sound_kernel (c : Dev nD) (E : Set ℕ) (i : grid0.Coords) (arg2 : Memref sig .tc .vmem S1x544x1024 .f32) (harg2 : arg2.IsWhole) (arg3 : Memref sig .tc .vmem S1x544x512 .f32) (harg3 : arg3.IsWhole) (arg4 : Memref sig .tc .vmem S1x544x512 .f32) (harg4 : arg4.IsWhole) (arg5 : Memref sig .tc .vmem S1x544x512 .f32) (harg5 : arg5.IsWhole) (arg6 : Memref sig .tc .vmem S1x544x512 .f32) (harg6 : arg6.IsWhole) (arg7 : Memref sig .tc .vmem S1x544x512 .f32) (harg7 : arg7.IsWhole) (arg8 : Memref sig .tc .vmem S1x544x512 .f32) (harg8 : arg8.IsWhole) (arg9 : Memref sig .tc .vmem S1x544x512 .f32) (harg9 : arg9.IsWhole) (arg10 : Memref sig .tc .vmem S1x544x512 .f32) (harg10 : arg10.IsWhole) (arg11 : Memref sig .tc .vmem S1x544x512 .bf16) (harg11 : arg11.IsWhole) (arg12 : Memref sig .tc .vmem S1x544x3072 .bf16) (harg12 : arg12.IsWhole) (arg13 : Memref sig .tc .vmem S1x2x6x1024 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S512x512 .bf16) (harg16 : arg16.IsWhole) (arg17 : Memref sig .tc .vmem S1x512 .f32) (harg17 : arg17.IsWhole) (arg18 : Memref sig .tc .vmem S512x512 .bf16) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S1024x1024 .bf16) (harg22 : arg22.IsWhole) (arg23 : Memref sig .tc .vmem S1x544x1024 .f32) (harg23 : arg23.IsWhole)
    (x0 : Vec F S1x544x1024 .f32) (x1 : Vec F S1x544x512 .f32) (x2 : Vec F S1x544x512 .f32) (x3 : Vec F S1x544x512 .f32) (x4 : Vec F S1x544x512 .f32) (x5 : Vec F S1x544x512 .f32) (x6 : Vec F S1x544x512 .f32) (x7 : Vec F S1x544x512 .f32) (x8 : Vec F S1x544x512 .f32) (x9 : Vec F S1x544x512 .bf16) (x10 : Vec F S1x544x3072 .bf16) (x11 : Vec F S1x2x6x1024 .f32) (x12 : Vec F S1x512 .f32) (x13 : Vec F S1x512 .f32) (x14 : Vec F S512x512 .bf16) (x15 : Vec F S1x512 .f32) (x16 : Vec F S512x512 .bf16) (x17 : Vec F S512x1024 .bf16) (x18 : Vec F S512x1024 .bf16) (x19 : Vec F S512x1024 .bf16) (x20 : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ (∃ d, owns (c : Thread nD τ) arg23 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare (out0_21 i x0 x1 x2 x3 x4 x5 x6 x7 x8 x9 x10 x11 x12 x13 x14 x15 x16 x17 x18 x19 x20)) -∗ K ⟨⟩))
      ⊢ wp frame (wpE (defs₀ (F := F)) Variants.none c none) E (cc0_merge i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_merge_eq_skeleton]; unfold cc0_merge_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, Hk⟩
  subst hf0 hf1 hf2 hf3 hf4 hf5 hf6 hf7 hf8 hf9 hf10 hf11 hf12 hf13 hf14 hf15 hf16 hf17 hf18 hf19 hf20
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  iexists _; isplitr
  swap; · iexact H21
  ipureintro
  exact View.read_writes_eq_canon _ _ _ (cover0_21 _)

/-! ## The pipeline's proof data -/

/-- The proof data of the one pipeline on core `c`: the arrays as the region finds them (`V`); after the body at
    point `t` each input's buffer at its block and each output's at `out0_W` of the input blocks; the rest is untouched,
    nothing is owed and the shares are full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => zblk m c t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => out0_21 (grid0.coords t) (iblk m c 0 t) (iblk m c 1 t) (iblk m c 2 t) (iblk m c 3 t) (iblk m c 4 t) (iblk m c 5 t) (iblk m c 6 t) (iblk m c 7 t) (zblk m c t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨_ + 22, h⟩ => absurd h (Nat.not_lt.2 (Nat.le_add_left _ _))
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

/-- What the body leaves in the output's buffer. -/
theorem after0_21 (c : Dev nD) (t : Fin cfg0.N) : (dats m 0 c).after 21 t = out0_21 (grid0.coords t) (iblk m c 0 t) (iblk m c 1 t) (iblk m c 2 t) (iblk m c 3 t) (iblk m c 4 t) (iblk m c 5 t) (iblk m c 6 t) (iblk m c 7 t) (zblk m c t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]

/-- The body leaves input window 0's buffer at its block. -/
theorem after0_0 (c : Dev nD) (t : Fin cfg0.N) : (dats m 0 c).after 0 t = iblk m c 0 t := by dsimp only [dats]
/-- The body leaves input window 1's buffer at its block. -/
theorem after0_1 (c : Dev nD) (t : Fin cfg0.N) : (dats m 0 c).after 1 t = iblk m c 1 t := by dsimp only [dats]
/-- The body leaves input window 2's buffer at its block. -/
theorem after0_2 (c : Dev nD) (t : Fin cfg0.N) : (dats m 0 c).after 2 t = iblk m c 2 t := by dsimp only [dats]
/-- The body leaves input window 3's buffer at its block. -/
theorem after0_3 (c : Dev nD) (t : Fin cfg0.N) : (dats m 0 c).after 3 t = iblk m c 3 t := by dsimp only [dats]
/-- The body leaves input window 4's buffer at its block. -/
theorem after0_4 (c : Dev nD) (t : Fin cfg0.N) : (dats m 0 c).after 4 t = iblk m c 4 t := by dsimp only [dats]
/-- The body leaves input window 5's buffer at its block. -/
theorem after0_5 (c : Dev nD) (t : Fin cfg0.N) : (dats m 0 c).after 5 t = iblk m c 5 t := by dsimp only [dats]
/-- The body leaves input window 6's buffer at its block. -/
theorem after0_6 (c : Dev nD) (t : Fin cfg0.N) : (dats m 0 c).after 6 t = iblk m c 6 t := by dsimp only [dats]
/-- The body leaves input window 7's buffer at its block. -/
theorem after0_7 (c : Dev nD) (t : Fin cfg0.N) : (dats m 0 c).after 7 t = iblk m c 7 t := by dsimp only [dats]
/-- The body leaves input window 8's buffer at its block. -/
theorem after0_8 (c : Dev nD) (t : Fin cfg0.N) : (dats m 0 c).after 8 t = zblk m c t := by dsimp only [dats]
/-- The body leaves input window 9's buffer at its block. -/
theorem after0_9 (c : Dev nD) (t : Fin cfg0.N) : (dats m 0 c).after 9 t = iblk m c 9 t := by dsimp only [dats]
/-- The body leaves input window 10's buffer at its block. -/
theorem after0_10 (c : Dev nD) (t : Fin cfg0.N) : (dats m 0 c).after 10 t = iblk m c 10 t := by dsimp only [dats]
/-- The body leaves input window 11's buffer at its block. -/
theorem after0_11 (c : Dev nD) (t : Fin cfg0.N) : (dats m 0 c).after 11 t = iblk m c 11 t := by dsimp only [dats]
/-- The body leaves input window 12's buffer at its block. -/
theorem after0_12 (c : Dev nD) (t : Fin cfg0.N) : (dats m 0 c).after 12 t = iblk m c 12 t := by dsimp only [dats]
/-- The body leaves input window 13's buffer at its block. -/
theorem after0_13 (c : Dev nD) (t : Fin cfg0.N) : (dats m 0 c).after 13 t = iblk m c 13 t := by dsimp only [dats]
/-- The body leaves input window 14's buffer at its block. -/
theorem after0_14 (c : Dev nD) (t : Fin cfg0.N) : (dats m 0 c).after 14 t = iblk m c 14 t := by dsimp only [dats]
/-- The body leaves input window 15's buffer at its block. -/
theorem after0_15 (c : Dev nD) (t : Fin cfg0.N) : (dats m 0 c).after 15 t = iblk m c 15 t := by dsimp only [dats]
/-- The body leaves input window 16's buffer at its block. -/
theorem after0_16 (c : Dev nD) (t : Fin cfg0.N) : (dats m 0 c).after 16 t = iblk m c 16 t := by dsimp only [dats]
/-- The body leaves input window 17's buffer at its block. -/
theorem after0_17 (c : Dev nD) (t : Fin cfg0.N) : (dats m 0 c).after 17 t = iblk m c 17 t := by dsimp only [dats]
/-- The body leaves input window 18's buffer at its block. -/
theorem after0_18 (c : Dev nD) (t : Fin cfg0.N) : (dats m 0 c).after 18 t = iblk m c 18 t := by dsimp only [dats]
/-- The body leaves input window 19's buffer at its block. -/
theorem after0_19 (c : Dev nD) (t : Fin cfg0.N) : (dats m 0 c).after 19 t = iblk m c 19 t := by dsimp only [dats]
/-- The body leaves input window 20's buffer at its block. -/
theorem after0_20 (c : Dev nD) (t : Fin cfg0.N) : (dats m 0 c).after 20 t = iblk m c 20 t := by dsimp only [dats]

/-- Input window 0's buffer holds its block at every point. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans (by unfold Dat.fetched Dat.blockOf iblk; rw [A_eq]; try rfl)
/-- Input window 1's buffer holds its block at every point. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans (by unfold Dat.fetched Dat.blockOf iblk; rw [A_eq]; try rfl)
/-- Input window 2's buffer holds its block at every point. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans (by unfold Dat.fetched Dat.blockOf iblk; rw [A_eq]; try rfl)
/-- Input window 3's buffer holds its block at every point. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans (by unfold Dat.fetched Dat.blockOf iblk; rw [A_eq]; try rfl)
/-- Input window 4's buffer holds its block at every point. -/
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans (by unfold Dat.fetched Dat.blockOf iblk; rw [A_eq]; try rfl)
/-- Input window 5's buffer holds its block at every point. -/
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans (by unfold Dat.fetched Dat.blockOf iblk; rw [A_eq]; try rfl)
/-- Input window 6's buffer holds its block at every point. -/
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans (by unfold Dat.fetched Dat.blockOf iblk; rw [A_eq]; try rfl)
/-- Input window 7's buffer holds its block at every point. -/
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans (by unfold Dat.fetched Dat.blockOf iblk; rw [A_eq]; try rfl)
/-- Input window 8's buffer holds its block at every point: each point fetches it, whole. -/
theorem before0_8 (c : Dev nD) (t : Fin cfg0.N) (d) : (dats m 0 c).before 8 t d = zblk m c t := by
  refine ((dats m 0 c).before_fetched 8 t (fetch0_8 t) d).trans (funext fun y => ?_)
  unfold Pipeline.Dat.fetched Pipeline.Window.fill
  rw [dif_pos (((cfg0.win 8).moved_iff _ _).mpr (whole8 t y))]
  unfold Pipeline.Dat.blockOf zblk iblk
  rw [A_eq]
/-- Input window 9's buffer holds its block at every point. -/
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans (by unfold Dat.fetched Dat.blockOf iblk; rw [A_eq]; try rfl)
/-- Input window 10's buffer holds its block at every point. -/
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans (by unfold Dat.fetched Dat.blockOf iblk; rw [A_eq]; try rfl)
/-- Input window 11's buffer holds its block at every point. -/
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans (by unfold Dat.fetched Dat.blockOf iblk; rw [A_eq]; try rfl)
/-- Input window 12's buffer holds its block at every point. -/
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans (by unfold Dat.fetched Dat.blockOf iblk; rw [A_eq]; try rfl)
/-- Input window 13's buffer holds its block at every point. -/
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans (by unfold Dat.fetched Dat.blockOf iblk; rw [A_eq]; try rfl)
/-- Input window 14's buffer holds its block at every point. -/
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans (by unfold Dat.fetched Dat.blockOf iblk; rw [A_eq]; try rfl)
/-- Input window 15's buffer holds its block at every point. -/
theorem before0_15 (c : Dev nD) (t : Fin cfg0.N) (d) : (dats m 0 c).before 15 t d = iblk m c 15 t :=
  ((dats m 0 c).before_in_eq_fetched 15 rfl (fun _ => rfl) (fun _ _ _ => rfl) (fun t => by rw [after0_15]; unfold Dat.blockOf iblk; rw [A_eq]; try rfl) t d).trans (by unfold Dat.fetched Dat.blockOf iblk; rw [A_eq]; try rfl)
/-- Input window 16's buffer holds its block at every point. -/
theorem before0_16 (c : Dev nD) (t : Fin cfg0.N) (d) : (dats m 0 c).before 16 t d = iblk m c 16 t :=
  ((dats m 0 c).before_in_eq_fetched 16 rfl (fun _ => rfl) (fun _ _ _ => rfl) (fun t => by rw [after0_16]; unfold Dat.blockOf iblk; rw [A_eq]; try rfl) t d).trans (by unfold Dat.fetched Dat.blockOf iblk; rw [A_eq]; try rfl)
/-- Input window 17's buffer holds its block at every point. -/
theorem before0_17 (c : Dev nD) (t : Fin cfg0.N) (d) : (dats m 0 c).before 17 t d = iblk m c 17 t :=
  ((dats m 0 c).before_in_eq_fetched 17 rfl (fun _ => rfl) (fun _ _ _ => rfl) (fun t => by rw [after0_17]; unfold Dat.blockOf iblk; rw [A_eq]; try rfl) t d).trans (by unfold Dat.fetched Dat.blockOf iblk; rw [A_eq]; try rfl)
/-- Input window 18's buffer holds its block at every point. -/
theorem before0_18 (c : Dev nD) (t : Fin cfg0.N) (d) : (dats m 0 c).before 18 t d = iblk m c 18 t :=
  ((dats m 0 c).before_in_eq_fetched 18 rfl (fun _ => rfl) (fun _ _ _ => rfl) (fun t => by rw [after0_18]; unfold Dat.blockOf iblk; rw [A_eq]; try rfl) t d).trans (by unfold Dat.fetched Dat.blockOf iblk; rw [A_eq]; try rfl)
/-- Input window 19's buffer holds its block at every point. -/
theorem before0_19 (c : Dev nD) (t : Fin cfg0.N) (d) : (dats m 0 c).before 19 t d = iblk m c 19 t :=
  ((dats m 0 c).before_in_eq_fetched 19 rfl (fun _ => rfl) (fun _ _ _ => rfl) (fun t => by rw [after0_19]; unfold Dat.blockOf iblk; rw [A_eq]; try rfl) t d).trans (by unfold Dat.fetched Dat.blockOf iblk; rw [A_eq]; try rfl)
/-- Input window 20's buffer holds its block at every point. -/
theorem before0_20 (c : Dev nD) (t : Fin cfg0.N) (d) : (dats m 0 c).before 20 t d = iblk m c 20 t :=
  ((dats m 0 c).before_in_eq_fetched 20 rfl (fun _ => rfl) (fun _ _ _ => rfl) (fun t => by rw [after0_20]; unfold Dat.blockOf iblk; rw [A_eq]; try rfl) t d).trans (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel c Set.univ (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (zblk m c t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 1000000 in
/-- What the pipeline asks of its body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The program runs, every array of the pipeline ends at what the proof data say, and every counter ends at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

set_option maxHeartbeats 1320000 in
/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h c).2 main_arg0 (Pipeline.mem_restRefs_of main_arg0 (by decide) (by decide))).trans (V_arg m main_arg0 (by decide) c),
      ((h c).2 main_arg1 (Pipeline.mem_restRefs_of main_arg1 (by decide) (by decide))).trans (V_arg m main_arg1 (by decide) c),
      ((h c).1 1).trans (((dats m 0 c).arrAt_in 1 rfl _).trans ((A_eq m c 1).trans (V_arg m main_arg2 (by decide) c))),
      ((h c).1 2).trans (((dats m 0 c).arrAt_in 2 rfl _).trans ((A_eq m c 2).trans (V_arg m main_arg3 (by decide) c))),
      ((h c).1 3).trans (((dats m 0 c).arrAt_in 3 rfl _).trans ((A_eq m c 3).trans (V_arg m main_arg4 (by decide) c))),
      ((h c).1 4).trans (((dats m 0 c).arrAt_in 4 rfl _).trans ((A_eq m c 4).trans (V_arg m main_arg5 (by decide) c))),
      ((h c).1 5).trans (((dats m 0 c).arrAt_in 5 rfl _).trans ((A_eq m c 5).trans (V_arg m main_arg6 (by decide) c))),
      ((h c).1 6).trans (((dats m 0 c).arrAt_in 6 rfl _).trans ((A_eq m c 6).trans (V_arg m main_arg7 (by decide) c))),
      ((h c).1 7).trans (((dats m 0 c).arrAt_in 7 rfl _).trans ((A_eq m c 7).trans (V_arg m main_arg8 (by decide) c))),
      ((h c).1 8).trans (((dats m 0 c).arrAt_in 8 rfl _).trans ((A_eq m c 8).trans (V_arg m main_arg9 (by decide) c))),
      ((h c).1 9).trans (((dats m 0 c).arrAt_in 9 rfl _).trans ((A_eq m c 9).trans (V_arg m main_arg10 (by decide) c))),
      ((h c).1 10).trans (((dats m 0 c).arrAt_in 10 rfl _).trans ((A_eq m c 10).trans (V_arg m main_arg11 (by decide) c))),
      ((h c).2 main_arg12 (Pipeline.mem_restRefs_of main_arg12 (by decide) (by decide))).trans (V_arg m main_arg12 (by decide) c),
      ((h c).2 main_arg13 (Pipeline.mem_restRefs_of main_arg13 (by decide) (by decide))).trans (V_arg m main_arg13 (by decide) c),
      ((h c).2 main_arg14 (Pipeline.mem_restRefs_of main_arg14 (by decide) (by decide))).trans (V_arg m main_arg14 (by decide) c),
      ((h c).2 main_arg15 (Pipeline.mem_restRefs_of main_arg15 (by decide) (by decide))).trans (V_arg m main_arg15 (by decide) c),
      ((h c).2 main_arg16 (Pipeline.mem_restRefs_of main_arg16 (by decide) (by decide))).trans (V_arg m main_arg16 (by decide) c),
      ((h c).2 main_arg17 (Pipeline.mem_restRefs_of main_arg17 (by decide) (by decide))).trans (V_arg m main_arg17 (by decide) c),
      ((h c).2 main_arg18 (Pipeline.mem_restRefs_of main_arg18 (by decide) (by decide))).trans (V_arg m main_arg18 (by decide) c),
      ((h c).2 main_arg19 (Pipeline.mem_restRefs_of main_arg19 (by decide) (by decide))).trans (V_arg m main_arg19 (by decide) c),
      ((h c).2 main_arg20 (Pipeline.mem_restRefs_of main_arg20 (by decide) (by decide))).trans (V_arg m main_arg20 (by decide) c)⟩) (run_main m ρ)

/-- The frame: the program runs, its arguments end unchanged and every counter ends at zero, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (unchanged m ρ) ((θ_run defs _ _).mono (fun _ h => h.2) (run_main_quiescent m ρ))

end Cert.Kernel5Ideal.Frm

end
-- ==== Proof.Merge.lean ====
module

public import proofs.«01_k».proof.Proof.Plain
public import proofs.«01_k».proof.Proof.Softmax

@[expose] public section
set_option maxRecDepth 16384
noncomputable section
namespace Cert.Plain
open Idealize.ShloMosaic Idealize.ShloMosaic.TcCoe

/-- The sum over channels `h * n` to `h * n + n - 1` of a row of 512. -/
def seg (n h : ℕ) (f : Fin 512 → EReal) : EReal := ∑ e : Fin n, f (Fin.ofNat 512 (h * n + e))

/-- A channel less the mean of its head of 64. -/
def cen (o : Fin 512 → EReal) (k : Fin 512) : EReal := o k - Ideal.div (seg 64 (k / 64) o) (Ideal.ofBits .f32 0x42800000#32)

/-- A row normalised head by head, with weight, bias, bonus and gate. -/
def gno (o w b u g : Fin 512 → EReal) (k : Fin 512) : EReal :=
  (cen o k * Ideal.rsqrt (Ideal.div (seg 64 (k / 64) fun j => cen o j * cen o j) (Ideal.ofBits .f32 0x42800000#32) + Ideal.ofBits .f32 0x3A27C5AC#32) * w k + b k + u k) * g k

/-- A row scaled to unit mean square head by head, with weight and gate. -/
def gms (o w z : Fin 512 → EReal) (k : Fin 512) : EReal :=
  o k * Ideal.rsqrt (Ideal.div (seg 128 (k / 128) fun j => o j * o j) (Ideal.ofBits .f32 0x43000000#32) + Ideal.ofBits .f32 0x358637BD#32) * w k * (z k * sgm (z k))

/-- The gated sum of three projected rows. -/
def mix (ya yb yc : Fin 512 → EReal) (ga gb gc : Fin 1024 → EReal) (wa wb wc : Fin 512 → Fin 1024 → EReal) (j : Fin 1024) : EReal :=
  ga j * (∑ k, ya k * wa k j) + gb j * (∑ k, yb k * wb k j) + gc j * ∑ k, yc k * wc k j

/-- A sum against a 0/1 column that marks one segment is the segment's sum. -/
theorem sum_mark {n : ℕ} (hn : n = 64 ∨ n = 128) (f : Fin 512 → EReal) (d : Fin 512) (B : Fin 512 → EReal) (hB : ∀ k : Fin 512, B k = if (k : ℕ) / n = d / n then 1 else 0) :
    ∑ k, f k * B k = seg n (d / n) f := by
  have hd := d.isLt
  simp only [hB, mul_ite, mul_one, mul_zero]
  rw [← Finset.sum_filter]
  unfold seg
  refine (Finset.sum_bij (fun (e : Fin n) _ => (Fin.ofNat 512 ((d : ℕ) / n * n + e) : Fin 512)) ?_ ?_ ?_ ?_).symm
  · intro e _
    have he := e.isLt
    simp only [Finset.mem_filter, Finset.mem_univ, true_and, Fin.val_ofNat]
    rcases hn with rfl | rfl <;> omega
  · intro a _ b _ h
    have ha := a.isLt
    have hb := b.isLt
    have h' := congr_arg Fin.val h
    simp only [Fin.val_ofNat] at h'
    refine Fin.ext ?_
    rcases hn with rfl | rfl <;> omega
  · intro k hk
    have hk' := k.isLt
    simp only [Finset.mem_filter, Finset.mem_univ, true_and] at hk
    refine ⟨⟨(k : ℕ) % n, Nat.mod_lt _ (by rcases hn with rfl | rfl <;> decide)⟩, Finset.mem_univ _, Fin.ext ?_⟩
    simp only [Fin.val_ofNat]
    rcases hn with rfl | rfl <;> omega
  · intro e _
    rfl

/-- The sum over a segment with the exact remainder's sum added: the remainder of a real number is zero. -/
theorem sum_split {n : ℕ} (hn : n = 64 ∨ n = 128) (f : Fin 512 → EReal) (hf : ∀ k, ∃ r : ℝ, f k = r) (d : Fin 512) (B : Fin 512 → EReal) (hB : ∀ k : Fin 512, B k = if (k : ℕ) / n = d / n then 1 else 0) :
    ∑ k, f k * B k + ∑ k, (f k - f k) * B k = seg n (d / n) f := by
  rw [sum_mark hn f d B hB, Finset.sum_eq_zero, add_zero]
  intro k _
  obtain ⟨r, hr⟩ := hf k
  rw [hr, ← EReal.coe_sub, sub_self, EReal.coe_zero, zero_mul]

/-- A segment's sum of real numbers is real. -/
theorem seg_real (n h : ℕ) (f : Fin 512 → EReal) (hf : ∀ k, ∃ r : ℝ, f k = r) : ∃ r : ℝ, seg n h f = r := by
  choose g hg using hf
  unfold seg
  simp only [hg]
  rw [Cert.AttnMath.sum_real]
  exact ⟨_, rfl⟩

/-- The literal 64. -/
theorem lit_64 : Ideal.ofBits .f32 0x42800000#32 = ((64 : ℝ) : EReal) := by
  simp [Ideal.ofBits, Ideal.ieee]
  rw [← EReal.coe_mul]
  norm_num

/-- The literal 128. -/
theorem lit_128 : Ideal.ofBits .f32 0x43000000#32 = ((128 : ℝ) : EReal) := by
  simp [Ideal.ofBits, Ideal.ieee]
  rw [← EReal.coe_mul]
  norm_num

/-- The literal 1/64. -/
theorem lit_64inv : Ideal.ofBits .f32 0x3C800000#32 = ((1 / 64 : ℝ) : EReal) := by
  simp [Ideal.ofBits, Ideal.ieee]
  rw [← EReal.coe_mul]
  norm_num

/-- The literal 1/128. -/
theorem lit_128inv : Ideal.ofBits .f32 0x3C000000#32 = ((1 / 128 : ℝ) : EReal) := by
  simp [Ideal.ofBits, Ideal.ieee]
  rw [← EReal.coe_mul]
  norm_num

/-- Times 1/64 is divided by 64. -/
theorem mul_64inv (x : EReal) : x * Ideal.ofBits .f32 0x3C800000#32 = Ideal.div x (Ideal.ofBits .f32 0x42800000#32) := by
  rw [lit_64, lit_64inv, Ideal.div_coe (by norm_num)]

/-- Times 1/128 is divided by 128. -/
theorem mul_128inv (x : EReal) : x * Ideal.ofBits .f32 0x3C000000#32 = Ideal.div x (Ideal.ofBits .f32 0x43000000#32) := by
  rw [lit_128, lit_128inv, Ideal.div_coe (by norm_num)]

/-- A centred real row is real. -/
theorem cen_real (o : Fin 512 → EReal) (ho : ∀ k, ∃ r : ℝ, o k = r) (k : Fin 512) : ∃ r : ℝ, cen o k = r := by
  obtain ⟨a, ha⟩ := ho k
  obtain ⟨b, hb⟩ := seg_real 64 (k / 64) o ho
  unfold cen
  rw [ha, hb, ← mul_64inv, lit_64inv, ← EReal.coe_mul, ← EReal.coe_sub]
  exact ⟨_, rfl⟩

/-- The square of a real number is real. -/
theorem sq_real (o : Fin 512 → EReal) (ho : ∀ k, ∃ r : ℝ, o k = r) (k : Fin 512) : ∃ r : ℝ, o k * o k = r := by
  obtain ⟨a, ha⟩ := ho k
  rw [ha, ← EReal.coe_mul]
  exact ⟨_, rfl⟩

section
variable (cs : FVec Ideal ⟨3, ![16, 256, 1024]⟩ .f32) (x : FVec Ideal ⟨3, ![16, 4096, 1024]⟩ .f32) (o0 o1 o2 u g p0 p1 : FVec Ideal ⟨3, ![16, 4352, 512]⟩ .f32)
  (pr : FVec Ideal ⟨3, ![16, 4352, 4352]⟩ .f32) (yc : FVec Ideal ⟨3, ![16, 4352, 512]⟩ .bf16) (gt : FVec Ideal ⟨3, ![16, 4352, 3072]⟩ .bf16)
  (mc : FVec Ideal ⟨2, ![1, 6144]⟩ .f32) (mx : FVec Ideal ⟨2, ![16, 6144]⟩ .f32) (lw lb : FVec Ideal ⟨1, ![512]⟩ .f32) (gw : FVec Ideal ⟨1, ![128]⟩ .f32)
  (wa wb wc : FVec Ideal ⟨2, ![512, 1024]⟩ .f32) (wo : FVec Ideal ⟨2, ![1024, 1024]⟩ .f32) (b : Fin 16) (s : Fin 4352)

/-- The first mixer's row, normalised and gated. -/
def rowA : Fin 512 → EReal :=
  gno (fun k => o0 (ix3 b s k) + o1 (ix3 b s k) + o2 (ix3 b s k)) (fun k => lw (ix1 k)) (fun k => lb (ix1 k)) (fun k => u (ix3 b s k)) (fun k => g (ix3 b s k))

/-- The second mixer's row, normalised and gated by columns 3072 to 3583 of the projection. -/
def rowB : Fin 512 → EReal :=
  gms (fun k => p0 (ix3 b s k) + p1 (ix3 b s k)) (fun k => gw (ix1 (Fin.ofNat 128 k))) (fun k => pr (ix3 b s (Fin.ofNat 4352 (3072 + k))))

/-- The three rows projected, gated and summed. -/
def rowM : Fin 1024 → EReal :=
  mix (rowA o0 o1 o2 u g lw lb b s) (rowB p0 p1 pr gw b s) (fun k => yc (ix3 b s k)) (fun j => gt (ix3 b s (Fin.ofNat 3072 j))) (fun j => gt (ix3 b s (Fin.ofNat 3072 (1024 + j))))
    (fun j => gt (ix3 b s (Fin.ofNat 3072 (2048 + j)))) (fun k j => wa (ix2 k j)) (fun k j => wb (ix2 k j)) (fun k j => wc (ix2 k j))

/-- The layer's rows after the mixers: the merged rows projected, gated and added. -/
def merge (d : Fin 1024) : EReal :=
  xs cs x b s d + md mc mx 2 b s d * ∑ j : Fin 1024, rowM o0 o1 o2 u g p0 p1 pr yc gt lw lb gw wa wb wc b s j * wo (ix2 j d)
end

end Cert.Plain
-- ==== Proof.Mod5.lean ====
module

public import proofs.«01_k».proof.Proof.Gen.Kernel5Ideal.Skeleton
public import proofs.«01_k».proof.Proof.Merge
public import Idealize.ShloMosaic.Lib.Pointwise

@[expose] public section
set_option maxRecDepth 16384
noncomputable section
namespace Cert.Kernel5Ideal.Mrg
open Idealize.ShloMosaic Idealize.ShloMosaic.TcCoe Idealize.ShloMosaic.Tactic
open Cert.Kernel5Ideal Cert.Kernel5Ideal.Gen Cert.Plain

/-- A block of 512 channels with its leading axis dropped. -/
theorem drop512 (X : FVec Ideal S1x544x512 .f32) (r : Fin 544) (k : Fin 512) :
    (shapeCast S544x512 X shapeCasts_S1x544x512_S544x512 : FVec Ideal S544x512 .f32) (ix2 r k) = X (ix3 0 r k) := by
  pointwise

/-- The same for the attention's block. -/
theorem drop512' (X : FVec Ideal S1x544x512 .bf16) (r : Fin 544) (k : Fin 512) :
    (shapeCast S544x512 X shapeCasts_S1x544x512_S544x512 : FVec Ideal S544x512 .bf16) (ix2 r k) = X (ix3 0 r k) := by
  pointwise

/-- A gate's block with its leading axis dropped. -/
theorem drop1024' (X : FVec Ideal S1x544x1024 .bf16) (r : Fin 544) (k : Fin 1024) :
    (shapeCast S544x1024 X shapeCasts_S1x544x1024_S544x1024 : FVec Ideal S544x1024 .bf16) (ix2 r k) = X (ix3 0 r k) := by
  pointwise

/-- The rows' block with its leading axis dropped. -/
theorem drop1024 (X : FVec Ideal S1x544x1024 .f32) (r : Fin 544) (k : Fin 1024) :
    (shapeCast S544x1024 X shapeCasts_S1x544x1024_S544x1024 : FVec Ideal S544x1024 .f32) (ix2 r k) = X (ix3 0 r k) := by
  pointwise

/-- A block put back under its leading axis. -/
theorem lead (A : FVec Ideal S544x1024 .f32) (r : Fin 544) (d : Fin 1024) :
    (shapeCast S1x544x1024 A shapeCasts_S544x1024_S1x544x1024 : FVec Ideal S1x544x1024 .f32) (ix3 0 r d) = A (ix2 r d) := by
  pointwise

/-- A row of 512 spread over the block's rows. -/
theorem row_at (W : FVec Ideal S1x512 .f32) (r : Fin 544) (k : Fin 512) :
    (broadcastTo S544x512 (shapeCast S1x512 W shapeCasts_S1x512_S1x512) broadcasts_S1x512_S544x512 : FVec Ideal S544x512 .f32) (ix2 r k) = W (ix2 0 k) := by
  pointwise

/-- A product with a 512 by 512 matrix. -/
theorem mm_at (T : FVec Ideal S544x512 .bf16) (w : FVec Ideal S512x512 .bf16) (r : Fin 544) (d : Fin 512) :
    (matmul dot_S544x512_S512x512_S544x512_1_0_0_1_n_n none T (shapeCast S512x512 w shapeCasts_S512x512_S512x512 : FVec Ideal S512x512 .bf16) (constant S544x512 .f32 0x00000000#32) : FVec Ideal S544x512 .f32) (ix2 r d)
    = ∑ k : Fin 512, T (ix2 r k) * w (ix2 k d) := by
  pointwise

/-- A product with an up-projection. -/
theorem up_at (T : FVec Ideal S544x512 .bf16) (w : FVec Ideal S512x1024 .bf16) (r : Fin 544) (d : Fin 1024) :
    (matmul dot_S544x512_S512x1024_S544x1024_1_0_0_1_n_n none T (shapeCast S512x1024 w shapeCasts_S512x1024_S512x1024 : FVec Ideal S512x1024 .bf16) (constant S544x1024 .f32 0x00000000#32) : FVec Ideal S544x1024 .f32) (ix2 r d)
    = ∑ k : Fin 512, T (ix2 r k) * w (ix2 k d) := by
  pointwise

/-- The product with the output weight. -/
theorem last_at (T : FVec Ideal S544x1024 .bf16) (w : FVec Ideal S1024x1024 .bf16) (r : Fin 544) (d : Fin 1024) :
    (matmul dot_S544x1024_S1024x1024_S544x1024_1_0_0_1_n_n none T (shapeCast S1024x1024 w shapeCasts_S1024x1024_S1024x1024 : FVec Ideal S1024x1024 .bf16) (constant S544x1024 .f32 0x00000000#32) : FVec Ideal S544x1024 .f32) (ix2 r d)
    = ∑ k : Fin 1024, T (ix2 r k) * w (ix2 k d) := by
  pointwise

/-- The sums by segment, as the step writes them: a high part and the remainder, each times the marks. -/
def sums (A : FVec Ideal S544x512 .f32) (B : FVec Ideal S512x512 .bf16) : FVec Ideal S544x512 .f32 :=
  addf (matmul dot_S544x512_S512x512_S544x512_1_0_0_1_n_n none (truncf .bf16 A bitsLt_bf16_f32) (shapeCast S512x512 B shapeCasts_S512x512_S512x512 : FVec Ideal S512x512 .bf16) (constant S544x512 .f32 0x00000000#32))
    (matmul dot_S544x512_S512x512_S544x512_1_0_0_1_n_n none (truncf .bf16 (subf A (extf .f32 (truncf .bf16 A bitsLt_bf16_f32) bitsLt_bf16_f32)) bitsLt_bf16_f32) (shapeCast S512x512 B shapeCasts_S512x512_S512x512 : FVec Ideal S512x512 .bf16) (constant S544x512 .f32 0x00000000#32))

/-- A matrix that marks, for each column, the rows of its segment of `n`. -/
def Marks (n : ℕ) (B : FVec Ideal S512x512 .bf16) : Prop := ∀ k d : Fin 512, B (ix2 k d) = if (k : ℕ) / n = d / n then (1 : EReal) else 0

/-- The sums by segment, of real rows, are the plain ones. -/
theorem sums_at {n : ℕ} (hn : n = 64 ∨ n = 128) (A : FVec Ideal S544x512 .f32) {B : FVec Ideal S512x512 .bf16} (hB : Marks n B) (r : Fin 544) (f : Fin 512 → EReal)
    (hA : ∀ k, A (ix2 r k) = f k) (hf : ∀ k, ∃ x : ℝ, f k = x) (d : Fin 512) : sums A B (ix2 r d) = seg n (d / n) f := by
  unfold sums
  refine ((add_at _ _ _).trans (congr_arg₂ (fun x y : EReal => x + y) (mm_at _ B r d) (mm_at _ B r d))).trans ?_
  refine Eq.trans ?_ (sum_split hn f hf d (fun k => B (ix2 k d)) fun k => hB k d)
  refine congr_arg₂ (fun x y : EReal => x + y) (Finset.sum_congr rfl fun k _ => ?_) (Finset.sum_congr rfl fun k _ => ?_)
  · exact congr_arg (fun x : EReal => x * B (ix2 k d)) (hA k)
  · exact congr_arg (fun x : EReal => (x - x) * B (ix2 k d)) (hA k)

/-- An array less its segments' means, as the step writes it. -/
def cenA (A : FVec Ideal S544x512 .f32) (B : FVec Ideal S512x512 .bf16) : FVec Ideal S544x512 .f32 :=
  subf A (mulf (sums A B) (broadcast S544x512 (Scalar.ofBits .f32 0x3C800000#32)))

/-- The centred array is the plain one. -/
theorem cenA_at (A : FVec Ideal S544x512 .f32) {B : FVec Ideal S512x512 .bf16} (hB : Marks 64 B) (r : Fin 544) (f : Fin 512 → EReal)
    (hA : ∀ k, A (ix2 r k) = f k) (hf : ∀ k, ∃ x : ℝ, f k = x) (d : Fin 512) : cenA A B (ix2 r d) = cen f d := by
  unfold cenA cen
  rw [← mul_64inv, ← sums_at (.inl rfl) A hB r f hA hf d, ← hA d]
  rfl

/-- The first mixer's sum. -/
def oA (x1 x2 x3 : FVec Ideal S1x544x512 .f32) : FVec Ideal S544x512 .f32 :=
  addf (addf (shapeCast S544x512 x1 shapeCasts_S1x544x512_S544x512) (shapeCast S544x512 x2 shapeCasts_S1x544x512_S544x512)) (shapeCast S544x512 x3 shapeCasts_S1x544x512_S544x512)

/-- The first mixer's sum, read at an index. -/
theorem oA_at (x1 x2 x3 : FVec Ideal S1x544x512 .f32) (r : Fin 544) (k : Fin 512) : oA x1 x2 x3 (ix2 r k) = x1 (ix3 0 r k) + x2 (ix3 0 r k) + x3 (ix3 0 r k) := by
  unfold oA
  pointwise

/-- The second mixer's sum. -/
def oB (x6 x7 : FVec Ideal S1x544x512 .f32) : FVec Ideal S544x512 .f32 :=
  addf (shapeCast S544x512 x6 shapeCasts_S1x544x512_S544x512) (shapeCast S544x512 x7 shapeCasts_S1x544x512_S544x512)

/-- The second mixer's sum, read at an index. -/
theorem oB_at (x6 x7 : FVec Ideal S1x544x512 .f32) (r : Fin 544) (k : Fin 512) : oB x6 x7 (ix2 r k) = x6 (ix3 0 r k) + x7 (ix3 0 r k) := by
  unfold oB
  pointwise

/-- A factor from the sums: the reciprocal root of their mean with a small constant added. -/
def fac (Q : FVec Ideal S544x512 .f32) (i e : BitVec 32) : FVec Ideal S544x512 .f32 :=
  rsqrt (addf (mulf Q (broadcast S544x512 (Scalar.ofBits .f32 i))) (broadcast S544x512 (Scalar.ofBits .f32 e)))

/-- The factor, read at an index. -/
theorem fac_at (Q : FVec Ideal S544x512 .f32) (i e : BitVec 32) (y : S544x512.Idx) : fac Q i e y = Ideal.rsqrt (Q y * Ideal.ofBits .f32 i + Ideal.ofBits .f32 e) := rfl

/-- The first mixer's rows, normalised head by head. -/
theorem pay2_at (x1 x2 x3 : FVec Ideal S1x544x512 .f32) {B : FVec Ideal S512x512 .bf16} (hB : Marks 64 B) (r : Fin 544) (f : Fin 512 → EReal)
    (hA : ∀ k, x1 (ix3 0 r k) + x2 (ix3 0 r k) + x3 (ix3 0 r k) = f k) (hf : ∀ k, ∃ x : ℝ, f k = x) (d : Fin 512) :
    k0_pay2 (F := Ideal) x1 x2 x3 B B (ix2 r d) = cen f d * Ideal.rsqrt (Ideal.div (seg 64 (d / 64) fun j => cen f j * cen f j) (Ideal.ofBits .f32 0x42800000#32) + Ideal.ofBits .f32 0x3A27C5AC#32) := by
  have e : k0_pay2 (F := Ideal) x1 x2 x3 B B = mulf (cenA (oA x1 x2 x3) B) (fac (sums (mulf (cenA (oA x1 x2 x3) B) (cenA (oA x1 x2 x3) B)) B) 0x3C800000#32 0x3A27C5AC#32) := by
    unfold k0_pay2 fac cenA sums oA
    rfl
  have hc := cenA_at (oA x1 x2 x3) hB r f (fun k => (oA_at x1 x2 x3 r k).trans (hA k)) hf
  rw [e]
  generalize cenA (oA x1 x2 x3) B = C at hc ⊢
  have hs := sums_at (.inl rfl) (mulf C C) hB r (fun j => cen f j * cen f j) (fun k => (mul_at _ _ _).trans (congr_arg (fun x : EReal => x * x) (hc k))) (sq_real _ (cen_real f hf)) d
  rw [← mul_64inv, ← hs, ← hc d]
  generalize sums (mulf C C) B = Q
  exact (mul_at _ _ _).trans (congr_arg (fun x : EReal => C (ix2 r d) * x) (fac_at Q _ _ _))

/-- The second mixer's rows, scaled head by head. -/
theorem pay5_at (x6 x7 : FVec Ideal S1x544x512 .f32) {B : FVec Ideal S512x512 .bf16} (hB : Marks 128 B) (r : Fin 544) (f : Fin 512 → EReal)
    (hA : ∀ k, x6 (ix3 0 r k) + x7 (ix3 0 r k) = f k) (hf : ∀ k, ∃ x : ℝ, f k = x) (d : Fin 512) :
    k0_pay5 (F := Ideal) x6 x7 B (ix2 r d) = f d * Ideal.rsqrt (Ideal.div (seg 128 (d / 128) fun j => f j * f j) (Ideal.ofBits .f32 0x43000000#32) + Ideal.ofBits .f32 0x358637BD#32) := by
  have e : k0_pay5 (F := Ideal) x6 x7 B = mulf (oB x6 x7) (fac (sums (mulf (oB x6 x7) (oB x6 x7)) B) 0x3C000000#32 0x358637BD#32) := by
    unfold k0_pay5 fac sums oB
    rfl
  have hc : ∀ k, oB x6 x7 (ix2 r k) = f k := fun k => (oB_at x6 x7 r k).trans (hA k)
  rw [e]
  generalize oB x6 x7 = C at hc ⊢
  have hs := sums_at (.inr rfl) (mulf C C) hB r (fun j => f j * f j) (fun k => (mul_at _ _ _).trans (congr_arg (fun x : EReal => x * x) (hc k))) (sq_real f hf) d
  rw [← mul_128inv, ← hs, ← hc d]
  generalize sums (mulf C C) B = Q
  exact (mul_at _ _ _).trans (congr_arg (fun x : EReal => C (ix2 r d) * x) (fac_at Q _ _ _))

/-- Weight, bias, bonus and gate. -/
theorem pay3_at (A : FVec Ideal S544x512 .f32) (w b : FVec Ideal S1x512 .f32) (u g : FVec Ideal S1x544x512 .f32) (r : Fin 544) (k : Fin 512) :
    k0_pay3 A w b u g (ix2 r k) = (A (ix2 r k) * w (ix2 0 k) + b (ix2 0 k) + u (ix3 0 r k)) * g (ix3 0 r k) := by
  unfold k0_pay3
  rw [← row_at w r k, ← row_at b r k, ← drop512 u r k, ← drop512 g r k]
  exact (mul_at _ _ _).trans (congr_arg (fun x : EReal => x * _) ((add_at _ _ _).trans (congr_arg (fun x : EReal => x + _) ((add_at _ _ _).trans (congr_arg (fun x : EReal => x + _) (mul_at _ _ _))))))

/-- The second mixer's weight and gate, as the step writes them. -/
def gated (z q : FVec Ideal S544x512 .f32) (w : FVec Ideal S1x512 .f32) : FVec Ideal S544x512 .bf16 :=
  truncf .bf16 (mulf (mulf q (broadcastTo S544x512 (shapeCast S1x512 w shapeCasts_S1x512_S1x512) broadcasts_S1x512_S544x512)) (mulf z (divf (broadcast S544x512 (Scalar.ofBits .f32 0x3F800000#32)) (addf (broadcast S544x512 (Scalar.ofBits .f32 0x3F800000#32)) (exp (subf (broadcast S544x512 (Scalar.ofBits .f32 0x00000000#32)) z)))))) bitsLt_bf16_f32

/-- The logistic function of an array, as the step writes it. -/
theorem sgm_at (a : FVec Ideal S544x512 .f32) (y : S544x512.Idx) :
    (divf (broadcast S544x512 (Scalar.ofBits .f32 0x3F800000#32)) (addf (broadcast S544x512 (Scalar.ofBits .f32 0x3F800000#32)) (exp (subf (broadcast S544x512 (Scalar.ofBits .f32 0x00000000#32)) a))) : FVec Ideal S544x512 .f32) y = sgm (a y) := by
  have e : ∀ z : EReal, Ideal.ofBits .f32 0x00000000#32 - z = -z := zero_lit_sub
  unfold sgm
  rw [← e]
  rfl

/-- The second mixer's gated row, read at an index. -/
theorem gated_at (z q : FVec Ideal S544x512 .f32) (w : FVec Ideal S1x512 .f32) (r : Fin 544) (k : Fin 512) :
    gated z q w (ix2 r k) = q (ix2 r k) * w (ix2 0 k) * (z (ix2 r k) * sgm (z (ix2 r k))) := by
  unfold gated
  exact (trunc_at _ _ _).trans ((mul_at _ _ _).trans (congr_arg₂ (fun x y : EReal => x * y) ((mul_at _ _ _).trans (congr_arg (fun x : EReal => q (ix2 r k) * x) (row_at w r k)))
    ((mul_at _ _ _).trans (congr_arg (fun x : EReal => z (ix2 r k) * x) (sgm_at z _)))))

/-- The first two gated products. -/
theorem pay6_at (A z q : FVec Ideal S544x512 .f32) (w : FVec Ideal S1x512 .f32) (g1 : FVec Ideal S1x544x1024 .bf16) (wa : FVec Ideal S512x1024 .bf16) (g2 : FVec Ideal S1x544x1024 .bf16) (wb : FVec Ideal S512x1024 .bf16)
    (r : Fin 544) (d : Fin 1024) :
    k0_pay6 A z q w g1 wa g2 wb (ix2 r d) = g1 (ix3 0 r d) * (∑ k : Fin 512, A (ix2 r k) * wa (ix2 k d))
      + g2 (ix3 0 r d) * ∑ k : Fin 512, q (ix2 r k) * w (ix2 0 k) * (z (ix2 r k) * sgm (z (ix2 r k))) * wb (ix2 k d) := by
  have e : k0_pay6 A z q w g1 wa g2 wb = addf
      (mulf (extf .f32 (shapeCast S544x1024 g1 shapeCasts_S1x544x1024_S544x1024) bitsLt_bf16_f32) (matmul dot_S544x512_S512x1024_S544x1024_1_0_0_1_n_n none (truncf .bf16 A bitsLt_bf16_f32) (shapeCast S512x1024 wa shapeCasts_S512x1024_S512x1024 : FVec Ideal S512x1024 .bf16) (constant S544x1024 .f32 0x00000000#32)))
      (mulf (extf .f32 (shapeCast S544x1024 g2 shapeCasts_S1x544x1024_S544x1024) bitsLt_bf16_f32) (matmul dot_S544x512_S512x1024_S544x1024_1_0_0_1_n_n none (gated z q w) (shapeCast S512x1024 wb shapeCasts_S512x1024_S512x1024 : FVec Ideal S512x1024 .bf16) (constant S544x1024 .f32 0x00000000#32))) := by
    unfold k0_pay6 gated
    rfl
  rw [e]
  refine (add_at _ _ _).trans (congr_arg₂ (fun x y : EReal => x + y) ((mul_at _ _ _).trans (congr_arg₂ (fun x y : EReal => x * y) (drop1024' g1 r d) ((up_at _ wa r d).trans (Finset.sum_congr rfl fun k _ => rfl))))
    ((mul_at _ _ _).trans (congr_arg₂ (fun x y : EReal => x * y) (drop1024' g2 r d) ((up_at _ wb r d).trans (Finset.sum_congr rfl fun k _ => ?_)))))
  exact congr_arg (fun x : EReal => x * wb (ix2 k d)) (gated_at z q w r k)

/-- The row's test for a context row. -/
def test (a : BitVec 32) : IVec S544x1 1 :=
  cmpi .slt (addi (broadcast S544x1 (Scalar.muli a 544#32)) (iota .tc S544x1 32 [0] iota_S544x1_d0_w32)) (broadcast S544x1 256#32)

/-- The test for a context row, read at an index. -/
theorem test_at (i : grid0.Coords) (r : Fin 544) : test (BitVec.ofNat 32 (i 1).val) (ix2 r 0) = if (i 1 : ℕ) * 544 + r < 256 then 1#1 else 0#1 := by
  have h := (by decide +kernel : ∀ (j : Fin 8) (r : Fin 544), Scalar.cmpi .slt (BitVec.ofNat 32 j.val * 544#32 + BitVec.ofNat 32 r.val) 256#32 = if (j : ℕ) * 544 + r < 256 then 1#1 else 0#1)
  refine Eq.trans ?_ (h (i 1) r)
  unfold test
  pointwise [Scalar.muli]
  rfl

/-- The choice by the row's test, as the step writes it. -/
def pick (c : IVec S544x1 1) (U W : FVec Ideal S1x1x1x1024 .f32) : FVec Ideal S544x1024 .f32 :=
  select (broadcastTo S544x1024 (shapeCast S544x1 c shapeCasts_S544x1_S544x1) broadcasts_S544x1_S544x1024)
    (broadcastTo S544x1024 (shapeCast S1x1024 (shapeCast S1x1024 U shapeCasts_S1x1x1x1024_S1x1024) shapeCasts_S1x1024_S1x1024) broadcasts_S1x1024_S544x1024)
    (broadcastTo S544x1024 (shapeCast S1x1024 (shapeCast S1x1024 W shapeCasts_S1x1x1x1024_S1x1024) shapeCasts_S1x1024_S1x1024) broadcasts_S1x1024_S544x1024)

/-- The context vector on a context row, the latent one elsewhere. -/
theorem pick_at (c : IVec S544x1 1) (U W : FVec Ideal S1x1x1x1024 .f32) (r : Fin 544) (d : Fin 1024) :
    pick c U W (ix2 r d) = if c (ix2 r 0) = 1#1 then U (ix4 0 0 0 d) else W (ix4 0 0 0 d) := by
  unfold pick
  refine (select_at _ _ _ _).trans ?_
  have e1 : broadcastTo S544x1024 (shapeCast S544x1 c shapeCasts_S544x1_S544x1) broadcasts_S544x1_S544x1024 (ix2 r d) = c (ix2 r 0) := by pointwise
  rw [e1]
  refine if_congr Iff.rfl ?_ ?_
  · pointwise
  · pointwise

/-- The choice by the row's test is the choice by the row's table. -/
theorem pick_side (i : grid0.Coords) (U W : FVec Ideal S1x1x1x1024 .f32) (x : FVec Ideal S1x2x6x1024 .f32) (q : Fin 6) (r : Fin 544) (d : Fin 1024)
    (hU : ∀ d, U (ix4 0 0 0 d) = x (ix4 0 0 q d)) (hW : ∀ d, W (ix4 0 0 0 d) = x (ix4 0 1 q d)) :
    pick (test (BitVec.ofNat 32 (i 1).val)) U W (ix2 r d) = x (ix4 0 (side ((i 1 : ℕ) * 544 + r)) q d) := by
  rw [pick_at, test_at, hU, hW]
  unfold side
  by_cases h : (i 1 : ℕ) * 544 + r < 256
  · rw [if_pos h, if_pos h, if_pos rfl]
  · rw [if_neg h, if_neg h, if_neg (by decide)]

/-- The third product, the output weight, the gate and the residual. -/
theorem pay1_at (a : BitVec 32) (A : FVec Ideal S544x1024 .f32) (g : FVec Ideal S1x544x1024 .bf16) (y : FVec Ideal S1x544x512 .bf16) (wc : FVec Ideal S512x1024 .bf16) (wo : FVec Ideal S1024x1024 .bf16)
    (U W : FVec Ideal S1x1x1x1024 .f32) (x0 : FVec Ideal S1x544x1024 .f32) (r : Fin 544) (d : Fin 1024) :
    k0_pay1 a A (k0_pay7 g) (k0_pay8 y) wc wo U W x0 (ix3 0 r d)
    = x0 (ix3 0 r d) + pick (test a) U W (ix2 r d) * ∑ j : Fin 1024, (A (ix2 r j) + g (ix3 0 r j) * ∑ k : Fin 512, y (ix3 0 r k) * wc (ix2 k j)) * wo (ix2 j d) := by
  have e : k0_pay1 a A (k0_pay7 g) (k0_pay8 y) wc wo U W x0 = shapeCast S1x544x1024 (addf (shapeCast S544x1024 x0 shapeCasts_S1x544x1024_S544x1024) (mulf (pick (test a) U W)
      (matmul dot_S544x1024_S1024x1024_S544x1024_1_0_0_1_n_n none (truncf .bf16 (addf A (mulf (extf .f32 (shapeCast S544x1024 g shapeCasts_S1x544x1024_S544x1024) bitsLt_bf16_f32)
        (matmul dot_S544x512_S512x1024_S544x1024_1_0_0_1_n_n none (shapeCast S544x512 y shapeCasts_S1x544x512_S544x512) (shapeCast S512x1024 wc shapeCasts_S512x1024_S512x1024 : FVec Ideal S512x1024 .bf16) (constant S544x1024 .f32 0x00000000#32)))) bitsLt_bf16_f32)
        (shapeCast S1024x1024 wo shapeCasts_S1024x1024_S1024x1024 : FVec Ideal S1024x1024 .bf16) (constant S544x1024 .f32 0x00000000#32)))) shapeCasts_S544x1024_S1x544x1024 := by
    unfold k0_pay1 k0_pay7 k0_pay8 pick test
    rfl
  rw [e]
  refine (lead _ r d).trans ((add_at _ _ _).trans (congr_arg₂ (fun x y : EReal => x + y) (drop1024 x0 r d) ((mul_at _ _ _).trans (congr_arg (fun x : EReal => pick (test a) U W (ix2 r d) * x)
    ((last_at _ wo r d).trans (Finset.sum_congr rfl fun j _ => ?_))))))
  refine congr_arg (fun x : EReal => x * wo (ix2 j d)) ((trunc_at _ _ _).trans ((add_at _ _ _).trans (congr_arg (fun x : EReal => A (ix2 r j) + x) ((mul_at _ _ _).trans (congr_arg₂ (fun x y : EReal => x * y) (drop1024' g r j)
    ((up_at _ wc r j).trans (Finset.sum_congr rfl fun k _ => ?_)))))))
  exact congr_arg (fun x : EReal => x * wc (ix2 k j)) (drop512' y r k)

end Cert.Kernel5Ideal.Mrg
-- ==== Proof.Out5.lean ====
module

public import proofs.«01_k».proof.Proof.Frame5
public import proofs.«01_k».proof.Proof.Mod5

@[expose] public section
set_option maxRecDepth 16384
noncomputable section
namespace Cert.Kernel5Ideal.Mrg
open Idealize.ShloMosaic Idealize.ShloMosaic.TcCoe Idealize.ShloMosaic.Tactic
open Cert.Kernel5Ideal Cert.Kernel5Ideal.Gen Cert.Kernel5Ideal.Frm Cert.Plain

/-- A block of 512 channels, as loaded. -/
theorem ld_c (v : FVec Ideal S1x544x512 .f32) : View.ld (Val := Elt Ideal) (e' := .f32) v r0_0 = v :=
  View.ld_unit_zero (by funext a; fin_cases a <;> rfl) _ _

/-- The attention's block, as loaded. -/
theorem ld_y (v : FVec Ideal S1x544x512 .bf16) : View.ld (Val := Elt Ideal) (e' := .bf16) v r0_0 = v :=
  View.ld_unit_zero (by funext a; fin_cases a <;> rfl) _ _

/-- A 512 by 512 matrix, as loaded. -/
theorem ld_q (v : FVec Ideal S512x512 .bf16) : View.ld (Val := Elt Ideal) (e' := .bf16) v r0_1 = v :=
  View.ld_unit_zero (by funext a; fin_cases a <;> rfl) _ _

/-- A row of 512, as loaded. -/
theorem ld_r (v : FVec Ideal S1x512 .f32) : View.ld (Val := Elt Ideal) (e' := .f32) v r0_2 = v :=
  View.ld_unit_zero (by funext a; fin_cases a <;> rfl) _ _

/-- An up-projection, as loaded. -/
theorem ld_w (v : FVec Ideal S512x1024 .bf16) : View.ld (Val := Elt Ideal) (e' := .bf16) v r0_4 = v :=
  View.ld_unit_zero (by funext a; fin_cases a <;> rfl) _ _

/-- The output weight, as loaded. -/
theorem ld_o (v : FVec Ideal S1024x1024 .bf16) : View.ld (Val := Elt Ideal) (e' := .bf16) v r0_7 = v :=
  View.ld_unit_zero (by funext a; fin_cases a <;> rfl) _ _

/-- The rows, as loaded. -/
theorem ld_x (v : FVec Ideal S1x544x1024 .f32) : View.ld (Val := Elt Ideal) (e' := .f32) v r0_10 = v :=
  View.ld_unit_zero (by funext a; fin_cases a <;> rfl) _ _

/-- A gate's columns, as loaded. -/
theorem ld_g (v : FVec Ideal S1x544x3072 .bf16) (o : ℕ) (ho : o + 1024 ≤ 3072) (inb) (r : Fin 544) (j : Fin 1024) :
    View.ld (Val := Elt Ideal) (S := S1x544x3072) (e' := .bf16) v (Rect.unit ![0, 0, o] ![1, 544, 1024] inb) (ix3 (n0 := 1) (n1 := 544) (n2 := 1024) 0 r j) = v (ix3 0 r (Fin.ofNat 3072 (o + j))) :=
  View.ld_unit_apply_of _ _ _ _ _ _ fun c => by
    fin_cases c
    · rfl
    · exact (Nat.zero_add _).symm
    · exact Nat.mod_eq_of_lt (by have := j.isLt; omega)

/-- A modulation row, as loaded. -/
theorem ld_m (v : FVec Ideal S1x2x6x1024 .f32) (l : Fin 2) (q : Fin 6) (inb) (d : Fin 1024) :
    View.ld (Val := Elt Ideal) (S := S1x2x6x1024) (e' := .f32) v (Rect.unit ![0, l.val, q.val, 0] ![1, 1, 1, 1024] inb) (ix4 (n0 := 1) (n1 := 1) (n2 := 1) (n3 := 1024) 0 0 0 d) = v (ix4 0 l q d) :=
  View.ld_unit_apply_of _ _ _ _ _ _ fun c => by
    fin_cases c
    · rfl
    · exact (Nat.add_zero _).symm
    · exact (Nat.add_zero _).symm
    · exact (Nat.zero_add _).symm

section
variable (r : Fin 544) (fA fB : Fin 512 → EReal) (hfA : ∀ k, ∃ x : ℝ, fA k = x) (hfB : ∀ k, ∃ x : ℝ, fB k = x)
  (x1 x2 x3 x4 x5 x6 x7 x8 : FVec Ideal S1x544x512 .f32) (x12 x13 : FVec Ideal S1x512 .f32) {x14 : FVec Ideal S512x512 .bf16} (x15 : FVec Ideal S1x512 .f32) {x16 : FVec Ideal S512x512 .bf16}
  (hA : ∀ k, x1 (ix3 0 r k) + x2 (ix3 0 r k) + x3 (ix3 0 r k) = fA k) (hB : ∀ k, x6 (ix3 0 r k) + x7 (ix3 0 r k) = fB k)
  (m14 : Marks 64 x14) (m16 : Marks 128 x16)
include hfA hA m14

/-- The first mixer's finished row. -/
theorem first_at (k : Fin 512) : k0_pay3 (k0_pay2 (F := Ideal) x1 x2 x3 x14 x14) x12 x13 x4 x5 (ix2 r k)
    = gno fA (fun k => x12 (ix2 0 k)) (fun k => x13 (ix2 0 k)) (fun k => x4 (ix3 0 r k)) (fun k => x5 (ix3 0 r k)) k := by
  refine (pay3_at _ x12 x13 x4 x5 r k).trans ?_
  rw [pay2_at x1 x2 x3 m14 r fA hA hfA k]
  rfl

omit hfA hA m14
include hfB hB m16

/-- The second mixer's finished row. -/
theorem second_at (k : Fin 512) : k0_pay5 (F := Ideal) x6 x7 x16 (ix2 r k) * x15 (ix2 0 k) * (k0_pay4 (F := Ideal) x8 (ix2 r k) * sgm (k0_pay4 (F := Ideal) x8 (ix2 r k)))
    = gms fB (fun k => x15 (ix2 0 k)) (fun k => x8 (ix3 0 r k)) k := by
  have h4 : k0_pay4 (F := Ideal) x8 (ix2 r k) = x8 (ix3 0 r k) := by
    unfold k0_pay4
    exact drop512 x8 r k
  rw [pay5_at x6 x7 m16 r fB hB hfB k, h4]
  rfl

include hfA hA m14

/-- The first two gated products of a row. -/
theorem two_at (g1 g2 : FVec Ideal S1x544x1024 .bf16) (wa wb : FVec Ideal S512x1024 .bf16) (j : Fin 1024) :
    k0_pay6 (k0_pay3 (k0_pay2 (F := Ideal) x1 x2 x3 x14 x14) x12 x13 x4 x5) (k0_pay4 x8) (k0_pay5 x6 x7 x16) x15 g1 wa g2 wb (ix2 r j)
    = g1 (ix3 0 r j) * (∑ k, gno fA (fun k => x12 (ix2 0 k)) (fun k => x13 (ix2 0 k)) (fun k => x4 (ix3 0 r k)) (fun k => x5 (ix3 0 r k)) k * wa (ix2 k j))
      + g2 (ix3 0 r j) * ∑ k, gms fB (fun k => x15 (ix2 0 k)) (fun k => x8 (ix3 0 r k)) k * wb (ix2 k j) := by
  refine (pay6_at _ _ _ x15 g1 wa g2 wb r j).trans (congr_arg₂ (fun x y : EReal => x + y) (congr_arg (fun x : EReal => g1 (ix3 0 r j) * x) (Finset.sum_congr rfl fun k _ => ?_))
    (congr_arg (fun x : EReal => g2 (ix3 0 r j) * x) (Finset.sum_congr rfl fun k _ => ?_)))
  · exact congr_arg (fun x : EReal => x * wa (ix2 k j)) (first_at r fA hfA x1 x2 x3 x4 x5 x12 x13 hA m14 k)
  · exact congr_arg (fun x : EReal => x * wb (ix2 k j)) (second_at r fB hfB x6 x7 x8 x15 hB m16 k)

/-- What a step writes. -/
theorem out_at (i : grid0.Coords) (x0 : FVec Ideal S1x544x1024 .f32) (x9 : FVec Ideal S1x544x512 .bf16) (x10 : FVec Ideal S1x544x3072 .bf16) (x11 : FVec Ideal S1x2x6x1024 .f32)
    (x17 x18 x19 : FVec Ideal S512x1024 .bf16) (x20 : FVec Ideal S1024x1024 .bf16) (d : Fin 1024) :
    out0_21 (F := Ideal) i x0 x1 x2 x3 x4 x5 x6 x7 x8 x9 x10 x11 x12 x13 x14 x15 x16 x17 x18 x19 x20 (ix3 0 r d)
    = x0 (ix3 0 r d) + x11 (ix4 0 (side ((i 1 : ℕ) * 544 + r)) 2 d) * ∑ j : Fin 1024,
      mix (gno fA (fun k => x12 (ix2 0 k)) (fun k => x13 (ix2 0 k)) (fun k => x4 (ix3 0 r k)) (fun k => x5 (ix3 0 r k))) (gms fB (fun k => x15 (ix2 0 k)) (fun k => x8 (ix3 0 r k))) (fun k => x9 (ix3 0 r k))
        (fun j => x10 (ix3 0 r (Fin.ofNat 3072 j))) (fun j => x10 (ix3 0 r (Fin.ofNat 3072 (1024 + j)))) (fun j => x10 (ix3 0 r (Fin.ofNat 3072 (2048 + j))))
        (fun k j => x17 (ix2 k j)) (fun k j => x18 (ix2 k j)) (fun k j => x19 (ix2 k j)) j * x20 (ix2 j d) := by
  unfold out0_21
  rw [View.canon_unit_zero (by funext a; fin_cases a <;> rfl), ld_c, ld_c, ld_c, ld_c, ld_c, ld_c, ld_c, ld_c, ld_y, ld_q, ld_q, ld_r, ld_r, ld_r, ld_w, ld_w, ld_w, ld_o, ld_x]
  refine (pay1_at _ _ _ x9 x19 x20 _ _ x0 r d).trans (congr_arg (fun x : EReal => x0 (ix3 0 r d) + x) (congr_arg₂ (fun x y : EReal => x * y)
    (pick_side i _ _ x11 2 r d (ld_m x11 0 2 _) (ld_m x11 1 2 _)) (Finset.sum_congr rfl fun j _ => congr_arg (fun x : EReal => x * x20 (ix2 j d)) ?_)))
  refine (congr_arg₂ (fun x y : EReal => x + y) (two_at r fA fB hfA hfB x1 x2 x3 x4 x5 x6 x7 x8 x12 x13 x15 hA hB m14 m16 _ _ x17 x18 j) rfl).trans ?_
  have e1 := ld_g x10 0 (by omega) inb_S1x544x3072_S1x544x1024_0_0_0 r j
  have e2 := ld_g x10 1024 (by omega) inb_S1x544x3072_S1x544x1024_0_0_1024 r j
  have e3 := ld_g x10 2048 (by omega) inb_S1x544x3072_S1x544x1024_0_0_2048 r j
  rw [Nat.zero_add] at e1
  unfold mix
  exact congr_arg₂ (fun x y : EReal => x + y) (congr_arg₂ (fun x y : EReal => x + y) (congr_arg (fun x : EReal => x * _) e1) (congr_arg (fun x : EReal => x * _) e2)) (congr_arg (fun x : EReal => x * _) e3)
end

end Cert.Kernel5Ideal.Mrg
-- ==== Proof.Host5.lean ====
module

public import proofs.«01_k».proof.Proof.Out5

@[expose] public section
set_option maxRecDepth 16384
noncomputable section
namespace Cert.Kernel5Ideal.Mrg
open Idealize.ShloMosaic Idealize.ShloMosaic.TcCoe Idealize.ShloMosaic.Tactic
open Cert.Kernel5Ideal Cert.Kernel5Ideal.Gen Cert.Kernel5Ideal.Frm Cert.Plain

/-! The arrays the windows read, as the host code leaves them. -/

variable (m : (ℓ : Loc nD τ sig) → Buf (Elt Ideal) ℓ)

/-- The arguments, at their literal types: the context rows. -/
abbrev argC (c : Dev nD) : FVec Ideal S16x256x1024 .f32 := m ((c.tc : Thread nD τ).loc main_arg0)
/-- The latent rows. -/
abbrev argX (c : Dev nD) : FVec Ideal S16x4096x1024 .f32 := m ((c.tc : Thread nD τ).loc main_arg1)
/-- The first mixer's forward output. -/
abbrev argO0 (c : Dev nD) : FVec Ideal S16x4352x512 .f32 := m ((c.tc : Thread nD τ).loc main_arg2)
/-- The first mixer's backward output. -/
abbrev argO1 (c : Dev nD) : FVec Ideal S16x4352x512 .f32 := m ((c.tc : Thread nD τ).loc main_arg3)
/-- The first mixer's third term. -/
abbrev argO2 (c : Dev nD) : FVec Ideal S16x4352x512 .f32 := m ((c.tc : Thread nD τ).loc main_arg4)
/-- The first mixer's bonus. -/
abbrev argU (c : Dev nD) : FVec Ideal S16x4352x512 .f32 := m ((c.tc : Thread nD τ).loc main_arg5)
/-- The first mixer's gate. -/
abbrev argG (c : Dev nD) : FVec Ideal S16x4352x512 .f32 := m ((c.tc : Thread nD τ).loc main_arg6)
/-- The second mixer's forward output. -/
abbrev argP0 (c : Dev nD) : FVec Ideal S16x4352x512 .f32 := m ((c.tc : Thread nD τ).loc main_arg7)
/-- The second mixer's backward output. -/
abbrev argP1 (c : Dev nD) : FVec Ideal S16x4352x512 .f32 := m ((c.tc : Thread nD τ).loc main_arg8)
/-- The projection. -/
abbrev argPr (c : Dev nD) : FVec Ideal S16x4352x4352 .f32 := m ((c.tc : Thread nD τ).loc main_arg9)
/-- The attention's output. -/
abbrev argYc (c : Dev nD) : FVec Ideal S16x4352x512 .bf16 := m ((c.tc : Thread nD τ).loc main_arg10)
/-- The gates. -/
abbrev argGt (c : Dev nD) : FVec Ideal S16x4352x3072 .bf16 := m ((c.tc : Thread nD τ).loc main_arg11)
/-- The context modulation. -/
abbrev argMC (c : Dev nD) : FVec Ideal S1x6144 .f32 := m ((c.tc : Thread nD τ).loc main_arg12)
/-- The latent modulation. -/
abbrev argMX (c : Dev nD) : FVec Ideal S16x6144 .f32 := m ((c.tc : Thread nD τ).loc main_arg13)
/-- The group norm's weight. -/
abbrev argLw (c : Dev nD) : FVec Ideal S512 .f32 := m ((c.tc : Thread nD τ).loc main_arg14)
/-- The group norm's bias. -/
abbrev argLb (c : Dev nD) : FVec Ideal S512 .f32 := m ((c.tc : Thread nD τ).loc main_arg15)
/-- The second mixer's norm weight. -/
abbrev argGw (c : Dev nD) : FVec Ideal S128 .f32 := m ((c.tc : Thread nD τ).loc main_arg16)
/-- The first mixer's up weight. -/
abbrev argWa (c : Dev nD) : FVec Ideal S512x1024 .f32 := m ((c.tc : Thread nD τ).loc main_arg17)
/-- The second mixer's up weight. -/
abbrev argWb (c : Dev nD) : FVec Ideal S512x1024 .f32 := m ((c.tc : Thread nD τ).loc main_arg18)
/-- The attention's up weight. -/
abbrev argWc (c : Dev nD) : FVec Ideal S512x1024 .f32 := m ((c.tc : Thread nD τ).loc main_arg19)
/-- The output weight. -/
abbrev argWo (c : Dev nD) : FVec Ideal S1024x1024 .f32 := m ((c.tc : Thread nD τ).loc main_arg20)

/-- The rows joined. -/
theorem V_x (c : Dev nD) : V m c main_v0 = fun y : S16x4352x1024.Idx => xs (argC m c) (argX m c) (y 0) (y 1) (y 2) := by
  have e : @Eq (FVec Ideal S16x4352x1024 .f32) (V m c main_v0) (concatenate S16x4352x1024 1 [⟨S16x256x1024, argC m c⟩, ⟨S16x4096x1024, argX m c⟩] concatenates_S16x256x1024_S16x4096x1024_S16x4352x1024_d1 : FVec Ideal S16x4352x1024 .f32) := rfl
  refine e.trans ?_
  clear e
  funext y
  pointwise [argC, argX, xs]
  split
  · refine congr_arg _ ?_
    congr 1
    refine Fin.ext ?_; simp only [Fin.val_ofNat]; omega
  · have : (y 1 : ℕ) < 4352 := (y 1).isLt
    refine congr_arg _ ?_
    congr 1
    refine Fin.ext ?_; simp only [Fin.val_ofNat]; omega

/-- The group norm's weight as one row. -/
theorem V_lw (c : Dev nD) : V m c main_v1 = fun y : S1x512.Idx => argLw m c (ix1 (y 1)) := by
  have e : @Eq (FVec Ideal S1x512 .f32) (V m c main_v1) (shapeCast S1x512 (argLw m c) shapeCasts_S512_S1x512 : FVec Ideal S1x512 .f32) := rfl
  refine e.trans ?_
  clear e
  funext y
  pointwise [argLw]

/-- The group norm's bias as one row. -/
theorem V_lb (c : Dev nD) : V m c main_v2 = fun y : S1x512.Idx => argLb m c (ix1 (y 1)) := by
  have e : @Eq (FVec Ideal S1x512 .f32) (V m c main_v2) (shapeCast S1x512 (argLb m c) shapeCasts_S512_S1x512 : FVec Ideal S1x512 .f32) := rfl
  refine e.trans ?_
  clear e
  funext y
  pointwise [argLb]

/-- The second mixer's norm weight, once for each head. -/
theorem V_gw (c : Dev nD) : V m c main_v14 = fun y : S1x512.Idx => argGw m c (ix1 (Fin.ofNat 128 (y 1))) := by
  have e : @Eq (FVec Ideal S1x512 .f32) (V m c main_v14) (shapeCast S1x512 (shapeCast S512 (broadcastInDim S4x128 ![0, 1] bcast_S1x128_S4x128_0_1 (shapeCast S1x128 (argGw m c) shapeCasts_S128_S1x128)) shapeCasts_S4x128_S512) shapeCasts_S512_S1x512 : FVec Ideal S1x512 .f32) := rfl
  refine e.trans ?_
  clear e
  funext y
  have h1 : (y 1 : ℕ) < 512 := (y 1).isLt
  pointwise [argGw]
  refine congr_arg _ ?_
  congr 1

/-- The modulation table. -/
theorem V_mod (c : Dev nD) : V m c main_v32 = fun y : S16x2x6x1024.Idx => if (y 1 : ℕ) < 1 then argMC m c (ix2 0 (Fin.ofNat 6144 ((y 2 : ℕ) * 1024 + y 3)))
    else argMX m c (ix2 (y 0) (Fin.ofNat 6144 ((y 2 : ℕ) * 1024 + y 3))) := by
  have e : @Eq (FVec Ideal S16x2x6x1024 .f32) (V m c main_v32) (concatenate S16x2x6x1024 1 [⟨S16x1x6x1024, broadcastInDim S16x1x6x1024 ![0, 2, 3] bcast_S16x6x1024_S16x1x6x1024_0_2_3 (broadcastInDim S16x6x1024 ![0, 1, 2] bcast_S1x6x1024_S16x6x1024_0_1_2 (shapeCast S1x6x1024 (argMC m c) shapeCasts_S1x6144_S1x6x1024))⟩,
      ⟨S16x1x6x1024, broadcastInDim S16x1x6x1024 ![0, 2, 3] bcast_S16x6x1024_S16x1x6x1024_0_2_3 (shapeCast S16x6x1024 (argMX m c) shapeCasts_S16x6144_S16x6x1024)⟩] concatenates_S16x1x6x1024_S16x1x6x1024_S16x2x6x1024_d1 : FVec Ideal S16x2x6x1024 .f32) := rfl
  refine e.trans ?_
  clear e
  funext y
  pointwise [argMC, argMX]
  have h2 : (y 2 : ℕ) < 6 := (y 2).isLt
  have h3 : (y 3 : ℕ) < 1024 := (y 3).isLt
  by_cases h : (y 1 : ℕ) < 1
  · refine (dif_pos h).trans (Eq.trans ?_ (if_pos h).symm)
    exact congr_arg (fun j : Fin 6144 => argMC m c (ix2 0 j)) (Fin.ext (by simp only [Fin.val_ofNat]; omega))
  · refine (dif_neg h).trans (Eq.trans ?_ (if_neg h).symm)
    exact congr_arg (fun j : Fin 6144 => argMX m c (ix2 (y 0) j)) (Fin.ext (by simp only [Fin.val_ofNat]; omega))

/-- The first mixer's up weight, cast. -/
theorem V_wa (c : Dev nD) : V m c main_v23 = argWa m c := rfl

/-- The second mixer's up weight, cast. -/
theorem V_wb (c : Dev nD) : V m c main_v24 = argWb m c := rfl

/-- The attention's up weight, cast. -/
theorem V_wc (c : Dev nD) : V m c main_v25 = argWc m c := rfl

/-- The output weight, cast. -/
theorem V_wo (c : Dev nD) : V m c main_v26 = argWo m c := rfl

/-- The channels' numbers. -/
abbrev chan : IVec S512 32 := iotaInDim S512 32 0

/-- A number at each channel. -/
abbrev each (n : BitVec 32) : IVec S512 32 := broadcastInDim S512 ![] bcast_S_S512 (constantI S_ 32 n)

/-- The channels' numbers divided by a number and rounded down, as the host code writes it. -/
def quot (n : BitVec 32) : IVec S512 32 :=
  select (andi (cmpi .ne (signi chan) (broadcastInDim S512 ![] bcast_S_S512 (signi (constantI S_ 32 n)))) (cmpi .ne (Host.remsi chan (each n)) (each 0#32)))
    (subi (Host.divsi chan (each n)) (each 1#32)) (Host.divsi chan (each n))

/-- The matrix of ones where row and column are of one segment, as the host code writes it. -/
def ones (n : BitVec 32) : FVec Ideal S512x512 .bf16 :=
  uitofp .bf16 (cmpi .eq (broadcastInDim S512x512 ![0, 1] bcast_S512x1_S512x512_0_1 (broadcastInDim S512x1 ![0] bcast_S512_S512x1_0 (quot n)))
    (broadcastInDim S512x512 ![0, 1] bcast_S1x512_S512x512_0_1 (broadcastInDim S1x512 ![1] bcast_S512_S1x512_1 (quot n))))

/-- The matrix for segments of 64. -/
theorem V_b64 (c : Dev nD) : V m c main_v10 = ones 64#32 := rfl

/-- The matrix for segments of 128. -/
theorem V_b128 (c : Dev nD) : V m c main_v22 = ones 128#32 := rfl

/-- The quotients of the channels by 64. -/
theorem quot64 (k : Fin 512) : quot 64#32 (ix1 k) = BitVec.ofNat 32 (k / 64) :=
  (by decide +kernel : ∀ k : Fin 512, quot 64#32 (ix1 k) = BitVec.ofNat 32 (k / 64)) k

/-- The quotients of the channels by 128. -/
theorem quot128 (k : Fin 512) : quot 128#32 (ix1 k) = BitVec.ofNat 32 (k / 128) :=
  (by decide +kernel : ∀ k : Fin 512, quot 128#32 (ix1 k) = BitVec.ofNat 32 (k / 128)) k

/-- The matrix, read at an index. -/
theorem ones_at (n : BitVec 32) (k d : Fin 512) : ones n (ix2 k d) = ((IntOp.cmpi .eq (quot n (ix1 k)) (quot n (ix1 d))).toNat : EReal) := by
  unfold ones
  generalize quot n = q
  pointwise
  rfl

/-- The bit of an equality, as a number. -/
theorem bit_eq (a b : ℕ) (ha : a < 512) (hb : b < 512) : ((IntOp.cmpi .eq (BitVec.ofNat 32 a) (BitVec.ofNat 32 b)).toNat : EReal) = if a = b then (1 : EReal) else 0 := by
  by_cases h : a = b
  · subst h
    simp [IntOp.cmpi]
  · have : BitVec.ofNat 32 a ≠ BitVec.ofNat 32 b := fun e => h (by
      have := congr_arg BitVec.toNat e
      simp only [BitVec.toNat_ofNat] at this
      omega)
    simp [IntOp.cmpi, h, this]

/-- The matrix for 64 marks its segments. -/
theorem marks64 : Marks 64 (ones 64#32) := fun k d => by
  have := k.isLt
  have := d.isLt
  rw [ones_at, quot64, quot64]
  exact bit_eq _ _ (by omega) (by omega)

/-- The matrix for 128 marks its segments. -/
theorem marks128 : Marks 128 (ones 128#32) := fun k d => by
  have := k.isLt
  have := d.isLt
  rw [ones_at, quot128, quot128]
  exact bit_eq _ _ (by omega) (by omega)

end Cert.Kernel5Ideal.Mrg
-- ==== Proof.Blk5.lean ====
module

public import proofs.«01_k».proof.Proof.Host5

@[expose] public section
set_option maxRecDepth 16384
noncomputable section
namespace Cert.Kernel5Ideal.Mrg
open Idealize.ShloMosaic Idealize.ShloMosaic.TcCoe Idealize.ShloMosaic.Tactic
open Cert.Kernel5Ideal Cert.Kernel5Ideal.Gen Cert.Kernel5Ideal.Frm Cert.Plain

/-! What a step reads. -/

/-- The batch of a grid step. -/
abbrev bat (t : Fin cfg0.N) : Fin 16 := Fin.ofNat 16 (t.val / 8)

/-- The row of the array that a grid step's row is. -/
abbrev row (t : Fin cfg0.N) (r : Fin 544) : Fin 4352 := Fin.ofNat 4352 (t.val % 8 * 544 + r)

/-- The row's number. -/
theorem row_val (t : Fin cfg0.N) (r : Fin 544) : (row t r : ℕ) = t.val % 8 * 544 + r :=
  Nat.mod_eq_of_lt (by have := r.isLt; omega)

/-- The batch's number. -/
theorem bat_val (t : Fin cfg0.N) : (bat t : ℕ) = t.val / 8 :=
  Nat.mod_eq_of_lt (by have : t.val < 128 := t.isLt; omega)

/-- The blocks of the step's windows that follow the rows. -/
theorem idx : ∀ t : Fin cfg0.N, win0_0.index t = ![t.val / 8, t.val % 8, 0] ∧ win0_1.index t = ![t.val / 8, t.val % 8, 0] ∧ win0_2.index t = ![t.val / 8, t.val % 8, 0]
    ∧ win0_3.index t = ![t.val / 8, t.val % 8, 0] ∧ win0_4.index t = ![t.val / 8, t.val % 8, 0] ∧ win0_5.index t = ![t.val / 8, t.val % 8, 0] ∧ win0_6.index t = ![t.val / 8, t.val % 8, 0]
    ∧ win0_7.index t = ![t.val / 8, t.val % 8, 0] ∧ win0_8.index t = ![t.val / 8, t.val % 8, 6] ∧ win0_9.index t = ![t.val / 8, t.val % 8, 0] ∧ win0_10.index t = ![t.val / 8, t.val % 8, 0]
    ∧ win0_11.index t = ![t.val / 8, 0, 0, 0] ∧ win0_21.index t = ![t.val / 8, t.val % 8, 0] ∧ (grid0.coords t 1 : ℕ) = t.val % 8 :=
  (by decide +kernel : ∀ t : Fin grid0.N, _)

/-- The windows that stay: their block is the whole array at every step. -/
theorem idx0 : ∀ t : Fin cfg0.N, win0_12.index t = ![0, 0] ∧ win0_13.index t = ![0, 0] ∧ win0_14.index t = ![0, 0] ∧ win0_15.index t = ![0, 0] ∧ win0_16.index t = ![0, 0]
    ∧ win0_17.index t = ![0, 0] ∧ win0_18.index t = ![0, 0] ∧ win0_19.index t = ![0, 0] ∧ win0_20.index t = ![0, 0] :=
  (by decide +kernel : ∀ t : Fin grid0.N, _)

/-- An index of an array of rows from its coordinates. -/
theorem place {n : ℕ} (e : (⟨3, ![16, 4352, n]⟩ : Shape).Idx) (t : Fin cfg0.N) (r : Fin 544) (k : Fin n) (h0 : (e 0 : ℕ) = t.val / 8) (h1 : (e 1 : ℕ) = t.val % 8 * 544 + r) (h2 : (e 2 : ℕ) = k) :
    e = ix3 (bat t) (row t r) k := by
  funext a
  match a with
  | 0 => exact Fin.ext (h0.trans (bat_val t).symm)
  | 1 => exact Fin.ext (h1.trans (row_val t r).symm)
  | 2 => exact Fin.ext h2

variable (m : (ℓ : Loc nD τ sig) → Buf (Elt Ideal) ℓ)

/-- What a step reads of the rows. -/
theorem blk_x (c : Dev nD) (t : Fin cfg0.N) (r : Fin 544) (k : Fin 1024) :
    iblk m c 0 t (ix3 0 r k) = xs (argC m c) (argX m c) (bat t) (row t r) k := by
  have hx := V_x m c
  generalize argC m c = C at hx ⊢
  generalize argX m c = X at hx ⊢
  blk_simp [iblk, hx, idx t]
  have e := place ((win0_0.blk t).view.emb (ix3 0 r k)) t r k (by blk_simp [idx t]; rfl) (by blk_simp [idx t]) (by blk_simp [idx t])
  rw [e, row_val]
  rfl

/-- What a step reads of the first mixer's forward output. -/
theorem blk_rf (c : Dev nD) (t : Fin cfg0.N) (r : Fin 544) (k : Fin 512) : iblk m c 1 t (ix3 0 r k) = argO0 m c (ix3 (bat t) (row t r) k) := by
  blk_simp [iblk, V_arg m main_arg2 (by decide) c, idx t]
  exact congr_arg (argO0 m c) (place _ t r k (by blk_simp [idx t]; rfl) (by blk_simp [idx t]) (by blk_simp [idx t]))

/-- What a step reads of the first mixer's backward output. -/
theorem blk_rb (c : Dev nD) (t : Fin cfg0.N) (r : Fin 544) (k : Fin 512) : iblk m c 2 t (ix3 0 r k) = argO1 m c (ix3 (bat t) (row t r) k) := by
  blk_simp [iblk, V_arg m main_arg3 (by decide) c, idx t]
  exact congr_arg (argO1 m c) (place _ t r k (by blk_simp [idx t]; rfl) (by blk_simp [idx t]) (by blk_simp [idx t]))

/-- What a step reads of the first mixer's third term. -/
theorem blk_y0 (c : Dev nD) (t : Fin cfg0.N) (r : Fin 544) (k : Fin 512) : iblk m c 3 t (ix3 0 r k) = argO2 m c (ix3 (bat t) (row t r) k) := by
  blk_simp [iblk, V_arg m main_arg4 (by decide) c, idx t]
  exact congr_arg (argO2 m c) (place _ t r k (by blk_simp [idx t]; rfl) (by blk_simp [idx t]) (by blk_simp [idx t]))

/-- What a step reads of the first mixer's bonus. -/
theorem blk_u (c : Dev nD) (t : Fin cfg0.N) (r : Fin 544) (k : Fin 512) : iblk m c 4 t (ix3 0 r k) = argU m c (ix3 (bat t) (row t r) k) := by
  blk_simp [iblk, V_arg m main_arg5 (by decide) c, idx t]
  exact congr_arg (argU m c) (place _ t r k (by blk_simp [idx t]; rfl) (by blk_simp [idx t]) (by blk_simp [idx t]))

/-- What a step reads of the first mixer's gate. -/
theorem blk_gate (c : Dev nD) (t : Fin cfg0.N) (r : Fin 544) (k : Fin 512) : iblk m c 5 t (ix3 0 r k) = argG m c (ix3 (bat t) (row t r) k) := by
  blk_simp [iblk, V_arg m main_arg6 (by decide) c, idx t]
  exact congr_arg (argG m c) (place _ t r k (by blk_simp [idx t]; rfl) (by blk_simp [idx t]) (by blk_simp [idx t]))

/-- What a step reads of the second mixer's forward output. -/
theorem blk_gf (c : Dev nD) (t : Fin cfg0.N) (r : Fin 544) (k : Fin 512) : iblk m c 6 t (ix3 0 r k) = argP0 m c (ix3 (bat t) (row t r) k) := by
  blk_simp [iblk, V_arg m main_arg7 (by decide) c, idx t]
  exact congr_arg (argP0 m c) (place _ t r k (by blk_simp [idx t]; rfl) (by blk_simp [idx t]) (by blk_simp [idx t]))

/-- What a step reads of the second mixer's backward output. -/
theorem blk_gb (c : Dev nD) (t : Fin cfg0.N) (r : Fin 544) (k : Fin 512) : iblk m c 7 t (ix3 0 r k) = argP1 m c (ix3 (bat t) (row t r) k) := by
  blk_simp [iblk, V_arg m main_arg8 (by decide) c, idx t]
  exact congr_arg (argP1 m c) (place _ t r k (by blk_simp [idx t]; rfl) (by blk_simp [idx t]) (by blk_simp [idx t]))

/-- What a step reads of the attention's output. -/
theorem blk_yc (c : Dev nD) (t : Fin cfg0.N) (r : Fin 544) (k : Fin 512) : iblk m c 9 t (ix3 0 r k) = argYc m c (ix3 (bat t) (row t r) k) := by
  blk_simp [iblk, V_arg m main_arg10 (by decide) c, idx t]
  exact congr_arg (argYc m c) (place _ t r k (by blk_simp [idx t]; rfl) (by blk_simp [idx t]) (by blk_simp [idx t]))

/-- What a step reads of the gates. -/
theorem blk_g (c : Dev nD) (t : Fin cfg0.N) (r : Fin 544) (k : Fin 3072) : iblk m c 10 t (ix3 0 r k) = argGt m c (ix3 (bat t) (row t r) k) := by
  blk_simp [iblk, V_arg m main_arg11 (by decide) c, idx t]
  exact congr_arg (argGt m c) (place _ t r k (by blk_simp [idx t]; rfl) (by blk_simp [idx t]) (by blk_simp [idx t]))

/-- What a step reads of the projection: columns 3072 to 3583 of the same rows. -/
theorem blk_z (c : Dev nD) (t : Fin cfg0.N) (r : Fin 544) (k : Fin 512) : zblk m c t (ix3 0 r k) = argPr m c (ix3 (bat t) (row t r) (Fin.ofNat 4352 (3072 + k))) := by
  have hk := k.isLt
  have hv := V_arg m main_arg9 (by decide) c
  have e : ∀ a : Fin 3, ((win0_8.rect t).emb (fun a => ⟨(ix3 (n0 := 1) (n1 := 544) (n2 := 512) 0 r k a).val, whole8 t (ix3 0 r k) a⟩) a : ℕ) = win0_8.index t a * win0_8.size a + (ix3 (n0 := 1) (n1 := 544) (n2 := 512) 0 r k a : ℕ) :=
    fun a => Pipeline.Window.rect_emb_val win0_8 t _ a
  have i8 : win0_8.index t = ![t.val / 8, t.val % 8, 6] := (idx t).2.2.2.2.2.2.2.2.1
  rw [i8] at e
  unfold zblk iblk
  exact (congr_fun hv _).trans (congr_arg (argPr m c) (place _ t r _ ((e 0).trans (Nat.mul_one _)) (e 1) ((e 2).trans (Nat.mod_eq_of_lt (by show 3072 + (k : ℕ) < 4352; omega)).symm)))

/-- What a step reads of the modulation table. -/
theorem blk_m (c : Dev nD) (t : Fin cfg0.N) (s : ℕ) (q : Fin 6) (k : Fin 1024) :
    iblk m c 11 t (ix4 0 (side s) q k) = md (argMC m c) (argMX m c) q (bat t) s k := by
  have ht : t.val < 128 := t.isLt
  blk_simp [iblk, V_mod m c, idx t]
  unfold md side
  by_cases h : s < 256
  · rw [if_pos h, if_pos h, if_pos (by decide)]
  · rw [if_neg h, if_neg h, if_neg (by decide)]
    have e0 : (win0_11.blk t).view.emb (ix4 0 1 q k) 0 = Fin.ofNat 16 (t.val / 8) := Fin.ext (by blk_simp [idx t]; simp only [Fin.val_ofNat]; omega)
    exact congr_arg (fun b : Fin 16 => argMX m c (ix2 b (Fin.ofNat 6144 (q * 1024 + k)))) e0

/-- What a step reads of the group norm's weight. -/
theorem blk_lw (c : Dev nD) (t : Fin cfg0.N) (k : Fin 512) : iblk m c 12 t (ix2 0 k) = argLw m c (ix1 k) := by
  blk_simp [iblk, V_lw m c, idx0 t]
  exact congr_arg (fun j : Fin 512 => argLw m c (ix1 j)) (Fin.ext (by blk_simp [idx0 t]))

/-- What a step reads of the group norm's bias. -/
theorem blk_lb (c : Dev nD) (t : Fin cfg0.N) (k : Fin 512) : iblk m c 13 t (ix2 0 k) = argLb m c (ix1 k) := by
  blk_simp [iblk, V_lb m c, idx0 t]
  exact congr_arg (fun j : Fin 512 => argLb m c (ix1 j)) (Fin.ext (by blk_simp [idx0 t]))

/-- What a step reads of the second mixer's norm weight. -/
theorem blk_gw (c : Dev nD) (t : Fin cfg0.N) (k : Fin 512) : iblk m c 15 t (ix2 0 k) = argGw m c (ix1 (Fin.ofNat 128 k)) := by
  blk_simp [iblk, V_gw m c, idx0 t]

/-- What a step reads of the matrix for segments of 64. -/
theorem blk_b64 (c : Dev nD) (t : Fin cfg0.N) (k : Fin 512) (j : Fin 512) : iblk m c 14 t (ix2 k j) = ones 64#32 (ix2 k j) := by
  blk_simp [iblk, V_b64 m c, idx0 t]
  blk_ext [idx0 t]

/-- What a step reads of the matrix for segments of 128. -/
theorem blk_b128 (c : Dev nD) (t : Fin cfg0.N) (k : Fin 512) (j : Fin 512) : iblk m c 16 t (ix2 k j) = ones 128#32 (ix2 k j) := by
  blk_simp [iblk, V_b128 m c, idx0 t]
  blk_ext [idx0 t]

/-- What a step reads of the first mixer's up weight. -/
theorem blk_wa (c : Dev nD) (t : Fin cfg0.N) (k : Fin 512) (j : Fin 1024) : iblk m c 17 t (ix2 k j) = argWa m c (ix2 k j) := by
  blk_simp [iblk, V_wa m c, idx0 t]
  blk_ext [idx0 t]

/-- What a step reads of the second mixer's up weight. -/
theorem blk_wb (c : Dev nD) (t : Fin cfg0.N) (k : Fin 512) (j : Fin 1024) : iblk m c 18 t (ix2 k j) = argWb m c (ix2 k j) := by
  blk_simp [iblk, V_wb m c, idx0 t]
  blk_ext [idx0 t]

/-- What a step reads of the attention's up weight. -/
theorem blk_wc (c : Dev nD) (t : Fin cfg0.N) (k : Fin 512) (j : Fin 1024) : iblk m c 19 t (ix2 k j) = argWc m c (ix2 k j) := by
  blk_simp [iblk, V_wc m c, idx0 t]
  blk_ext [idx0 t]

/-- What a step reads of the output weight. -/
theorem blk_wo (c : Dev nD) (t : Fin cfg0.N) (k : Fin 1024) (j : Fin 1024) : iblk m c 20 t (ix2 k j) = argWo m c (ix2 k j) := by
  blk_simp [iblk, V_wo m c, idx0 t]
  blk_ext [idx0 t]

end Cert.Kernel5Ideal.Mrg
-- ==== Proof.Array5.lean ====
module

public import proofs.«01_k».proof.Proof.Blk5

@[expose] public section
set_option maxRecDepth 16384
noncomputable section
namespace Cert.Kernel5Ideal.Mrg
open Idealize.ShloMosaic Idealize.ShloMosaic.TcCoe Idealize.ShloMosaic.Tactic
open Cert.Kernel5Ideal Cert.Kernel5Ideal.Gen Cert.Kernel5Ideal.Frm Cert.Plain

variable (m : (ℓ : Loc nD τ sig) → Buf (Elt Ideal) ℓ)

/-- The result array, of the arguments. -/
def result (c : Dev nD) : FVec Ideal S16x4352x1024 .f32 := fun y =>
  merge (argC m c) (argX m c) (argO0 m c) (argO1 m c) (argO2 m c) (argU m c) (argG m c) (argP0 m c) (argP1 m c) (argPr m c) (argYc m c) (argGt m c) (argMC m c) (argMX m c) (argLw m c) (argLb m c) (argGw m c) (argWa m c) (argWb m c) (argWc m c) (argWo m c) (y 0) (y 1) (y 2)

section
variable (c : Dev nD) (hA : ∀ x, ∃ r : ℝ, (argO0 m c x + argO1 m c x + argO2 m c x : EReal) = r) (hB : ∀ x, ∃ r : ℝ, (argP0 m c x + argP1 m c x : EReal) = r)
include hA hB

/-- What a step writes is the array's. -/
theorem out_eq (t : Fin cfg0.N) (r : Fin 544) (d : Fin 1024) :
    out0_21 (F := Ideal) (grid0.coords t) (iblk m c 0 t) (iblk m c 1 t) (iblk m c 2 t) (iblk m c 3 t) (iblk m c 4 t) (iblk m c 5 t) (iblk m c 6 t) (iblk m c 7 t) (zblk m c t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix3 0 r d)
    = result m c (ix3 (bat t) (row t r) d) := by
  have hi : (grid0.coords t 1 : ℕ) * 544 + r = row t r := by rw [row_val, show (grid0.coords t 1 : ℕ) = t.val % 8 from (idx t).2.2.2.2.2.2.2.2.2.2.2.2.2]
  have m14 : Marks 64 (iblk m c 14 t) := fun k j => (blk_b64 m c t k j).trans (marks64 k j)
  have m16 : Marks 128 (iblk m c 16 t) := fun k j => (blk_b128 m c t k j).trans (marks128 k j)
  have eA : ∀ k, (fun x y z : EReal => x + y + z) (iblk m c 1 t (ix3 0 r k)) (iblk m c 2 t (ix3 0 r k)) (iblk m c 3 t (ix3 0 r k)) = argO0 m c (ix3 (bat t) (row t r) k) + argO1 m c (ix3 (bat t) (row t r) k) + argO2 m c (ix3 (bat t) (row t r) k) := fun k => by
    rw [blk_rf, blk_rb, blk_y0]
  have eB : ∀ k, (fun x y : EReal => x + y) (iblk m c 6 t (ix3 0 r k)) (iblk m c 7 t (ix3 0 r k)) = argP0 m c (ix3 (bat t) (row t r) k) + argP1 m c (ix3 (bat t) (row t r) k) := fun k => by
    rw [blk_gf, blk_gb]
  refine (out_at r _ _ (fun k => hA _) (fun k => hB _) _ _ _ _ _ _ _ _ _ _ _ eA eB m14 m16 _ _ _ _ _ _ _ _ _ d).trans ?_
  rw [hi, blk_x, blk_m m c t _ 2 d, funext (blk_lw m c t), funext (blk_lb m c t), funext (blk_u m c t r), funext (blk_gate m c t r), funext (blk_gw m c t), funext (blk_z m c t r), funext (blk_yc m c t r),
    funext fun j : Fin 1024 => blk_g m c t r (Fin.ofNat 3072 j), funext fun j : Fin 1024 => blk_g m c t r (Fin.ofNat 3072 (1024 + j)), funext fun j : Fin 1024 => blk_g m c t r (Fin.ofNat 3072 (2048 + j)),
    funext fun k => funext (blk_wa m c t k), funext fun k => funext (blk_wb m c t k), funext fun k => funext (blk_wc m c t k)]
  refine congr_arg₂ (fun x y : EReal => x + y) rfl (congr_arg₂ (fun x y : EReal => x * y) rfl (Finset.sum_congr rfl fun j _ => ?_))
  exact congr_arg₂ (fun x y : EReal => x * y) rfl (blk_wo m c t j d)

/-- The array that the call leaves is `result`. -/
theorem final : (dats m 0 c).arrAt 21 cfg0.N = result m c := by
  refine (dats m 0 c).arrAt_eq_of_covers 21 _ ((cfg0.win 21).covers_of_indexMap_surj rfl (by decide) fun β => ⟨fun a => match a with
    | 0 => β 0 | 1 => β 1, fun a => ?_⟩) fun t hf y => ?_
  · match a with
    | 0 => exact (BitVec.toNat_ofNat ..).trans (Nat.mod_eq_of_lt ((β 0).isLt.trans (by decide)))
    | 1 => exact (BitVec.toNat_ofNat ..).trans (Nat.mod_eq_of_lt ((β 1).isLt.trans (by decide)))
    | 2 => exact (Nat.lt_one_iff.mp (β 2).isLt).symm
  · have hp := place ((win0_21.blk t).view.emb y) t (y 1) (y 2) (by blk_simp [idx t]) (by blk_simp [idx t]) (by blk_simp [idx t])
    have hy : y = ix3 0 (y 1) (y 2) := by
      funext a
      match a with
      | 0 => exact Fin.ext (Nat.lt_one_iff.mp (y 0).isLt)
      | 1 => rfl
      | 2 => rfl
    have hb : out0_21 (F := Ideal) (grid0.coords t) (iblk m c 0 t) (iblk m c 1 t) (iblk m c 2 t) (iblk m c 3 t) (iblk m c 4 t) (iblk m c 5 t) (iblk m c 6 t) (iblk m c 7 t) (zblk m c t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) y
        = result m c ((win0_21.blk t).view.emb y) := by
      rw [hp]
      exact (congr_arg _ hy).trans (out_eq m c hA hB t (y 1) (y 2))
    blk_simp
    rw [after0_21]
    exact hb
end

end Cert.Kernel5Ideal.Mrg
-- ==== Proof.Same5.lean ====
module

public import proofs.«01_k».proof.Defs
public import proofs.«01_k».proof.Proof.Gen.Kernel5
public import proofs.«01_k».proof.Proof.Frame5

@[expose] public section
set_option maxRecDepth 16384
noncomputable section
namespace Cert.Kernel5Ideal.Frm
open Idealize.ShloMosaic Idealize.ShloMosaic.TcCoe
variable {F : FTy → Type} [FloatOps F]

set_option maxHeartbeats 4000000 in
/-- The merge kernel on words and the one on extended reals are one program: their bodies agree. -/
theorem body_eq : Cert.Kernel5.defs₀ (F := F) = Cert.Kernel5Ideal.defs₀ (F := F) := by
  refine congrArg (Defs.onTc (nD := Cert.Kernel5Ideal.nD) (τ := Cert.Kernel5Ideal.τ) (sig := Cert.Kernel5Ideal.sig) (Val := Elt F) (Λ := Cert.Kernel5Ideal.Λ₀)) ?_
  funext l a
  match l, a with
  | ⟨0, _⟩, (t, s) => rfl

set_option maxHeartbeats 4000000 in
/-- So do the bodies with their pipelines. -/
theorem defs_eq : Cert.Kernel5.defs (F := F) = Cert.Kernel5Ideal.defs (F := F) :=
  congrArg (fun d => Pipeline.defs Cert.Kernel5Ideal.pcfgs d) body_eq

set_option maxHeartbeats 4000000 in
/-- And so do the host programs. -/
theorem main_eq : Cert.Kernel5.main (F := F) = Cert.Kernel5Ideal.main (F := F) := rfl

set_option maxHeartbeats 4000000 in
/-- The merge kernel on words runs, keeps its arguments and leaves every counter at zero. -/
theorem frame_words : Cert.quiescent_Kernel5 := fun m ρ _ =>
  (congrArg (fun d => θ_run d (onTc (τ := Cert.Kernel5.τ) (Cert.Kernel5.main (F := Bits))) ⟨m, fun _ => 0, ρ⟩ _) (defs_eq (F := Bits))).mpr
    ((congrArg (fun p => θ_run (Cert.Kernel5Ideal.defs (F := Bits)) (onTc (τ := Cert.Kernel5Ideal.τ) p) ⟨m, fun _ => 0, ρ⟩ _) (main_eq (F := Bits))).mpr
      (frame (F := Bits) m ρ))

end Cert.Kernel5Ideal.Frm
-- ==== Proof.RefMerge.lean ====
module

public import proofs.«01_k».proof.Proof.Gen.Reference5Ideal.Run
public import proofs.«01_k».proof.Proof.RefMod
public import proofs.«01_k».proof.Proof.Merge

@[expose] public section
set_option maxRecDepth 16384
noncomputable section
namespace Cert.Reference5Ideal.Mrg
open Idealize.ShloMosaic Idealize.ShloMosaic.TcCoe Idealize.ShloMosaic.Tactic
open Cert.Reference5Ideal Cert.Reference5Ideal.Gen Cert.Plain
open Cert.Reference2Ideal.Ffn (joined half_c half_x mod_c mod_x rows_c rows_x)

/-- A row cut in 8 heads of 64, read at an index. -/
theorem cut8 (A : FVec Ideal S16x4352x512 .f32) (b : Fin 16) (s : Fin 4352) (h : Fin 8) (e : Fin 64) :
    (shapeCast S16x4352x8x64 A shapeCasts_S16x4352x512_S16x4352x8x64 : FVec Ideal S16x4352x8x64 .f32) (ix4 b s h e) = A (ix3 b s (Fin.ofNat 512 (h * 64 + e))) := by
  have := b.isLt
  have := s.isLt
  have := h.isLt
  have := e.isLt
  pointwise
  refine congr_arg A ?_
  congr 1
  all_goals (refine Fin.ext ?_; simp only [Fin.val_ofNat]; omega)

/-- Eight heads of 64 joined in a row, read at an index. -/
theorem join8 (X : FVec Ideal S16x4352x8x64 .f32) (b : Fin 16) (s : Fin 4352) (k : Fin 512) :
    (shapeCast S16x4352x512 X shapeCasts_S16x4352x8x64_S16x4352x512 : FVec Ideal S16x4352x512 .f32) (ix3 b s k) = X (ix4 b s (Fin.ofNat 8 (k / 64)) (Fin.ofNat 64 (k % 64))) := by
  have := b.isLt
  have := s.isLt
  have := k.isLt
  pointwise
  refine congr_arg X ?_
  congr 1
  all_goals (refine Fin.ext ?_; simp only [Fin.val_ofNat]; omega)

/-- A row cut in 4 heads of 128, read at an index. -/
theorem cut4 (A : FVec Ideal S16x4352x512 .f32) (b : Fin 16) (s : Fin 4352) (h : Fin 4) (e : Fin 128) :
    (shapeCast S16x4352x4x128 A shapeCasts_S16x4352x512_S16x4352x4x128 : FVec Ideal S16x4352x4x128 .f32) (ix4 b s h e) = A (ix3 b s (Fin.ofNat 512 (h * 128 + e))) := by
  have := b.isLt
  have := s.isLt
  have := h.isLt
  have := e.isLt
  pointwise
  refine congr_arg A ?_
  congr 1
  all_goals (refine Fin.ext ?_; simp only [Fin.val_ofNat]; omega)

/-- Four heads of 128 joined in a row, read at an index. -/
theorem join4 (X : FVec Ideal S16x4352x4x128 .f32) (b : Fin 16) (s : Fin 4352) (k : Fin 512) :
    (shapeCast S16x4352x512 X shapeCasts_S16x4352x4x128_S16x4352x512 : FVec Ideal S16x4352x512 .f32) (ix3 b s k) = X (ix4 b s (Fin.ofNat 4 (k / 128)) (Fin.ofNat 128 (k % 128))) := by
  have := b.isLt
  have := s.isLt
  have := k.isLt
  pointwise
  refine congr_arg X ?_
  congr 1
  all_goals (refine Fin.ext ?_; simp only [Fin.val_ofNat]; omega)

/-- The mean of each head of 64, as the reference writes it. -/
def mean8 (X : FVec Ideal S16x4352x8x64 .f32) : FVec Ideal S16x4352x8x1 .f32 :=
  Host.divf (broadcastInDim S16x4352x8x1 ![0, 1, 2] bcast_S16x4352x8_S16x4352x8x1_0_1_2 (Host.reduceAdd X (constant S_ .f32 0x00000000#32) reducesTo_S16x4352x8x64_S16x4352x8_d3 h_S_)) (broadcastInDim S16x4352x8x1 ![] bcast_S_S16x4352x8x1 (constant S_ .f32 0x42800000#32))

/-- The mean of each head of 128, as the reference writes it. -/
def mean4 (X : FVec Ideal S16x4352x4x128 .f32) : FVec Ideal S16x4352x4x1 .f32 :=
  Host.divf (broadcastInDim S16x4352x4x1 ![0, 1, 2] bcast_S16x4352x4_S16x4352x4x1_0_1_2 (Host.reduceAdd X (constant S_ .f32 0x00000000#32) reducesTo_S16x4352x4x128_S16x4352x4_d3 h_S_)) (broadcastInDim S16x4352x4x1 ![] bcast_S_S16x4352x4x1 (constant S_ .f32 0x43000000#32))

/-- A sum over a head of 64 with its axis kept. -/
theorem sum8 (X : FVec Ideal S16x4352x8x64 .f32) (b : Fin 16) (s : Fin 4352) (h : Fin 8) :
    (broadcastInDim S16x4352x8x1 ![0, 1, 2] bcast_S16x4352x8_S16x4352x8x1_0_1_2 (Host.reduceAdd X (constant S_ .f32 0x00000000#32) reducesTo_S16x4352x8x64_S16x4352x8_d3 h_S_) : FVec Ideal S16x4352x8x1 .f32) (ix4 b s h 0) = ∑ e : Fin 64, X (ix4 b s h e) := by
  pointwise

/-- A sum over a head of 128 with its axis kept. -/
theorem sum4 (X : FVec Ideal S16x4352x4x128 .f32) (b : Fin 16) (s : Fin 4352) (h : Fin 4) :
    (broadcastInDim S16x4352x4x1 ![0, 1, 2] bcast_S16x4352x4_S16x4352x4x1_0_1_2 (Host.reduceAdd X (constant S_ .f32 0x00000000#32) reducesTo_S16x4352x4x128_S16x4352x4_d3 h_S_) : FVec Ideal S16x4352x4x1 .f32) (ix4 b s h 0) = ∑ e : Fin 128, X (ix4 b s h e) := by
  pointwise

/-- A literal for each of 8 heads. -/
theorem lit8 (v : BitVec 32) (b : Fin 16) (s : Fin 4352) (h : Fin 8) :
    (broadcastInDim S16x4352x8x1 ![] bcast_S_S16x4352x8x1 (constant S_ .f32 v) : FVec Ideal S16x4352x8x1 .f32) (ix4 b s h 0) = Ideal.ofBits .f32 v := by
  pointwise

/-- A literal for each of 4 heads. -/
theorem lit4 (v : BitVec 32) (b : Fin 16) (s : Fin 4352) (h : Fin 4) :
    (broadcastInDim S16x4352x4x1 ![] bcast_S_S16x4352x4x1 (constant S_ .f32 v) : FVec Ideal S16x4352x4x1 .f32) (ix4 b s h 0) = Ideal.ofBits .f32 v := by
  pointwise

/-- One for every channel of 4 heads. -/
theorem one4 (b : Fin 16) (s : Fin 4352) (h : Fin 4) (e : Fin 128) :
    (broadcastInDim S16x4352x4x128 ![] bcast_S_S16x4352x4x128 (constant S_ .f32 0x3F800000#32) : FVec Ideal S16x4352x4x128 .f32) (ix4 b s h e) = Ideal.ofBits .f32 0x3F800000#32 := by
  pointwise

/-- A head's number spread over its 64 channels. -/
theorem spread8 (R : FVec Ideal S16x4352x8x1 .f32) (b : Fin 16) (s : Fin 4352) (h : Fin 8) (e : Fin 64) :
    (broadcastInDim S16x4352x8x64 ![0, 1, 2, 3] bcast_S16x4352x8x1_S16x4352x8x64_0_1_2_3 R : FVec Ideal S16x4352x8x64 .f32) (ix4 b s h e) = R (ix4 b s h 0) := by
  pointwise

/-- A head's number spread over its 128 channels. -/
theorem spread4 (R : FVec Ideal S16x4352x4x1 .f32) (b : Fin 16) (s : Fin 4352) (h : Fin 4) (e : Fin 128) :
    (broadcastInDim S16x4352x4x128 ![0, 1, 2, 3] bcast_S16x4352x4x1_S16x4352x4x128_0_1_2_3 R : FVec Ideal S16x4352x4x128 .f32) (ix4 b s h e) = R (ix4 b s h 0) := by
  pointwise

/-- A vector of 512 cut in 8 heads. -/
theorem vec8 (w : FVec Ideal S512 .f32) (h : Fin 8) (e : Fin 64) :
    (shapeCast S8x64 w shapeCasts_S512_S8x64 : FVec Ideal S8x64 .f32) (ix2 h e) = w (ix1 (Fin.ofNat 512 (h * 64 + e))) := by
  have := h.isLt
  have := e.isLt
  pointwise
  refine congr_arg w ?_
  congr 1
  all_goals (refine Fin.ext ?_; simp only [Fin.val_ofNat]; omega)

/-- A vector for 8 heads spread over the rows. -/
theorem over8 (w : FVec Ideal S8x64 .f32) (b : Fin 16) (s : Fin 4352) (h : Fin 8) (e : Fin 64) :
    (broadcastInDim S16x4352x8x64 ![0, 1, 2, 3] bcast_S1x1x8x64_S16x4352x8x64_0_1_2_3 (broadcastInDim S1x1x8x64 ![2, 3] bcast_S8x64_S1x1x8x64_2_3 w) : FVec Ideal S16x4352x8x64 .f32) (ix4 b s h e) = w (ix2 h e) := by
  pointwise

/-- A vector of 128 spread over the heads and rows. -/
theorem over4 (w : FVec Ideal S128 .f32) (b : Fin 16) (s : Fin 4352) (h : Fin 4) (e : Fin 128) :
    (broadcastInDim S16x4352x4x128 ![0, 1, 2, 3] bcast_S1x1x1x128_S16x4352x4x128_0_1_2_3 (broadcastInDim S1x1x1x128 ![3] bcast_S128_S1x1x1x128_3 w) : FVec Ideal S16x4352x4x128 .f32) (ix4 b s h e) = w (ix1 e) := by
  pointwise

/-- A product with an up weight. -/
theorem up_at (T : FVec Ideal S16x4352x512 .f32) (w : FVec Ideal S512x1024 .f32) (b : Fin 16) (s : Fin 4352) (j : Fin 1024) :
    (Host.dotGeneral dot_S16x4352x512_S512x1024_S16x4352x1024_2_0_01_1_n_n none T w : FVec Ideal S16x4352x1024 .f32) (ix3 b s j) = ∑ k : Fin 512, T (ix3 b s k) * w (ix2 k j) := by
  pointwise

/-- The product with the output weight. -/
theorem out_at (T : FVec Ideal S16x4352x1024 .f32) (w : FVec Ideal S1024x1024 .f32) (b : Fin 16) (s : Fin 4352) (d : Fin 1024) :
    (Host.dotGeneral dot_S16x4352x1024_S1024x1024_S16x4352x1024_2_0_01_1_n_n none T w : FVec Ideal S16x4352x1024 .f32) (ix3 b s d) = ∑ j : Fin 1024, T (ix3 b s j) * w (ix2 j d) := by
  pointwise

/-- A third of the gates. -/
theorem gate_at (G : FVec Ideal S16x4352x3072 .f32) (o : ℕ) (ho : o + 1024 ≤ 3072) (h) (b : Fin 16) (s : Fin 4352) (j : Fin 1024) :
    (extractStridedSlice S16x4352x1024 ![0, 0, o] G h : FVec Ideal S16x4352x1024 .f32) (ix3 b s j) = G (ix3 b s (Fin.ofNat 3072 (o + j))) := by
  have := j.isLt
  pointwise
  exact congr_arg (fun j : Fin 3072 => G (ix3 b s j)) (Fin.ext (by simp only [Fin.val_ofNat]; omega))

/-- The columns of the projection that gate the second mixer. -/
theorem cols_at (P : FVec Ideal S16x4352x4352 .f32) (b : Fin 16) (s : Fin 4352) (k : Fin 512) :
    (extractStridedSlice S16x4352x512 ![0, 0, 3072] P slices_S16x4352x4352_S16x4352x512_0_0_3072 : FVec Ideal S16x4352x512 .f32) (ix3 b s k) = P (ix3 b s (Fin.ofNat 4352 (3072 + k))) := by
  have := k.isLt
  pointwise
  exact congr_arg (fun j : Fin 4352 => P (ix3 b s j)) (Fin.ext (by simp only [Fin.val_ofNat]; omega))

/-- The mean of a head of 64, read at an index. -/
theorem mean8_at (X : FVec Ideal S16x4352x8x64 .f32) (b : Fin 16) (s : Fin 4352) (h : Fin 8) :
    mean8 X (ix4 b s h 0) = Ideal.div (∑ e : Fin 64, X (ix4 b s h e)) (Ideal.ofBits .f32 0x42800000#32) :=
  (hdiv_at _ _ _).trans (congr_arg₂ Ideal.div (sum8 X b s h) (lit8 _ b s h))

/-- The mean of a head of 128, read at an index. -/
theorem mean4_at (X : FVec Ideal S16x4352x4x128 .f32) (b : Fin 16) (s : Fin 4352) (h : Fin 4) :
    mean4 X (ix4 b s h 0) = Ideal.div (∑ e : Fin 128, X (ix4 b s h e)) (Ideal.ofBits .f32 0x43000000#32) :=
  (hdiv_at _ _ _).trans (congr_arg₂ Ideal.div (sum4 X b s h) (lit4 _ b s h))

/-- Each head less its mean, as the reference writes it. -/
def cent (X : FVec Ideal S16x4352x8x64 .f32) : FVec Ideal S16x4352x8x64 .f32 :=
  subf X (broadcastInDim S16x4352x8x64 ![0, 1, 2, 3] bcast_S16x4352x8x1_S16x4352x8x64_0_1_2_3 (mean8 X))

/-- A head less its mean, read at an index. -/
theorem cent_at (O : FVec Ideal S16x4352x512 .f32) (b : Fin 16) (s : Fin 4352) (h : Fin 8) (e : Fin 64) :
    cent (shapeCast S16x4352x8x64 O shapeCasts_S16x4352x512_S16x4352x8x64) (ix4 b s h e) = cen (fun k => O (ix3 b s k)) (Fin.ofNat 512 (h * 64 + e)) := by
  have hh := h.isLt
  have he := e.isLt
  unfold cent cen seg
  refine (sub_at _ _ _).trans (congr_arg₂ (fun x y : EReal => x - y) (cut8 O b s h e) ((spread8 _ b s h e).trans ((mean8_at _ b s h).trans ?_)))
  refine congr_arg (fun x => Ideal.div x _) (Finset.sum_congr rfl fun i _ => (cut8 O b s h i).trans ?_)
  have e1 : ((Fin.ofNat 512 (h * 64 + e : ℕ) : Fin 512) : ℕ) / 64 = h := by simp only [Fin.val_ofNat]; omega
  rw [e1]

/-- The first mixer's group norm, as the reference writes it. -/
def gnA (X W B U : FVec Ideal S16x4352x8x64 .f32) : FVec Ideal S16x4352x8x64 .f32 :=
  addf (addf (mulf (mulf (cent X) (broadcastInDim S16x4352x8x64 ![0, 1, 2, 3] bcast_S16x4352x8x1_S16x4352x8x64_0_1_2_3 (Host.rsqrt (addf (mean8 (mulf (cent X) (cent X))) (broadcastInDim S16x4352x8x1 ![] bcast_S_S16x4352x8x1 (constant S_ .f32 0x3A27C5AC#32)))))) W) B) U

/-- The first mixer's rows, as the reference writes them. -/
def yA (O U G : FVec Ideal S16x4352x512 .f32) (w b : FVec Ideal S512 .f32) : FVec Ideal S16x4352x512 .f32 :=
  mulf (shapeCast S16x4352x512 (gnA (shapeCast S16x4352x8x64 O shapeCasts_S16x4352x512_S16x4352x8x64)
    (broadcastInDim S16x4352x8x64 ![0, 1, 2, 3] bcast_S1x1x8x64_S16x4352x8x64_0_1_2_3 (broadcastInDim S1x1x8x64 ![2, 3] bcast_S8x64_S1x1x8x64_2_3 (shapeCast S8x64 w shapeCasts_S512_S8x64)))
    (broadcastInDim S16x4352x8x64 ![0, 1, 2, 3] bcast_S1x1x8x64_S16x4352x8x64_0_1_2_3 (broadcastInDim S1x1x8x64 ![2, 3] bcast_S8x64_S1x1x8x64_2_3 (shapeCast S8x64 b shapeCasts_S512_S8x64)))
    (shapeCast S16x4352x8x64 U shapeCasts_S16x4352x512_S16x4352x8x64)) shapeCasts_S16x4352x8x64_S16x4352x512) G

/-- The first mixer's rows, read at an index. -/
theorem yA_at (O U G : FVec Ideal S16x4352x512 .f32) (w v : FVec Ideal S512 .f32) (b : Fin 16) (s : Fin 4352) (k : Fin 512) :
    yA O U G w v (ix3 b s k) = gno (fun k => O (ix3 b s k)) (fun k => w (ix1 k)) (fun k => v (ix1 k)) (fun k => U (ix3 b s k)) (fun k => G (ix3 b s k)) k := by
  have hk := k.isLt
  have e2 : (((Fin.ofNat 8 ((k : ℕ) / 64) : Fin 8) : ℕ)) = k / 64 := by simp only [Fin.val_ofNat]; omega
  have e1 : (Fin.ofNat 512 (((Fin.ofNat 8 ((k : ℕ) / 64) : Fin 8) : ℕ) * 64 + ((Fin.ofNat 64 ((k : ℕ) % 64) : Fin 64) : ℕ)) : Fin 512) = k :=
    Fin.ext (by simp only [Fin.val_ofNat]; omega)
  unfold yA gno gnA seg
  refine (mul_at _ _ _).trans (congr_arg (fun x : EReal => x * _) ((join8 _ b s k).trans ?_))
  refine (add_at _ _ _).trans (congr_arg₂ (fun x y : EReal => x + y) ?_ ((cut8 U b s _ _).trans (by rw [e1])))
  refine (add_at _ _ _).trans (congr_arg₂ (fun x y : EReal => x + y) ?_ ((over8 _ b s _ _).trans ((vec8 v _ _).trans (by rw [e1]))))
  refine (mul_at _ _ _).trans (congr_arg₂ (fun x y : EReal => x * y) ?_ ((over8 _ b s _ _).trans ((vec8 w _ _).trans (by rw [e1]))))
  refine (mul_at _ _ _).trans (congr_arg₂ (fun x y : EReal => x * y) ((cent_at O b s _ _).trans (by rw [e1])) ((spread8 _ b s _ _).trans ?_))
  refine (hrsqrt_at _ _).trans (congr_arg Ideal.rsqrt ((add_at _ _ _).trans (congr_arg₂ (fun x y : EReal => x + y) ((mean8_at _ b s _).trans ?_) (lit8 _ b s _))))
  refine congr_arg (fun x => Ideal.div x _) (Finset.sum_congr rfl fun i _ => (mul_at _ _ _).trans ?_)
  have hc := cent_at O b s (Fin.ofNat 8 ((k : ℕ) / 64)) i
  rw [e2] at hc
  exact congr_arg₂ (fun x y : EReal => x * y) hc hc

/-- The second mixer's gate, as the reference writes it. -/
def sil (Z : FVec Ideal S16x4352x4x128 .f32) : FVec Ideal S16x4352x4x128 .f32 :=
  mulf Z (Host.divf (broadcastInDim S16x4352x4x128 ![] bcast_S_S16x4352x4x128 (constant S_ .f32 0x3F800000#32)) (addf (broadcastInDim S16x4352x4x128 ![] bcast_S_S16x4352x4x128 (constant S_ .f32 0x3F800000#32)) (Host.exp (Host.negf Z))))

/-- The second mixer's gate, read at an index. -/
theorem sil_at (Z : FVec Ideal S16x4352x4x128 .f32) (b : Fin 16) (s : Fin 4352) (h : Fin 4) (e : Fin 128) :
    sil Z (ix4 b s h e) = Z (ix4 b s h e) * sgm (Z (ix4 b s h e)) := by
  have h1 := one4 b s h e
  unfold sil sgm
  generalize (broadcastInDim S16x4352x4x128 ![] bcast_S_S16x4352x4x128 (constant S_ .f32 0x3F800000#32) : FVec Ideal S16x4352x4x128 .f32) = B at h1 ⊢
  rw [← h1]
  rfl

/-- The second mixer's rows, as the reference writes them. -/
def yB (O Z : FVec Ideal S16x4352x512 .f32) (w : FVec Ideal S128 .f32) : FVec Ideal S16x4352x512 .f32 :=
  shapeCast S16x4352x512 (mulf (mulf (mulf (shapeCast S16x4352x4x128 O shapeCasts_S16x4352x512_S16x4352x4x128) (broadcastInDim S16x4352x4x128 ![0, 1, 2, 3] bcast_S16x4352x4x1_S16x4352x4x128_0_1_2_3 (Host.rsqrt (addf (mean4 (mulf (shapeCast S16x4352x4x128 O shapeCasts_S16x4352x512_S16x4352x4x128) (shapeCast S16x4352x4x128 O shapeCasts_S16x4352x512_S16x4352x4x128))) (broadcastInDim S16x4352x4x1 ![] bcast_S_S16x4352x4x1 (constant S_ .f32 0x358637BD#32))))))
    (broadcastInDim S16x4352x4x128 ![0, 1, 2, 3] bcast_S1x1x1x128_S16x4352x4x128_0_1_2_3 (broadcastInDim S1x1x1x128 ![3] bcast_S128_S1x1x1x128_3 w)))
    (sil (shapeCast S16x4352x4x128 Z shapeCasts_S16x4352x512_S16x4352x4x128))) shapeCasts_S16x4352x4x128_S16x4352x512

/-- The second mixer's rows, read at an index. -/
theorem yB_at (O Z : FVec Ideal S16x4352x512 .f32) (w : FVec Ideal S128 .f32) (b : Fin 16) (s : Fin 4352) (k : Fin 512) :
    yB O Z w (ix3 b s k) = gms (fun k => O (ix3 b s k)) (fun k => w (ix1 (Fin.ofNat 128 k))) (fun k => Z (ix3 b s k)) k := by
  have hk := k.isLt
  have e2 : (((Fin.ofNat 4 ((k : ℕ) / 128) : Fin 4) : ℕ)) = k / 128 := by simp only [Fin.val_ofNat]; omega
  have e1 : (Fin.ofNat 512 (((Fin.ofNat 4 ((k : ℕ) / 128) : Fin 4) : ℕ) * 128 + ((Fin.ofNat 128 ((k : ℕ) % 128) : Fin 128) : ℕ)) : Fin 512) = k :=
    Fin.ext (by simp only [Fin.val_ofNat]; omega)
  have e3 : (Fin.ofNat 128 ((k : ℕ) % 128) : Fin 128) = Fin.ofNat 128 (k : ℕ) := Fin.ext (by simp only [Fin.val_ofNat]; omega)
  unfold yB gms seg
  refine (join4 _ b s k).trans ?_
  have hz := (cut4 Z b s (Fin.ofNat 4 ((k : ℕ) / 128)) (Fin.ofNat 128 ((k : ℕ) % 128))).trans (congr_arg (fun j => Z (ix3 b s j)) e1)
  refine (mul_at _ _ _).trans (congr_arg₂ (fun x y : EReal => x * y) ?_ ((sil_at _ b s _ _).trans (congr_arg (fun x : EReal => x * sgm x) hz)))
  refine (mul_at _ _ _).trans (congr_arg₂ (fun x y : EReal => x * y) ?_ ((over4 _ b s _ _).trans (by rw [e3])))
  refine (mul_at _ _ _).trans (congr_arg₂ (fun x y : EReal => x * y) ((cut4 O b s _ _).trans (by rw [e1])) ((spread4 _ b s _ _).trans ?_))
  refine (hrsqrt_at _ _).trans (congr_arg Ideal.rsqrt ((add_at _ _ _).trans (congr_arg₂ (fun x y : EReal => x + y) ((mean4_at _ b s _).trans ?_) (lit4 _ b s _))))
  refine congr_arg (fun x => Ideal.div x _) (Finset.sum_congr rfl fun i _ => (mul_at _ _ _).trans ?_)
  have hc := cut4 O b s (Fin.ofNat 4 ((k : ℕ) / 128)) i
  rw [e2] at hc
  exact congr_arg₂ (fun x y : EReal => x * y) hc hc

/-- The merged rows, as the reference writes them. -/
def mixed (ya yb yc : FVec Ideal S16x4352x512 .f32) (G : FVec Ideal S16x4352x3072 .f32) (wa wb wc : FVec Ideal S512x1024 .f32) : FVec Ideal S16x4352x1024 .f32 :=
  addf (addf (mulf (extractStridedSlice S16x4352x1024 ![0, 0, 0] G slices_S16x4352x3072_S16x4352x1024_0_0_0) (Host.dotGeneral dot_S16x4352x512_S512x1024_S16x4352x1024_2_0_01_1_n_n none ya wa)) (mulf (extractStridedSlice S16x4352x1024 ![0, 0, 1024] G slices_S16x4352x3072_S16x4352x1024_0_0_1024) (Host.dotGeneral dot_S16x4352x512_S512x1024_S16x4352x1024_2_0_01_1_n_n none yb wb))) (mulf (extractStridedSlice S16x4352x1024 ![0, 0, 2048] G slices_S16x4352x3072_S16x4352x1024_0_0_2048) (Host.dotGeneral dot_S16x4352x512_S512x1024_S16x4352x1024_2_0_01_1_n_n none yc wc))

/-- The merged rows, read at an index. -/
theorem mixed_at (ya yb yc : FVec Ideal S16x4352x512 .f32) (G : FVec Ideal S16x4352x3072 .f32) (wa wb wc : FVec Ideal S512x1024 .f32) (b : Fin 16) (s : Fin 4352) (j : Fin 1024) :
    mixed ya yb yc G wa wb wc (ix3 b s j) = mix (fun k => ya (ix3 b s k)) (fun k => yb (ix3 b s k)) (fun k => yc (ix3 b s k)) (fun j => G (ix3 b s (Fin.ofNat 3072 j))) (fun j => G (ix3 b s (Fin.ofNat 3072 (1024 + j))))
      (fun j => G (ix3 b s (Fin.ofNat 3072 (2048 + j)))) (fun k j => wa (ix2 k j)) (fun k j => wb (ix2 k j)) (fun k j => wc (ix2 k j)) j := by
  unfold mixed mix
  have g0 := gate_at G 0 (by decide) slices_S16x4352x3072_S16x4352x1024_0_0_0 b s j
  rw [Nat.zero_add] at g0
  exact (add_at _ _ _).trans (congr_arg₂ (fun x y : EReal => x + y)
    ((add_at _ _ _).trans (congr_arg₂ (fun x y : EReal => x + y)
      ((mul_at _ _ _).trans (congr_arg₂ (fun x y : EReal => x * y) g0 (up_at ya wa b s j)))
      ((mul_at _ _ _).trans (congr_arg₂ (fun x y : EReal => x * y) (gate_at G 1024 (by decide) _ b s j) (up_at yb wb b s j)))))
    ((mul_at _ _ _).trans (congr_arg₂ (fun x y : EReal => x * y) (gate_at G 2048 (by decide) _ b s j) (up_at yc wc b s j))))

/-- The gated residual, as the reference writes it. -/
def resid (cs : FVec Ideal S16x256x1024 .f32) (x : FVec Ideal S16x4096x1024 .f32) (N : FVec Ideal S16x4352x1024 .f32) (mc : FVec Ideal S1x6144 .f32) (mx : FVec Ideal S16x6144 .f32) : FVec Ideal S16x4352x1024 .f32 :=
  concatenate S16x4352x1024 1 [⟨S16x256x1024, (addf cs (mulf (broadcastInDim S16x256x1024 ![0, 1, 2] bcast_S1x1x1024_S16x256x1024_0_1_2 (extractStridedSlice S1x1x1024 ![0, 0, 2048] (broadcastInDim S1x1x6144 ![0, 2] bcast_S1x6144_S1x1x6144_0_2 mc) slices_S1x1x6144_S1x1x1024_0_0_2048)) (extractStridedSlice S16x256x1024 ![0, 0, 0] N slices_S16x4352x1024_S16x256x1024_0_0_0)))⟩, ⟨S16x4096x1024, (addf x (mulf (broadcastInDim S16x4096x1024 ![0, 1, 2] bcast_S16x1x1024_S16x4096x1024_0_1_2 (extractStridedSlice S16x1x1024 ![0, 0, 2048] (broadcastInDim S16x1x6144 ![0, 2] bcast_S16x6144_S16x1x6144_0_2 mx) slices_S16x1x6144_S16x1x1024_0_0_2048)) (extractStridedSlice S16x4096x1024 ![0, 256, 0] N slices_S16x4352x1024_S16x4096x1024_0_256_0)))⟩] concatenates_S16x256x1024_S16x4096x1024_S16x4352x1024_d1

/-- The gated residual, read at an index. -/
theorem resid_at (cs : FVec Ideal S16x256x1024 .f32) (x : FVec Ideal S16x4096x1024 .f32) (N : FVec Ideal S16x4352x1024 .f32) (mc : FVec Ideal S1x6144 .f32) (mx : FVec Ideal S16x6144 .f32)
    (b : Fin 16) (s : Fin 4352) (d : Fin 1024) :
    resid cs x N mc mx (ix3 b s d) = xs cs x b s d + md mc mx 2 b s d * N (ix3 b s d) := by
  have hs := s.isLt
  unfold resid
  refine (joined _ _ b s d).trans ?_
  unfold md xs
  by_cases h : (s : ℕ) < 256
  · rw [if_pos h, if_pos h, if_pos h]
    have es : Fin.ofNat 4352 (Fin.ofNat 256 (s : ℕ)).val = s := Fin.ext (by simp only [Fin.val_ofNat]; omega)
    have hN := half_c N b (Fin.ofNat 256 s) d
    rw [es] at hN
    exact (add_at _ _ _).trans (congr_arg₂ (fun x y : EReal => x + y) rfl ((mul_at _ _ _).trans (congr_arg₂ (fun x y : EReal => x * y)
      ((rows_c _ b _ d).trans (mod_c mc 2048 (by omega) _ d)) hN)))
  · rw [if_neg h, if_neg h, if_neg h]
    have es : Fin.ofNat 4352 (256 + (Fin.ofNat 4096 ((s : ℕ) - 256)).val) = s := Fin.ext (by simp only [Fin.val_ofNat]; omega)
    have hN := half_x N b (Fin.ofNat 4096 ((s : ℕ) - 256)) d
    rw [es] at hN
    exact (add_at _ _ _).trans (congr_arg₂ (fun x y : EReal => x + y) rfl ((mul_at _ _ _).trans (congr_arg₂ (fun x y : EReal => x * y)
      ((rows_x _ b _ d).trans (mod_x mx 2048 (by omega) _ b d)) hN)))

variable (m : (ℓ : Loc nD τ sig) → Buf (Elt Ideal) ℓ)

/-- The arguments, at their literal types: the context rows. -/
abbrev argC (c : Dev nD) : FVec Ideal S16x256x1024 .f32 := m ((c.tc : Thread nD τ).loc main_arg0)
/-- The latent rows. -/
abbrev argX (c : Dev nD) : FVec Ideal S16x4096x1024 .f32 := m ((c.tc : Thread nD τ).loc main_arg1)
/-- The first mixer's forward output. -/
abbrev argO0 (c : Dev nD) : FVec Ideal S16x4352x512 .f32 := m ((c.tc : Thread nD τ).loc main_arg2)
/-- The first mixer's backward output. -/
abbrev argO1 (c : Dev nD) : FVec Ideal S16x4352x512 .f32 := m ((c.tc : Thread nD τ).loc main_arg3)
/-- The first mixer's row by row output. -/
abbrev argO2 (c : Dev nD) : FVec Ideal S16x4352x512 .f32 := m ((c.tc : Thread nD τ).loc main_arg4)
/-- The first mixer's bonus. -/
abbrev argU (c : Dev nD) : FVec Ideal S16x4352x512 .f32 := m ((c.tc : Thread nD τ).loc main_arg5)
/-- The first mixer's gate. -/
abbrev argG (c : Dev nD) : FVec Ideal S16x4352x512 .f32 := m ((c.tc : Thread nD τ).loc main_arg6)
/-- The second mixer's forward output. -/
abbrev argP0 (c : Dev nD) : FVec Ideal S16x4352x512 .f32 := m ((c.tc : Thread nD τ).loc main_arg7)
/-- The second mixer's backward output. -/
abbrev argP1 (c : Dev nD) : FVec Ideal S16x4352x512 .f32 := m ((c.tc : Thread nD τ).loc main_arg8)
/-- The projection. -/
abbrev argPr (c : Dev nD) : FVec Ideal S16x4352x4352 .f32 := m ((c.tc : Thread nD τ).loc main_arg9)
/-- The attention's output. -/
abbrev argYc (c : Dev nD) : FVec Ideal S16x4352x512 .bf16 := m ((c.tc : Thread nD τ).loc main_arg10)
/-- The gates. -/
abbrev argGt (c : Dev nD) : FVec Ideal S16x4352x3072 .bf16 := m ((c.tc : Thread nD τ).loc main_arg11)
/-- The context modulation. -/
abbrev argMC (c : Dev nD) : FVec Ideal S1x6144 .f32 := m ((c.tc : Thread nD τ).loc main_arg12)
/-- The latent modulation. -/
abbrev argMX (c : Dev nD) : FVec Ideal S16x6144 .f32 := m ((c.tc : Thread nD τ).loc main_arg13)
/-- The group norm's weight. -/
abbrev argLw (c : Dev nD) : FVec Ideal S512 .f32 := m ((c.tc : Thread nD τ).loc main_arg14)
/-- The group norm's bias. -/
abbrev argLb (c : Dev nD) : FVec Ideal S512 .f32 := m ((c.tc : Thread nD τ).loc main_arg15)
/-- The second mixer's norm weight. -/
abbrev argGw (c : Dev nD) : FVec Ideal S128 .f32 := m ((c.tc : Thread nD τ).loc main_arg16)
/-- The first mixer's up weight. -/
abbrev argWa (c : Dev nD) : FVec Ideal S512x1024 .f32 := m ((c.tc : Thread nD τ).loc main_arg17)
/-- The second mixer's up weight. -/
abbrev argWb (c : Dev nD) : FVec Ideal S512x1024 .f32 := m ((c.tc : Thread nD τ).loc main_arg18)
/-- The attention's up weight. -/
abbrev argWc (c : Dev nD) : FVec Ideal S512x1024 .f32 := m ((c.tc : Thread nD τ).loc main_arg19)
/-- The output weight. -/
abbrev argWo (c : Dev nD) : FVec Ideal S1024x1024 .f32 := m ((c.tc : Thread nD τ).loc main_arg20)

/-- The merged rows of the arguments, as the reference writes them. -/
def mixedArgs (c : Dev nD) : FVec Ideal S16x4352x1024 .f32 :=
  mixed (yA (addf (addf (argO0 m c) (argO1 m c)) (argO2 m c)) (argU m c) (argG m c) (argLw m c) (argLb m c))
    (yB (addf (argP0 m c) (argP1 m c)) (extractStridedSlice S16x4352x512 ![0, 0, 3072] (argPr m c) slices_S16x4352x4352_S16x4352x512_0_0_3072) (argGw m c))
    (extf .f32 (argYc m c) bitsLt_bf16_f32) (extf .f32 (argGt m c) bitsLt_bf16_f32) (argWa m c) (argWb m c) (argWc m c)

/-- The reference's term is the composition of the parts. -/
theorem res_eq (c : Dev nD) : Value.res_main_v89 m c = resid (argC m c) (argX m c) (Host.dotGeneral dot_S16x4352x1024_S1024x1024_S16x4352x1024_2_0_01_1_n_n none (mixedArgs m c) (argWo m c)) (argMC m c) (argMX m c) := by
  unfold Value.res_main_v89 resid mixedArgs mixed yA yB gnA sil cent mean8 mean4
  rfl

/-- The merged rows of the arguments, read at an index. -/
theorem mixedArgs_at (c : Dev nD) (b : Fin 16) (s : Fin 4352) (j : Fin 1024) :
    mixedArgs m c (ix3 b s j) = rowM (argO0 m c) (argO1 m c) (argO2 m c) (argU m c) (argG m c) (argP0 m c) (argP1 m c) (argPr m c) (argYc m c) (argGt m c) (argLw m c) (argLb m c) (argGw m c) (argWa m c) (argWb m c) (argWc m c) b s j := by
  unfold mixedArgs rowM rowA rowB
  refine (mixed_at _ _ _ _ _ _ _ b s j).trans ?_
  rw [funext fun k => yA_at (addf (addf (argO0 m c) (argO1 m c)) (argO2 m c)) (argU m c) (argG m c) (argLw m c) (argLb m c) b s k,
    funext fun k => yB_at (addf (argP0 m c) (argP1 m c)) (extractStridedSlice S16x4352x512 ![0, 0, 3072] (argPr m c) slices_S16x4352x4352_S16x4352x512_0_0_3072) (argGw m c) b s k,
    funext fun k => cols_at (argPr m c) b s k]
  rfl

/-- The reference's result, read at an index. -/
theorem read (c : Dev nD) (b : Fin 16) (s : Fin 4352) (d : Fin 1024) :
    Value.res_main_v89 m c (ix3 b s d) = merge (argC m c) (argX m c) (argO0 m c) (argO1 m c) (argO2 m c) (argU m c) (argG m c) (argP0 m c) (argP1 m c) (argPr m c) (argYc m c) (argGt m c) (argMC m c) (argMX m c) (argLw m c) (argLb m c) (argGw m c) (argWa m c) (argWb m c) (argWc m c) (argWo m c) b s d := by
  rw [res_eq, resid_at]
  unfold merge
  refine congr_arg (fun z : EReal => _ + _ * z) ((out_at _ _ b s d).trans (Finset.sum_congr rfl fun j _ => ?_))
  rw [mixedArgs_at]

end Cert.Reference5Ideal.Mrg
-- ==== Proof.Bound.lean ====
module

public import proofs.«01_k».proof.Pre_bounded
public import proofs.«01_k».proof.Proof.Finite

@[expose] public section
set_option maxRecDepth 16384
noncomputable section
namespace Cert.MergeMath
open Idealize.ShloMosaic Idealize.ShloMosaic.TcCoe

/-- The side conditions of the precondition's operations. -/
theorem bounded_facts : Cert.Pre_bounded.Facts where
  bcast_S_S16x4352x512 := by decide
  reducesTo_S16x4352x512_S_d0_1_2 := by decide
  h_S_ := by decide

/-- There is one empty index. -/
instance : Subsingleton Cert.Pre_bounded.S_.Idx := ⟨fun a b => funext fun i => i.elim0⟩

/-- The precondition says that the sums of the first mixer's terms and of the second mixer's are real. -/
theorem real_of_bounded [Cert.Pre_bounded.Facts] (a0 : FVec Ideal Cert.Pre_bounded.S16x256x1024 .f32) (a1 : FVec Ideal Cert.Pre_bounded.S16x4096x1024 .f32) (a2 a3 a4 a5 a6 a7 a8 : FVec Ideal Cert.Pre_bounded.S16x4352x512 .f32)
    (a9 : FVec Ideal Cert.Pre_bounded.S16x4352x4352 .f32) (a10 : FVec Ideal Cert.Pre_bounded.S16x4352x512 .bf16) (a11 : FVec Ideal Cert.Pre_bounded.S16x4352x3072 .bf16) (a12 : FVec Ideal Cert.Pre_bounded.S1x6144 .f32)
    (a13 : FVec Ideal Cert.Pre_bounded.S16x6144 .f32) (a14 a15 : FVec Ideal Cert.Pre_bounded.S512 .f32) (a16 : FVec Ideal Cert.Pre_bounded.S128 .f32) (a17 a18 a19 : FVec Ideal Cert.Pre_bounded.S512x1024 .f32)
    (a20 : FVec Ideal Cert.Pre_bounded.S1024x1024 .f32) (i : Cert.Pre_bounded.S_.Idx)
    (h : Cert.Pre_bounded.fn (F := Ideal) a0 a1 a2 a3 a4 a5 a6 a7 a8 a9 a10 a11 a12 a13 a14 a15 a16 a17 a18 a19 a20 i = 1#1) :
    (∀ x, ∃ r : ℝ, (a2 x + a3 x + a4 x : EReal) = r) ∧ ∀ x, ∃ r : ℝ, (a7 x + a8 x : EReal) = r := by
  dsimp only [Cert.Pre_bounded.fn] at h
  obtain ⟨hq, hk⟩ := IntOp.andi_eq_one.1 h
  exact ⟨fun x => Cert.AttnMath.real_of_abs_lt _ (Host.reduce_andi_all _ _ _ _ _ hq x), fun x => Cert.AttnMath.real_of_abs_lt _ (Host.reduce_andi_all _ _ _ _ _ hk x)⟩

end Cert.MergeMath
-- ==== Proof.lean ====
/- The certificate: frames of every program, and each kernel's values against its reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Reference5Ideal
public import proofs.«01_k».proof.Proof.Gen.Reference5Ideal.Run
public import proofs.«01_k».proof.Proof.Finite
public import Idealize.ShloMosaic.Lib.Claim
public import Idealize.ShloMosaic.Adequacy
public import Idealize.ShloMosaic.Init
public import proofs.«01_k».proof.Proof.Array2
public import proofs.«01_k».proof.Proof.Array3
public import proofs.«01_k».proof.Proof.RefFfn
public import proofs.«01_k».proof.Proof.RefPre
public import proofs.«01_k».proof.Proof.Last
public import proofs.«01_k».proof.Proof.Array5
public import proofs.«01_k».proof.Proof.Same5
public import proofs.«01_k».proof.Proof.RefMerge
public import proofs.«01_k».proof.Proof.Bound

@[expose] public section

noncomputable section

namespace Cert.Proof

open Idealize.ShloMosaic Idealize.ShloMosaic.Tactic Idealize.SL.Sem

/-- The reference runs, keeps its arguments and has no counter. -/
theorem frame_reference : Cert.quiescent_ReferenceIdeal :=
  fun m g _ => (θ_run Cert.ReferenceIdeal.defs _ _).mono (fun r h => ⟨fun c => (h c).2, sem_eq_zero_of_no_sems (by decide) r.2⟩)
    (Cert.ReferenceIdeal.Value.run (F := Ideal) m g)

/-- Kernel and reference end with the same array. -/
theorem algebraic : Cert.algebraic_KernelIdeal_ReferenceIdeal_pre_finite (hPre_finite := Cert.AttnMath.finite_facts) := by
  letI := Cert.AttnMath.finite_facts
  intro m g m' g' hpre hagree
  refine ⟨fun c => Cert.KernelIdeal.Attn.result (Cert.KernelIdeal.Attn.argQ m c) (Cert.KernelIdeal.Attn.argK m c) (Cert.KernelIdeal.Attn.argV m c), ?_, ?_⟩
  · exact (θ_run Cert.KernelIdeal.defs _ _).mono (fun r h c => ⟨(h c).1.trans (Cert.KernelIdeal.Attn.final m c), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    obtain ⟨hq, hk⟩ := Cert.AttnMath.real_of_finite _ _ _ (fun a => a.elim0) (congrFun (hpre c) _)
    have e0 : Cert.ReferenceIdeal.Attn.argQ m' c = Cert.KernelIdeal.Attn.argQ m c := (hagree c).1
    have e1 : Cert.ReferenceIdeal.Attn.argK m' c = Cert.KernelIdeal.Attn.argK m c := (hagree c).2.1
    have e2 : Cert.ReferenceIdeal.Attn.argV m' c = Cert.KernelIdeal.Attn.argV m c := (hagree c).2.2
    refine (Cert.AttnMath.result_eq m' c (by rw [e0]; exact hq) (by rw [e1]; exact hk)).trans ?_
    rw [e0, e1, e2]

/-- The feed-forward reference runs, keeps its arguments and has no counter. -/
theorem frame_reference2 : Cert.quiescent_Reference2Ideal :=
  fun m g _ => (θ_run Cert.Reference2Ideal.defs _ _).mono (fun r h => ⟨fun c => (h c).2, sem_eq_zero_of_no_sems (by decide) r.2⟩)
    (Cert.Reference2Ideal.Value.run (F := Ideal) m g)

/-- The input reference runs, keeps its arguments and has no counter. -/
theorem frame_reference3 : Cert.quiescent_Reference3Ideal :=
  fun m g _ => (θ_run Cert.Reference3Ideal.defs _ _).mono (fun r h => ⟨fun c => (h c).2.2.2, sem_eq_zero_of_no_sems (by decide) r.2⟩)
    (Cert.Reference3Ideal.Value.run (F := Ideal) m g)

/-- The last norm's reference runs, keeps its arguments and has no counter. -/
theorem frame_reference4 : Cert.quiescent_Reference4Ideal :=
  fun m g _ => (θ_run Cert.Reference4Ideal.defs _ _).mono (fun r h => ⟨fun c => (h c).2, sem_eq_zero_of_no_sems (by decide) r.2⟩)
    (Cert.Reference4Ideal.Value.run (F := Ideal) m g)

/-- The merge's reference runs, keeps its arguments and has no counter. -/
theorem frame_reference5 : Cert.quiescent_Reference5Ideal :=
  fun m g _ => (θ_run Cert.Reference5Ideal.defs _ _).mono (fun r h => ⟨fun c => (h c).2, sem_eq_zero_of_no_sems (by decide) r.2⟩)
    (Cert.Reference5Ideal.Value.run (F := Ideal) m g)

/-- The feed-forward kernel and its reference end with the same array. -/
theorem algebraic2 : Cert.algebraic_Kernel2Ideal_Reference2Ideal := by
  intro m g m' g' _ hagree
  refine ⟨fun c => Cert.Kernel2Ideal.Ffn.result (Cert.Kernel2Ideal.Ffn.argC m c) (Cert.Kernel2Ideal.Ffn.argX m c) (Cert.Kernel2Ideal.Ffn.argG m c) (Cert.Kernel2Ideal.Ffn.argMC m c) (Cert.Kernel2Ideal.Ffn.argMX m c) (Cert.Kernel2Ideal.Ffn.argW1 m c) (Cert.Kernel2Ideal.Ffn.argW3 m c) (Cert.Kernel2Ideal.Ffn.argW2 m c), ?_, ?_⟩
  · exact (θ_run Cert.Kernel2Ideal.defs _ _).mono (fun r h c => ⟨(h c).1.trans (Cert.Kernel2Ideal.Ffn.final m c), (h c).2⟩)
      (Cert.Kernel2Ideal.Value.run_blocks (F := Ideal) m g)
  · refine (θ_run Cert.Reference2Ideal.defs _ _).mono (fun r h c => ⟨(h c).1.trans ?_, (h c).2⟩)
      (Cert.Reference2Ideal.Value.run (F := Ideal) m' g')
    have e0 : Cert.Reference2Ideal.Ffn.argC m' c = Cert.Kernel2Ideal.Ffn.argC m c := (hagree c).1
    have e1 : Cert.Reference2Ideal.Ffn.argX m' c = Cert.Kernel2Ideal.Ffn.argX m c := (hagree c).2.1
    have e2 : Cert.Reference2Ideal.Ffn.argG m' c = Cert.Kernel2Ideal.Ffn.argG m c := (hagree c).2.2.1
    have e3 : Cert.Reference2Ideal.Ffn.argMC m' c = Cert.Kernel2Ideal.Ffn.argMC m c := (hagree c).2.2.2.1
    have e4 : Cert.Reference2Ideal.Ffn.argMX m' c = Cert.Kernel2Ideal.Ffn.argMX m c := (hagree c).2.2.2.2.1
    have e5 : Cert.Reference2Ideal.Ffn.argW1 m' c = Cert.Kernel2Ideal.Ffn.argW1 m c := (hagree c).2.2.2.2.2.1
    have e6 : Cert.Reference2Ideal.Ffn.argW3 m' c = Cert.Kernel2Ideal.Ffn.argW3 m c := (hagree c).2.2.2.2.2.2.1
    have e7 : Cert.Reference2Ideal.Ffn.argW2 m' c = Cert.Kernel2Ideal.Ffn.argW2 m c := (hagree c).2.2.2.2.2.2.2
    funext y
    have hy : y = ix3 (y 0) (y 1) (y 2) := by funext a; fin_cases a <;> rfl
    refine (congr_arg (Cert.Reference2Ideal.Value.res_main_v56 m' c) hy).trans ((Cert.Reference2Ideal.Ffn.read m' c (y 0) (y 1) (y 2)).trans ?_)
    rw [e0, e1, e2, e3, e4, e5, e6, e7]
    rfl

/-- The input kernel and its reference end with the same three arrays. -/
theorem algebraic3 : Cert.algebraic_Kernel3Ideal_Reference3Ideal := by
  intro m g m' g' _ hagree
  refine ⟨fun c => Cert.Kernel3Ideal.Pre.result6 (Cert.Kernel3Ideal.Pre.argC m c) (Cert.Kernel3Ideal.Pre.argX m c) (Cert.Kernel3Ideal.Pre.argG m c) (Cert.Kernel3Ideal.Pre.argMC m c) (Cert.Kernel3Ideal.Pre.argMX m c), fun c => Cert.Kernel3Ideal.Pre.result7 (Cert.Kernel3Ideal.Pre.argC m c) (Cert.Kernel3Ideal.Pre.argX m c) (Cert.Kernel3Ideal.Pre.argG m c) (Cert.Kernel3Ideal.Pre.argMC m c) (Cert.Kernel3Ideal.Pre.argMX m c) (Cert.Kernel3Ideal.Pre.argW m c),
    fun c => Cert.Kernel3Ideal.Pre.result8 (Cert.Kernel3Ideal.Pre.argC m c) (Cert.Kernel3Ideal.Pre.argX m c) (Cert.Kernel3Ideal.Pre.argG m c) (Cert.Kernel3Ideal.Pre.argMC m c) (Cert.Kernel3Ideal.Pre.argMX m c) (Cert.Kernel3Ideal.Pre.argU m c) (Cert.Kernel3Ideal.Pre.argV m c), ?_, ?_⟩
  · exact (θ_run Cert.Kernel3Ideal.defs _ _).mono (fun r h c => ⟨(h c).1.trans (Cert.Kernel3Ideal.Pre.final6 m c), (h c).2.1.trans (Cert.Kernel3Ideal.Pre.final7 m c), (h c).2.2.1.trans (Cert.Kernel3Ideal.Pre.final8 m c), (h c).2.2.2⟩)
      (Cert.Kernel3Ideal.Value.run_blocks (F := Ideal) m g)
  · refine (θ_run Cert.Reference3Ideal.defs _ _).mono (fun r h c => ?_) (Cert.Reference3Ideal.Value.run (F := Ideal) m' g')
    have e0 : Cert.Reference3Ideal.Pre.argC m' c = Cert.Kernel3Ideal.Pre.argC m c := (hagree c).1
    have e1 : Cert.Reference3Ideal.Pre.argX m' c = Cert.Kernel3Ideal.Pre.argX m c := (hagree c).2.1
    have e2 : Cert.Reference3Ideal.Pre.argG m' c = Cert.Kernel3Ideal.Pre.argG m c := (hagree c).2.2.1
    have e3 : Cert.Reference3Ideal.Pre.argMC m' c = Cert.Kernel3Ideal.Pre.argMC m c := (hagree c).2.2.2.1
    have e4 : Cert.Reference3Ideal.Pre.argMX m' c = Cert.Kernel3Ideal.Pre.argMX m c := (hagree c).2.2.2.2.1
    have e5 : Cert.Reference3Ideal.Pre.argW m' c = Cert.Kernel3Ideal.Pre.argW m c := (hagree c).2.2.2.2.2.1
    have e6 : Cert.Reference3Ideal.Pre.argU m' c = Cert.Kernel3Ideal.Pre.argU m c := (hagree c).2.2.2.2.2.2.1
    have e7 : Cert.Reference3Ideal.Pre.argV m' c = Cert.Kernel3Ideal.Pre.argV m c := (hagree c).2.2.2.2.2.2.2
    refine ⟨(h c).1.trans ?_, (h c).2.1.trans ?_, (h c).2.2.1.trans ?_, (h c).2.2.2⟩
    · funext y
      have hy : y = ix3 (y 0) (y 1) (y 2) := by funext a; fin_cases a <;> rfl
      refine (congr_fun (Cert.Reference3Ideal.Pre.res_h m' c) y).trans ((congr_arg (Cert.Reference3Ideal.Pre.hrows m' c) hy).trans ((Cert.Reference3Ideal.Pre.hrows_at m' c (y 0) (y 1) (y 2)).trans ?_))
      rw [e0, e1, e2, e3, e4]
      rfl
    · funext y
      have hy : y = ix3 (y 0) (y 1) (y 2) := by funext a; fin_cases a <;> rfl
      refine (congr_arg (Cert.Reference3Ideal.Value.res_main_v43 m' c) hy).trans ((Cert.Reference3Ideal.Pre.read_p m' c (y 0) (y 1) (y 2)).trans ?_)
      rw [e0, e1, e2, e3, e4, e5]
      rfl
    · funext y
      have hy : y = ix3 (y 0) (y 1) (y 2) := by funext a; fin_cases a <;> rfl
      refine (congr_arg (Cert.Reference3Ideal.Value.res_main_v54 m' c) hy).trans ((Cert.Reference3Ideal.Pre.read_g m' c (y 0) (y 1) (y 2)).trans ?_)
      rw [e0, e1, e2, e3, e4, e6, e7]
      rfl

/-- The last norm's kernel and its reference end with the same array. -/
theorem algebraic4 : Cert.algebraic_Kernel4Ideal_Reference4Ideal := by
  intro m g m' g' _ hagree
  refine ⟨fun c => Cert.Kernel4Ideal.Last.result (Cert.Kernel4Ideal.Last.argX m c) (Cert.Kernel4Ideal.Last.argG m c), ?_, ?_⟩
  · exact (θ_run Cert.Kernel4Ideal.defs _ _).mono (fun r h c => ⟨(h c).1.trans (Cert.Kernel4Ideal.Last.final m c), (h c).2⟩)
      (Cert.Kernel4Ideal.Value.run_blocks (F := Ideal) m g)
  · refine (θ_run Cert.Reference4Ideal.defs _ _).mono (fun r h c => ⟨(h c).1.trans ?_, (h c).2⟩)
      (Cert.Reference4Ideal.Value.run (F := Ideal) m' g')
    rw [(hagree c).2.1, (hagree c).2.2]
    exact Cert.Reference4Ideal.Last.read (Cert.Kernel4Ideal.Last.argX m c) (Cert.Kernel4Ideal.Last.argG m c)

/-- The merge kernel and its reference end with the same array, when the mixers' summed outputs are finite. -/
theorem algebraic5 : Cert.algebraic_Kernel5Ideal_Reference5Ideal_pre_bounded (hPre_bounded := Cert.MergeMath.bounded_facts) := by
  letI := Cert.MergeMath.bounded_facts
  intro m g m' g' hpre hagree
  have hr := fun c => Cert.MergeMath.real_of_bounded _ _ _ _ _ _ _ _ _ _ _ _ _ _ _ _ _ _ _ _ _ (fun a => a.elim0) (congrFun (hpre c) _)
  refine ⟨fun c => Cert.Kernel5Ideal.Mrg.result m c, ?_, ?_⟩
  · exact (θ_run Cert.Kernel5Ideal.defs _ _).mono (fun r h c => ⟨((h.1 c).1 21).trans (Cert.Kernel5Ideal.Mrg.final m c (hr c).1 (hr c).2), h.2 c⟩)
      (θ_run_and (Cert.Kernel5Ideal.Frm.run_main (F := Ideal) m g) (Cert.Kernel5Ideal.Frm.unchanged (F := Ideal) m g))
  · refine (θ_run Cert.Reference5Ideal.defs _ _).mono (fun r h c => ⟨(h c).1.trans ?_, (h c).2⟩)
      (Cert.Reference5Ideal.Value.run (F := Ideal) m' g')
    have e0 : Cert.Reference5Ideal.Mrg.argC m' c = Cert.Kernel5Ideal.Mrg.argC m c := (hagree c).1
    have e1 : Cert.Reference5Ideal.Mrg.argX m' c = Cert.Kernel5Ideal.Mrg.argX m c := (hagree c).2.1
    have e2 : Cert.Reference5Ideal.Mrg.argO0 m' c = Cert.Kernel5Ideal.Mrg.argO0 m c := (hagree c).2.2.1
    have e3 : Cert.Reference5Ideal.Mrg.argO1 m' c = Cert.Kernel5Ideal.Mrg.argO1 m c := (hagree c).2.2.2.1
    have e4 : Cert.Reference5Ideal.Mrg.argO2 m' c = Cert.Kernel5Ideal.Mrg.argO2 m c := (hagree c).2.2.2.2.1
    have e5 : Cert.Reference5Ideal.Mrg.argU m' c = Cert.Kernel5Ideal.Mrg.argU m c := (hagree c).2.2.2.2.2.1
    have e6 : Cert.Reference5Ideal.Mrg.argG m' c = Cert.Kernel5Ideal.Mrg.argG m c := (hagree c).2.2.2.2.2.2.1
    have e7 : Cert.Reference5Ideal.Mrg.argP0 m' c = Cert.Kernel5Ideal.Mrg.argP0 m c := (hagree c).2.2.2.2.2.2.2.1
    have e8 : Cert.Reference5Ideal.Mrg.argP1 m' c = Cert.Kernel5Ideal.Mrg.argP1 m c := (hagree c).2.2.2.2.2.2.2.2.1
    have e9 : Cert.Reference5Ideal.Mrg.argPr m' c = Cert.Kernel5Ideal.Mrg.argPr m c := (hagree c).2.2.2.2.2.2.2.2.2.1
    have e10 : Cert.Reference5Ideal.Mrg.argYc m' c = Cert.Kernel5Ideal.Mrg.argYc m c := (hagree c).2.2.2.2.2.2.2.2.2.2.1
    have e11 : Cert.Reference5Ideal.Mrg.argGt m' c = Cert.Kernel5Ideal.Mrg.argGt m c := (hagree c).2.2.2.2.2.2.2.2.2.2.2.1
    have e12 : Cert.Reference5Ideal.Mrg.argMC m' c = Cert.Kernel5Ideal.Mrg.argMC m c := (hagree c).2.2.2.2.2.2.2.2.2.2.2.2.1
    have e13 : Cert.Reference5Ideal.Mrg.argMX m' c = Cert.Kernel5Ideal.Mrg.argMX m c := (hagree c).2.2.2.2.2.2.2.2.2.2.2.2.2.1
    have e14 : Cert.Reference5Ideal.Mrg.argLw m' c = Cert.Kernel5Ideal.Mrg.argLw m c := (hagree c).2.2.2.2.2.2.2.2.2.2.2.2.2.2.1
    have e15 : Cert.Reference5Ideal.Mrg.argLb m' c = Cert.Kernel5Ideal.Mrg.argLb m c := (hagree c).2.2.2.2.2.2.2.2.2.2.2.2.2.2.2.1
    have e16 : Cert.Reference5Ideal.Mrg.argGw m' c = Cert.Kernel5Ideal.Mrg.argGw m c := (hagree c).2.2.2.2.2.2.2.2.2.2.2.2.2.2.2.2.1
    have e17 : Cert.Reference5Ideal.Mrg.argWa m' c = Cert.Kernel5Ideal.Mrg.argWa m c := (hagree c).2.2.2.2.2.2.2.2.2.2.2.2.2.2.2.2.2.1
    have e18 : Cert.Reference5Ideal.Mrg.argWb m' c = Cert.Kernel5Ideal.Mrg.argWb m c := (hagree c).2.2.2.2.2.2.2.2.2.2.2.2.2.2.2.2.2.2.1
    have e19 : Cert.Reference5Ideal.Mrg.argWc m' c = Cert.Kernel5Ideal.Mrg.argWc m c := (hagree c).2.2.2.2.2.2.2.2.2.2.2.2.2.2.2.2.2.2.2.1
    have e20 : Cert.Reference5Ideal.Mrg.argWo m' c = Cert.Kernel5Ideal.Mrg.argWo m c := (hagree c).2.2.2.2.2.2.2.2.2.2.2.2.2.2.2.2.2.2.2.2
    funext y
    have hy : y = ix3 (y 0) (y 1) (y 2) := by funext a; fin_cases a <;> rfl
    refine (congr_arg (Cert.Reference5Ideal.Value.res_main_v89 m' c) hy).trans ((Cert.Reference5Ideal.Mrg.read m' c (y 0) (y 1) (y 2)).trans ?_)
    rw [e0, e1, e2, e3, e4, e5, e6, e7, e8, e9, e10, e11, e12, e13, e14, e15, e16, e17, e18, e19, e20]
    rfl

/-- Everything that the certificate states. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts, Cert.AttnMath.finite_facts, Cert.MergeMath.bounded_facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  Cert.Kernel5Ideal.Frm.frame_words, fun m ρ _ => Cert.Kernel5Ideal.Frm.frame m ρ, fun m ρ _ => Cert.Kernel5Ideal.Frm.frame m ρ, frame_reference5, fun m ρ _ => frame_reference5 m ρ trivial,
  trivial, algebraic, trivial, algebraic2, trivial, algebraic3, trivial, algebraic4, trivial, algebraic5⟩

end Cert.Proof

end
